-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1Ideal_finite_rows [hPre_finite_rows : Cert.Pre_finite_rows.Facts] (m : (ℓ : Loc Cert.Out1Ideal.nD Cert.Out1Ideal.τ Cert.Out1Ideal.sig) → Buf (Elt Ideal) ℓ) : Prop :=
  ∀ c : Dev Cert.Out1Ideal.nD,
    (Cert.Pre_finite_rows.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9)) (m ((c.tc : Thread Cert.Out1Ideal.nD Cert.Out1Ideal.τ).loc Cert.Out1Ideal.main_arg10)) (m ((c.tc : Thread Cert.Out1Ideal.nD Cert.Out1Ideal.τ).loc Cert.Out1Ideal.main_arg11))).1 = (fun _ => 1#1)
    ∧ (Cert.Pre_finite_rows.fn (F := Ideal) (m ((c.tc : Thread Cert.Out1Ideal.nD Cert.Out1Ideal.τ).loc Cert.Out1Ideal.main_arg0)) (m ((c.tc : Thread Cert.Out1Ideal.nD Cert.Out1Ideal.τ).loc Cert.Out1Ideal.main_arg1)) (m ((c.tc : Thread Cert.Out1Ideal.nD Cert.Out1Ideal.τ).loc Cert.Out1Ideal.main_arg2)) (m ((c.tc : Thread Cert.Out1Ideal.nD Cert.Out1Ideal.τ).loc Cert.Out1Ideal.main_arg3)) (m ((c.tc : Thread Cert.Out1Ideal.nD Cert.Out1Ideal.τ).loc Cert.Out1Ideal.main_arg4)) (m ((c.tc : Thread Cert.Out1Ideal.nD Cert.Out1Ideal.τ).loc Cert.Out1Ideal.main_arg5)) (m ((c.tc : Thread Cert.Out1Ideal.nD Cert.Out1Ideal.τ).loc Cert.Out1Ideal.main_arg6)) (m ((c.tc : Thread Cert.Out1Ideal.nD Cert.Out1Ideal.τ).loc Cert.Out1Ideal.main_arg7)) (m ((c.tc : Thread Cert.Out1Ideal.nD Cert.Out1Ideal.τ).loc Cert.Out1Ideal.main_arg8)) (m ((c.tc : Thread Cert.Out1Ideal.nD Cert.Out1Ideal.τ).loc Cert.Out1Ideal.main_arg9)) (m ((c.tc : Thread Cert.Out1Ideal.nD Cert.Out1Ideal.τ).loc Cert.Out1Ideal.main_arg10)) (m ((c.tc : Thread Cert.Out1Ideal.nD Cert.Out1Ideal.τ).loc Cert.Out1Ideal.main_arg11))).2 = (fun _ => 1#1)

def Pre_Out1RefIdeal (m : (ℓ : Loc Cert.Out1RefIdeal.nD Cert.Out1RefIdeal.τ Cert.Out1RefIdeal.sig) → Buf (Elt Ideal) ℓ) : Prop :=
  True

def Pre_Out1RefIdeal_finite_rows [hPre_finite_rows : Cert.Pre_finite_rows.Facts] (m : (ℓ : Loc Cert.Out1RefIdeal.nD Cert.Out1RefIdeal.τ Cert.Out1RefIdeal.sig) → Buf (Elt Ideal) ℓ) : Prop :=
  ∀ c : Dev Cert.Out1RefIdeal.nD,
    (Cert.Pre_finite_rows.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9)) (m ((c.tc : Thread Cert.Out1RefIdeal.nD Cert.Out1RefIdeal.τ).loc Cert.Out1RefIdeal.main_arg10)) (m ((c.tc : Thread Cert.Out1RefIdeal.nD Cert.Out1RefIdeal.τ).loc Cert.Out1RefIdeal.main_arg11))).1 = (fun _ => 1#1)
    ∧ (Cert.Pre_finite_rows.fn (F := Ideal) (m ((c.tc : Thread Cert.Out1RefIdeal.nD Cert.Out1RefIdeal.τ).loc Cert.Out1RefIdeal.main_arg0)) (m ((c.tc : Thread Cert.Out1RefIdeal.nD Cert.Out1RefIdeal.τ).loc Cert.Out1RefIdeal.main_arg1)) (m ((c.tc : Thread Cert.Out1RefIdeal.nD Cert.Out1RefIdeal.τ).loc Cert.Out1RefIdeal.main_arg2)) (m ((c.tc : Thread Cert.Out1RefIdeal.nD Cert.Out1RefIdeal.τ).loc Cert.Out1RefIdeal.main_arg3)) (m ((c.tc : Thread Cert.Out1RefIdeal.nD Cert.Out1RefIdeal.τ).loc Cert.Out1RefIdeal.main_arg4)) (m ((c.tc : Thread Cert.Out1RefIdeal.nD Cert.Out1RefIdeal.τ).loc Cert.Out1RefIdeal.main_arg5)) (m ((c.tc : Thread Cert.Out1RefIdeal.nD Cert.Out1RefIdeal.τ).loc Cert.Out1RefIdeal.main_arg6)) (m ((c.tc : Thread Cert.Out1RefIdeal.nD Cert.Out1RefIdeal.τ).loc Cert.Out1RefIdeal.main_arg7)) (m ((c.tc : Thread Cert.Out1RefIdeal.nD Cert.Out1RefIdeal.τ).loc Cert.Out1RefIdeal.main_arg8)) (m ((c.tc : Thread Cert.Out1RefIdeal.nD Cert.Out1RefIdeal.τ).loc Cert.Out1RefIdeal.main_arg9)) (m ((c.tc : Thread Cert.Out1RefIdeal.nD Cert.Out1RefIdeal.τ).loc Cert.Out1RefIdeal.main_arg10)) (m ((c.tc : Thread Cert.Out1RefIdeal.nD Cert.Out1RefIdeal.τ).loc Cert.Out1RefIdeal.main_arg11))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6)
      ∧ r.2.mem ((c.tc : Thread Cert.Ffn0.nD Cert.Ffn0.τ).loc Cert.Ffn0.main_arg7) = m ((c.tc : Thread Cert.Ffn0.nD Cert.Ffn0.τ).loc Cert.Ffn0.main_arg7))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5)
      ∧ r.2.mem ((c.tc : Thread Cert.Ffn0RefIdeal.nD Cert.Ffn0RefIdeal.τ).loc Cert.Ffn0RefIdeal.main_arg6) = m ((c.tc : Thread Cert.Ffn0RefIdeal.nD Cert.Ffn0RefIdeal.τ).loc Cert.Ffn0RefIdeal.main_arg6)
      ∧ r.2.mem ((c.tc : Thread Cert.Ffn0RefIdeal.nD Cert.Ffn0RefIdeal.τ).loc Cert.Ffn0RefIdeal.main_arg7) = m ((c.tc : Thread Cert.Ffn0RefIdeal.nD Cert.Ffn0RefIdeal.τ).loc Cert.Ffn0RefIdeal.main_arg7))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2)
      ∧ r.2.mem ((c.tc : Thread Cert.In0.nD Cert.In0.τ).loc Cert.In0.main_arg3) = m ((c.tc : Thread Cert.In0.nD Cert.In0.τ).loc Cert.In0.main_arg3)
      ∧ r.2.mem ((c.tc : Thread Cert.In0.nD Cert.In0.τ).loc Cert.In0.main_arg4) = m ((c.tc : Thread Cert.In0.nD Cert.In0.τ).loc Cert.In0.main_arg4))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
      ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
      ∧ r.2.mem ((c.tc : Thread Cert.In0Ideal.nD Cert.In0Ideal.τ).loc Cert.In0Ideal.main_arg4) = m ((c.tc : Thread Cert.In0Ideal.nD Cert.In0Ideal.τ).loc Cert.In0Ideal.main_arg4))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2)
      ∧ r.2.mem ((c.tc : Thread Cert.In0RefIdeal.nD Cert.In0RefIdeal.τ).loc Cert.In0RefIdeal.main_arg3) = m ((c.tc : Thread Cert.In0RefIdeal.nD Cert.In0RefIdeal.τ).loc Cert.In0RefIdeal.main_arg3)
      ∧ r.2.mem ((c.tc : Thread Cert.In0RefIdeal.nD Cert.In0RefIdeal.τ).loc Cert.In0RefIdeal.main_arg4) = m ((c.tc : Thread Cert.In0RefIdeal.nD Cert.In0RefIdeal.τ).loc Cert.In0RefIdeal.main_arg4))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5)
      ∧ r.2.mem ((c.tc : Thread Cert.Out1.nD Cert.Out1.τ).loc Cert.Out1.main_arg6) = m ((c.tc : Thread Cert.Out1.nD Cert.Out1.τ).loc Cert.Out1.main_arg6)
      ∧ r.2.mem ((c.tc : Thread Cert.Out1.nD Cert.Out1.τ).loc Cert.Out1.main_arg7) = m ((c.tc : Thread Cert.Out1.nD Cert.Out1.τ).loc Cert.Out1.main_arg7)
      ∧ r.2.mem ((c.tc : Thread Cert.Out1.nD Cert.Out1.τ).loc Cert.Out1.main_arg8) = m ((c.tc : Thread Cert.Out1.nD Cert.Out1.τ).loc Cert.Out1.main_arg8)
      ∧ r.2.mem ((c.tc : Thread Cert.Out1.nD Cert.Out1.τ).loc Cert.Out1.main_arg9) = m ((c.tc : Thread Cert.Out1.nD Cert.Out1.τ).loc Cert.Out1.main_arg9)
      ∧ r.2.mem ((c.tc : Thread Cert.Out1.nD Cert.Out1.τ).loc Cert.Out1.main_arg10) = m ((c.tc : Thread Cert.Out1.nD Cert.Out1.τ).loc Cert.Out1.main_arg10)
      ∧ r.2.mem ((c.tc : Thread Cert.Out1.nD Cert.Out1.τ).loc Cert.Out1.main_arg11) = m ((c.tc : Thread Cert.Out1.nD Cert.Out1.τ).loc Cert.Out1.main_arg11))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
      ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
      ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
      ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9)
      ∧ r.2.mem ((c.tc : Thread Cert.Out1Ideal.nD Cert.Out1Ideal.τ).loc Cert.Out1Ideal.main_arg10) = m ((c.tc : Thread Cert.Out1Ideal.nD Cert.Out1Ideal.τ).loc Cert.Out1Ideal.main_arg10)
      ∧ r.2.mem ((c.tc : Thread Cert.Out1Ideal.nD Cert.Out1Ideal.τ).loc Cert.Out1Ideal.main_arg11) = m ((c.tc : Thread Cert.Out1Ideal.nD Cert.Out1Ideal.τ).loc Cert.Out1Ideal.main_arg11))
      ∧ r.2.sem = fun _ => 0)

def quiescent_Out1Ideal_pre_finite_rows [hOut1Ideal : Cert.Out1Ideal.Facts] [hPre_finite_rows : Cert.Pre_finite_rows.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal_finite_rows m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
      ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
      ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
      ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9)
      ∧ r.2.mem ((c.tc : Thread Cert.Out1Ideal.nD Cert.Out1Ideal.τ).loc Cert.Out1Ideal.main_arg10) = m ((c.tc : Thread Cert.Out1Ideal.nD Cert.Out1Ideal.τ).loc Cert.Out1Ideal.main_arg10)
      ∧ r.2.mem ((c.tc : Thread Cert.Out1Ideal.nD Cert.Out1Ideal.τ).loc Cert.Out1Ideal.main_arg11) = m ((c.tc : Thread Cert.Out1Ideal.nD Cert.Out1Ideal.τ).loc Cert.Out1Ideal.main_arg11))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5)
      ∧ r.2.mem ((c.tc : Thread Cert.Out1RefIdeal.nD Cert.Out1RefIdeal.τ).loc Cert.Out1RefIdeal.main_arg6) = m ((c.tc : Thread Cert.Out1RefIdeal.nD Cert.Out1RefIdeal.τ).loc Cert.Out1RefIdeal.main_arg6)
      ∧ r.2.mem ((c.tc : Thread Cert.Out1RefIdeal.nD Cert.Out1RefIdeal.τ).loc Cert.Out1RefIdeal.main_arg7) = m ((c.tc : Thread Cert.Out1RefIdeal.nD Cert.Out1RefIdeal.τ).loc Cert.Out1RefIdeal.main_arg7)
      ∧ r.2.mem ((c.tc : Thread Cert.Out1RefIdeal.nD Cert.Out1RefIdeal.τ).loc Cert.Out1RefIdeal.main_arg8) = m ((c.tc : Thread Cert.Out1RefIdeal.nD Cert.Out1RefIdeal.τ).loc Cert.Out1RefIdeal.main_arg8)
      ∧ r.2.mem ((c.tc : Thread Cert.Out1RefIdeal.nD Cert.Out1RefIdeal.τ).loc Cert.Out1RefIdeal.main_arg9) = m ((c.tc : Thread Cert.Out1RefIdeal.nD Cert.Out1RefIdeal.τ).loc Cert.Out1RefIdeal.main_arg9)
      ∧ r.2.mem ((c.tc : Thread Cert.Out1RefIdeal.nD Cert.Out1RefIdeal.τ).loc Cert.Out1RefIdeal.main_arg10) = m ((c.tc : Thread Cert.Out1RefIdeal.nD Cert.Out1RefIdeal.τ).loc Cert.Out1RefIdeal.main_arg10)
      ∧ r.2.mem ((c.tc : Thread Cert.Out1RefIdeal.nD Cert.Out1RefIdeal.τ).loc Cert.Out1RefIdeal.main_arg11) = m ((c.tc : Thread Cert.Out1RefIdeal.nD Cert.Out1RefIdeal.τ).loc Cert.Out1RefIdeal.main_arg11))
      ∧ r.2.sem = fun _ => 0)

def quiescent_Out1RefIdeal_pre_finite_rows [hOut1RefIdeal : Cert.Out1RefIdeal.Facts] [hPre_finite_rows : Cert.Pre_finite_rows.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal_finite_rows m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5)
      ∧ r.2.mem ((c.tc : Thread Cert.Out1RefIdeal.nD Cert.Out1RefIdeal.τ).loc Cert.Out1RefIdeal.main_arg6) = m ((c.tc : Thread Cert.Out1RefIdeal.nD Cert.Out1RefIdeal.τ).loc Cert.Out1RefIdeal.main_arg6)
      ∧ r.2.mem ((c.tc : Thread Cert.Out1RefIdeal.nD Cert.Out1RefIdeal.τ).loc Cert.Out1RefIdeal.main_arg7) = m ((c.tc : Thread Cert.Out1RefIdeal.nD Cert.Out1RefIdeal.τ).loc Cert.Out1RefIdeal.main_arg7)
      ∧ r.2.mem ((c.tc : Thread Cert.Out1RefIdeal.nD Cert.Out1RefIdeal.τ).loc Cert.Out1RefIdeal.main_arg8) = m ((c.tc : Thread Cert.Out1RefIdeal.nD Cert.Out1RefIdeal.τ).loc Cert.Out1RefIdeal.main_arg8)
      ∧ r.2.mem ((c.tc : Thread Cert.Out1RefIdeal.nD Cert.Out1RefIdeal.τ).loc Cert.Out1RefIdeal.main_arg9) = m ((c.tc : Thread Cert.Out1RefIdeal.nD Cert.Out1RefIdeal.τ).loc Cert.Out1RefIdeal.main_arg9)
      ∧ r.2.mem ((c.tc : Thread Cert.Out1RefIdeal.nD Cert.Out1RefIdeal.τ).loc Cert.Out1RefIdeal.main_arg10) = m ((c.tc : Thread Cert.Out1RefIdeal.nD Cert.Out1RefIdeal.τ).loc Cert.Out1RefIdeal.main_arg10)
      ∧ r.2.mem ((c.tc : Thread Cert.Out1RefIdeal.nD Cert.Out1RefIdeal.τ).loc Cert.Out1RefIdeal.main_arg11) = m ((c.tc : Thread Cert.Out1RefIdeal.nD Cert.Out1RefIdeal.τ).loc Cert.Out1RefIdeal.main_arg11))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v19)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v19) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)
      ∧ m' ((c.tc : Thread Cert.Ffn0RefIdeal.nD Cert.Ffn0RefIdeal.τ).loc Cert.Ffn0RefIdeal.main_arg6) = m ((c.tc : Thread Cert.Ffn0Ideal.nD Cert.Ffn0Ideal.τ).loc Cert.Ffn0Ideal.main_arg6)
      ∧ m' ((c.tc : Thread Cert.Ffn0RefIdeal.nD Cert.Ffn0RefIdeal.τ).loc Cert.Ffn0RefIdeal.main_arg7) = m ((c.tc : Thread Cert.Ffn0Ideal.nD Cert.Ffn0Ideal.τ).loc Cert.Ffn0Ideal.main_arg7)) →
    ∃ (v0 : (c : Dev Cert.Ffn0Ideal.nD) → Buf (Elt Ideal) ((c.tc : Thread Cert.Ffn0Ideal.nD Cert.Ffn0Ideal.τ).loc Cert.Ffn0Ideal.main_v15)) (v1 : (c : Dev Cert.Ffn0Ideal.nD) → Buf (Elt Ideal) ((c.tc : Thread Cert.Ffn0Ideal.nD Cert.Ffn0Ideal.τ).loc Cert.Ffn0Ideal.main_v17)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v15) = v0 c
          ∧ r.2.mem ((c.tc : Thread Cert.Ffn0Ideal.nD Cert.Ffn0Ideal.τ).loc Cert.Ffn0Ideal.main_v17) = v1 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
          ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v25) = v0 c
          ∧ r.2.mem ((c.tc : Thread Cert.Ffn0RefIdeal.nD Cert.Ffn0RefIdeal.τ).loc Cert.Ffn0RefIdeal.main_v35) = v1 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5)
          ∧ r.2.mem ((c.tc : Thread Cert.Ffn0RefIdeal.nD Cert.Ffn0RefIdeal.τ).loc Cert.Ffn0RefIdeal.main_arg6) = m' ((c.tc : Thread Cert.Ffn0RefIdeal.nD Cert.Ffn0RefIdeal.τ).loc Cert.Ffn0RefIdeal.main_arg6)
          ∧ r.2.mem ((c.tc : Thread Cert.Ffn0RefIdeal.nD Cert.Ffn0RefIdeal.τ).loc Cert.Ffn0RefIdeal.main_arg7) = m' ((c.tc : Thread Cert.Ffn0RefIdeal.nD Cert.Ffn0RefIdeal.τ).loc Cert.Ffn0RefIdeal.main_arg7))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)
      ∧ m' ((c.tc : Thread Cert.In0RefIdeal.nD Cert.In0RefIdeal.τ).loc Cert.In0RefIdeal.main_arg3) = m ((c.tc : Thread Cert.In0Ideal.nD Cert.In0Ideal.τ).loc Cert.In0Ideal.main_arg3)
      ∧ m' ((c.tc : Thread Cert.In0RefIdeal.nD Cert.In0RefIdeal.τ).loc Cert.In0RefIdeal.main_arg4) = m ((c.tc : Thread Cert.In0Ideal.nD Cert.In0Ideal.τ).loc Cert.In0Ideal.main_arg4)) →
    ∃ (v0 : (c : Dev Cert.In0Ideal.nD) → Buf (Elt Ideal) ((c.tc : Thread Cert.In0Ideal.nD Cert.In0Ideal.τ).loc Cert.In0Ideal.main_v77)) (v1 : (c : Dev Cert.In0Ideal.nD) → Buf (Elt Ideal) ((c.tc : Thread Cert.In0Ideal.nD Cert.In0Ideal.τ).loc Cert.In0Ideal.main_v79)) (v2 : (c : Dev Cert.In0Ideal.nD) → Buf (Elt Ideal) ((c.tc : Thread Cert.In0Ideal.nD Cert.In0Ideal.τ).loc Cert.In0Ideal.main_v81)) (v3 : (c : Dev Cert.In0Ideal.nD) → Buf (Elt Ideal) ((c.tc : Thread Cert.In0Ideal.nD Cert.In0Ideal.τ).loc Cert.In0Ideal.main_v85)) (v4 : (c : Dev Cert.In0Ideal.nD) → Buf (Elt Ideal) ((c.tc : Thread Cert.In0Ideal.nD Cert.In0Ideal.τ).loc Cert.In0Ideal.main_v89)) (v5 : (c : Dev Cert.In0Ideal.nD) → Buf (Elt Ideal) ((c.tc : Thread Cert.In0Ideal.nD Cert.In0Ideal.τ).loc Cert.In0Ideal.main_v91)) (v6 : (c : Dev Cert.In0Ideal.nD) → Buf (Elt Ideal) ((c.tc : Thread Cert.In0Ideal.nD Cert.In0Ideal.τ).loc Cert.In0Ideal.main_v93)) (v7 : (c : Dev Cert.In0Ideal.nD) → Buf (Elt Ideal) ((c.tc : Thread Cert.In0Ideal.nD Cert.In0Ideal.τ).loc Cert.In0Ideal.main_v95)) (v8 : (c : Dev Cert.In0Ideal.nD) → Buf (Elt Ideal) ((c.tc : Thread Cert.In0Ideal.nD Cert.In0Ideal.τ).loc Cert.In0Ideal.main_v97)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v77) = v0 c
          ∧ r.2.mem ((c.tc : Thread Cert.In0Ideal.nD Cert.In0Ideal.τ).loc Cert.In0Ideal.main_v79) = v1 c
          ∧ r.2.mem ((c.tc : Thread Cert.In0Ideal.nD Cert.In0Ideal.τ).loc Cert.In0Ideal.main_v81) = v2 c
          ∧ r.2.mem ((c.tc : Thread Cert.In0Ideal.nD Cert.In0Ideal.τ).loc Cert.In0Ideal.main_v85) = v3 c
          ∧ r.2.mem ((c.tc : Thread Cert.In0Ideal.nD Cert.In0Ideal.τ).loc Cert.In0Ideal.main_v89) = v4 c
          ∧ r.2.mem ((c.tc : Thread Cert.In0Ideal.nD Cert.In0Ideal.τ).loc Cert.In0Ideal.main_v91) = v5 c
          ∧ r.2.mem ((c.tc : Thread Cert.In0Ideal.nD Cert.In0Ideal.τ).loc Cert.In0Ideal.main_v93) = v6 c
          ∧ r.2.mem ((c.tc : Thread Cert.In0Ideal.nD Cert.In0Ideal.τ).loc Cert.In0Ideal.main_v95) = v7 c
          ∧ r.2.mem ((c.tc : Thread Cert.In0Ideal.nD Cert.In0Ideal.τ).loc Cert.In0Ideal.main_v97) = v8 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
          ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
          ∧ r.2.mem ((c.tc : Thread Cert.In0Ideal.nD Cert.In0Ideal.τ).loc Cert.In0Ideal.main_arg4) = m ((c.tc : Thread Cert.In0Ideal.nD Cert.In0Ideal.τ).loc Cert.In0Ideal.main_arg4))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v135) = v0 c
          ∧ r.2.mem ((c.tc : Thread Cert.In0RefIdeal.nD Cert.In0RefIdeal.τ).loc Cert.In0RefIdeal.main_v136) = v1 c
          ∧ r.2.mem ((c.tc : Thread Cert.In0RefIdeal.nD Cert.In0RefIdeal.τ).loc Cert.In0RefIdeal.main_v137) = v2 c
          ∧ r.2.mem ((c.tc : Thread Cert.In0RefIdeal.nD Cert.In0RefIdeal.τ).loc Cert.In0RefIdeal.main_v140) = v3 c
          ∧ r.2.mem ((c.tc : Thread Cert.In0RefIdeal.nD Cert.In0RefIdeal.τ).loc Cert.In0RefIdeal.main_v143) = v4 c
          ∧ r.2.mem ((c.tc : Thread Cert.In0RefIdeal.nD Cert.In0RefIdeal.τ).loc Cert.In0RefIdeal.main_v144) = v5 c
          ∧ r.2.mem ((c.tc : Thread Cert.In0RefIdeal.nD Cert.In0RefIdeal.τ).loc Cert.In0RefIdeal.main_v145) = v6 c
          ∧ r.2.mem ((c.tc : Thread Cert.In0RefIdeal.nD Cert.In0RefIdeal.τ).loc Cert.In0RefIdeal.main_v146) = v7 c
          ∧ r.2.mem ((c.tc : Thread Cert.In0RefIdeal.nD Cert.In0RefIdeal.τ).loc Cert.In0RefIdeal.main_v147) = v8 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2)
          ∧ r.2.mem ((c.tc : Thread Cert.In0RefIdeal.nD Cert.In0RefIdeal.τ).loc Cert.In0RefIdeal.main_arg3) = m' ((c.tc : Thread Cert.In0RefIdeal.nD Cert.In0RefIdeal.τ).loc Cert.In0RefIdeal.main_arg3)
          ∧ r.2.mem ((c.tc : Thread Cert.In0RefIdeal.nD Cert.In0RefIdeal.τ).loc Cert.In0RefIdeal.main_arg4) = m' ((c.tc : Thread Cert.In0RefIdeal.nD Cert.In0RefIdeal.τ).loc Cert.In0RefIdeal.main_arg4))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)) →
    ∃ (v0 : (c : Dev Cert.In1Ideal.nD) → Buf (Elt Ideal) ((c.tc : Thread Cert.In1Ideal.nD Cert.In1Ideal.τ).loc Cert.In1Ideal.main_v78)) (v1 : (c : Dev Cert.In1Ideal.nD) → Buf (Elt Ideal) ((c.tc : Thread Cert.In1Ideal.nD Cert.In1Ideal.τ).loc Cert.In1Ideal.main_v80)) (v2 : (c : Dev Cert.In1Ideal.nD) → Buf (Elt Ideal) ((c.tc : Thread Cert.In1Ideal.nD Cert.In1Ideal.τ).loc Cert.In1Ideal.main_v82)) (v3 : (c : Dev Cert.In1Ideal.nD) → Buf (Elt Ideal) ((c.tc : Thread Cert.In1Ideal.nD Cert.In1Ideal.τ).loc Cert.In1Ideal.main_v86)) (v4 : (c : Dev Cert.In1Ideal.nD) → Buf (Elt Ideal) ((c.tc : Thread Cert.In1Ideal.nD Cert.In1Ideal.τ).loc Cert.In1Ideal.main_v90)) (v5 : (c : Dev Cert.In1Ideal.nD) → Buf (Elt Ideal) ((c.tc : Thread Cert.In1Ideal.nD Cert.In1Ideal.τ).loc Cert.In1Ideal.main_v92)) (v6 : (c : Dev Cert.In1Ideal.nD) → Buf (Elt Ideal) ((c.tc : Thread Cert.In1Ideal.nD Cert.In1Ideal.τ).loc Cert.In1Ideal.main_v94)) (v7 : (c : Dev Cert.In1Ideal.nD) → Buf (Elt Ideal) ((c.tc : Thread Cert.In1Ideal.nD Cert.In1Ideal.τ).loc Cert.In1Ideal.main_v96)) (v8 : (c : Dev Cert.In1Ideal.nD) → Buf (Elt Ideal) ((c.tc : Thread Cert.In1Ideal.nD Cert.In1Ideal.τ).loc Cert.In1Ideal.main_v98)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v78) = v0 c
          ∧ r.2.mem ((c.tc : Thread Cert.In1Ideal.nD Cert.In1Ideal.τ).loc Cert.In1Ideal.main_v80) = v1 c
          ∧ r.2.mem ((c.tc : Thread Cert.In1Ideal.nD Cert.In1Ideal.τ).loc Cert.In1Ideal.main_v82) = v2 c
          ∧ r.2.mem ((c.tc : Thread Cert.In1Ideal.nD Cert.In1Ideal.τ).loc Cert.In1Ideal.main_v86) = v3 c
          ∧ r.2.mem ((c.tc : Thread Cert.In1Ideal.nD Cert.In1Ideal.τ).loc Cert.In1Ideal.main_v90) = v4 c
          ∧ r.2.mem ((c.tc : Thread Cert.In1Ideal.nD Cert.In1Ideal.τ).loc Cert.In1Ideal.main_v92) = v5 c
          ∧ r.2.mem ((c.tc : Thread Cert.In1Ideal.nD Cert.In1Ideal.τ).loc Cert.In1Ideal.main_v94) = v6 c
          ∧ r.2.mem ((c.tc : Thread Cert.In1Ideal.nD Cert.In1Ideal.τ).loc Cert.In1Ideal.main_v96) = v7 c
          ∧ r.2.mem ((c.tc : Thread Cert.In1Ideal.nD Cert.In1Ideal.τ).loc Cert.In1Ideal.main_v98) = v8 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v135) = v0 c
          ∧ r.2.mem ((c.tc : Thread Cert.In1RefIdeal.nD Cert.In1RefIdeal.τ).loc Cert.In1RefIdeal.main_v136) = v1 c
          ∧ r.2.mem ((c.tc : Thread Cert.In1RefIdeal.nD Cert.In1RefIdeal.τ).loc Cert.In1RefIdeal.main_v137) = v2 c
          ∧ r.2.mem ((c.tc : Thread Cert.In1RefIdeal.nD Cert.In1RefIdeal.τ).loc Cert.In1RefIdeal.main_v140) = v3 c
          ∧ r.2.mem ((c.tc : Thread Cert.In1RefIdeal.nD Cert.In1RefIdeal.τ).loc Cert.In1RefIdeal.main_v143) = v4 c
          ∧ r.2.mem ((c.tc : Thread Cert.In1RefIdeal.nD Cert.In1RefIdeal.τ).loc Cert.In1RefIdeal.main_v144) = v5 c
          ∧ r.2.mem ((c.tc : Thread Cert.In1RefIdeal.nD Cert.In1RefIdeal.τ).loc Cert.In1RefIdeal.main_v145) = v6 c
          ∧ r.2.mem ((c.tc : Thread Cert.In1RefIdeal.nD Cert.In1RefIdeal.τ).loc Cert.In1RefIdeal.main_v146) = v7 c
          ∧ r.2.mem ((c.tc : Thread Cert.In1RefIdeal.nD Cert.In1RefIdeal.τ).loc Cert.In1RefIdeal.main_v147) = v8 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4))

def preserves_Out1_Out1Ideal : Prop :=
  True

def algebraic_Out1Ideal_Out1RefIdeal_pre_finite_rows [hOut1Ideal : Cert.Out1Ideal.Facts] [hOut1RefIdeal : Cert.Out1RefIdeal.Facts] [hPre_finite_rows : Cert.Pre_finite_rows.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal_finite_rows m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)
      ∧ m' ((c.tc : Thread Cert.Out1RefIdeal.nD Cert.Out1RefIdeal.τ).loc Cert.Out1RefIdeal.main_arg6) = m ((c.tc : Thread Cert.Out1Ideal.nD Cert.Out1Ideal.τ).loc Cert.Out1Ideal.main_arg6)
      ∧ m' ((c.tc : Thread Cert.Out1RefIdeal.nD Cert.Out1RefIdeal.τ).loc Cert.Out1RefIdeal.main_arg7) = m ((c.tc : Thread Cert.Out1Ideal.nD Cert.Out1Ideal.τ).loc Cert.Out1Ideal.main_arg7)
      ∧ m' ((c.tc : Thread Cert.Out1RefIdeal.nD Cert.Out1RefIdeal.τ).loc Cert.Out1RefIdeal.main_arg8) = m ((c.tc : Thread Cert.Out1Ideal.nD Cert.Out1Ideal.τ).loc Cert.Out1Ideal.main_arg8)
      ∧ m' ((c.tc : Thread Cert.Out1RefIdeal.nD Cert.Out1RefIdeal.τ).loc Cert.Out1RefIdeal.main_arg9) = m ((c.tc : Thread Cert.Out1Ideal.nD Cert.Out1Ideal.τ).loc Cert.Out1Ideal.main_arg9)
      ∧ m' ((c.tc : Thread Cert.Out1RefIdeal.nD Cert.Out1RefIdeal.τ).loc Cert.Out1RefIdeal.main_arg10) = m ((c.tc : Thread Cert.Out1Ideal.nD Cert.Out1Ideal.τ).loc Cert.Out1Ideal.main_arg10)
      ∧ m' ((c.tc : Thread Cert.Out1RefIdeal.nD Cert.Out1RefIdeal.τ).loc Cert.Out1RefIdeal.main_arg11) = m ((c.tc : Thread Cert.Out1Ideal.nD Cert.Out1Ideal.τ).loc Cert.Out1Ideal.main_arg11)) →
    ∃ (v0 : (c : Dev Cert.Out1Ideal.nD) → Buf (Elt Ideal) ((c.tc : Thread Cert.Out1Ideal.nD Cert.Out1Ideal.τ).loc Cert.Out1Ideal.main_v13_0)) (v1 : (c : Dev Cert.Out1Ideal.nD) → Buf (Elt Ideal) ((c.tc : Thread Cert.Out1Ideal.nD Cert.Out1Ideal.τ).loc Cert.Out1Ideal.main_v13_1)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v13_0) = v0 c
          ∧ r.2.mem ((c.tc : Thread Cert.Out1Ideal.nD Cert.Out1Ideal.τ).loc Cert.Out1Ideal.main_v13_1) = v1 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
          ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
          ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
          ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8)
          ∧ r.2.mem ((c.tc : Thread Cert.Out1Ideal.nD Cert.Out1Ideal.τ).loc Cert.Out1Ideal.main_arg9) = m ((c.tc : Thread Cert.Out1Ideal.nD Cert.Out1Ideal.τ).loc Cert.Out1Ideal.main_arg9)
          ∧ r.2.mem ((c.tc : Thread Cert.Out1Ideal.nD Cert.Out1Ideal.τ).loc Cert.Out1Ideal.main_arg10) = m ((c.tc : Thread Cert.Out1Ideal.nD Cert.Out1Ideal.τ).loc Cert.Out1Ideal.main_arg10)
          ∧ r.2.mem ((c.tc : Thread Cert.Out1Ideal.nD Cert.Out1Ideal.τ).loc Cert.Out1Ideal.main_arg11) = m ((c.tc : Thread Cert.Out1Ideal.nD Cert.Out1Ideal.τ).loc Cert.Out1Ideal.main_arg11))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v79) = v0 c
          ∧ r.2.mem ((c.tc : Thread Cert.Out1RefIdeal.nD Cert.Out1RefIdeal.τ).loc Cert.Out1RefIdeal.main_v81) = v1 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5)
          ∧ r.2.mem ((c.tc : Thread Cert.Out1RefIdeal.nD Cert.Out1RefIdeal.τ).loc Cert.Out1RefIdeal.main_arg6) = m' ((c.tc : Thread Cert.Out1RefIdeal.nD Cert.Out1RefIdeal.τ).loc Cert.Out1RefIdeal.main_arg6)
          ∧ r.2.mem ((c.tc : Thread Cert.Out1RefIdeal.nD Cert.Out1RefIdeal.τ).loc Cert.Out1RefIdeal.main_arg7) = m' ((c.tc : Thread Cert.Out1RefIdeal.nD Cert.Out1RefIdeal.τ).loc Cert.Out1RefIdeal.main_arg7)
          ∧ r.2.mem ((c.tc : Thread Cert.Out1RefIdeal.nD Cert.Out1RefIdeal.τ).loc Cert.Out1RefIdeal.main_arg8) = m' ((c.tc : Thread Cert.Out1RefIdeal.nD Cert.Out1RefIdeal.τ).loc Cert.Out1RefIdeal.main_arg8)
          ∧ r.2.mem ((c.tc : Thread Cert.Out1RefIdeal.nD Cert.Out1RefIdeal.τ).loc Cert.Out1RefIdeal.main_arg9) = m' ((c.tc : Thread Cert.Out1RefIdeal.nD Cert.Out1RefIdeal.τ).loc Cert.Out1RefIdeal.main_arg9)
          ∧ r.2.mem ((c.tc : Thread Cert.Out1RefIdeal.nD Cert.Out1RefIdeal.τ).loc Cert.Out1RefIdeal.main_arg10) = m' ((c.tc : Thread Cert.Out1RefIdeal.nD Cert.Out1RefIdeal.τ).loc Cert.Out1RefIdeal.main_arg10)
          ∧ r.2.mem ((c.tc : Thread Cert.Out1RefIdeal.nD Cert.Out1RefIdeal.τ).loc Cert.Out1RefIdeal.main_arg11) = m' ((c.tc : Thread Cert.Out1RefIdeal.nD Cert.Out1RefIdeal.τ).loc Cert.Out1RefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfn0 : Cert.Ffn0.Facts) (hFfn0Ideal : Cert.Ffn0Ideal.Facts) (hFfn0RefIdeal : Cert.Ffn0RefIdeal.Facts) (hIn0 : Cert.In0.Facts) (hIn0Ideal : Cert.In0Ideal.Facts) (hIn0RefIdeal : Cert.In0RefIdeal.Facts) (hIn1 : Cert.In1.Facts) (hIn1Ideal : Cert.In1Ideal.Facts) (hIn1RefIdeal : Cert.In1RefIdeal.Facts) (hOut1 : Cert.Out1.Facts) (hOut1Ideal : Cert.Out1Ideal.Facts) (hOut1RefIdeal : Cert.Out1RefIdeal.Facts) (hPre_finite_scores : Cert.Pre_finite_scores.Facts) (hPre_finite_rows : Cert.Pre_finite_rows.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_In0 (hIn0 := hIn0)
    ∧ quiescent_In0Ideal (hIn0Ideal := hIn0Ideal)
    ∧ quiescent_In0RefIdeal (hIn0RefIdeal := hIn0RefIdeal)
    ∧ quiescent_In1 (hIn1 := hIn1)
    ∧ quiescent_In1Ideal (hIn1Ideal := hIn1Ideal)
    ∧ quiescent_In1RefIdeal (hIn1RefIdeal := hIn1RefIdeal)
    ∧ quiescent_Out1 (hOut1 := hOut1)
    ∧ quiescent_Out1Ideal (hOut1Ideal := hOut1Ideal)
    ∧ quiescent_Out1Ideal_pre_finite_rows (hOut1Ideal := hOut1Ideal) (hPre_finite_rows := hPre_finite_rows)
    ∧ quiescent_Out1RefIdeal (hOut1RefIdeal := hOut1RefIdeal)
    ∧ quiescent_Out1RefIdeal_pre_finite_rows (hOut1RefIdeal := hOut1RefIdeal) (hPre_finite_rows := hPre_finite_rows)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Ffn0_Ffn0Ideal
    ∧ algebraic_Ffn0Ideal_Ffn0RefIdeal (hFfn0Ideal := hFfn0Ideal) (hFfn0RefIdeal := hFfn0RefIdeal)
    ∧ preserves_In0_In0Ideal
    ∧ algebraic_In0Ideal_In0RefIdeal (hIn0Ideal := hIn0Ideal) (hIn0RefIdeal := hIn0RefIdeal)
    ∧ preserves_In1_In1Ideal
    ∧ algebraic_In1Ideal_In1RefIdeal (hIn1Ideal := hIn1Ideal) (hIn1RefIdeal := hIn1RefIdeal)
    ∧ preserves_Out1_Out1Ideal
    ∧ algebraic_Out1Ideal_Out1RefIdeal_pre_finite_rows (hOut1Ideal := hOut1Ideal) (hOut1RefIdeal := hOut1RefIdeal) (hPre_finite_rows := hPre_finite_rows)
-- ==== Pre_finite_rows.lean ====
abbrev S2x4352x768 : Shape := ⟨3, ![2, 4352, 768]⟩
abbrev S8704x768 : Shape := ⟨2, ![8704, 768]⟩
abbrev S8704x512 : Shape := ⟨2, ![8704, 512]⟩
abbrev S2x4096x768 : Shape := ⟨3, ![2, 4096, 768]⟩
abbrev S8704x2048 : Shape := ⟨2, ![8704, 2048]⟩
abbrev S2x2048x2048 : Shape := ⟨3, ![2, 2048, 2048]⟩
abbrev S768 : Shape := ⟨1, ![768]⟩
abbrev S2048 : Shape := ⟨1, ![2048]⟩
abbrev S2x8x12288 : Shape := ⟨3, ![2, 8, 12288]⟩
abbrev S_ : Shape := ⟨0, ![]⟩

class Facts : Prop where
  slices_S2x4352x768_S2x4096x768_0_256_0 : S2x4352x768.Slices ![0, 256, 0] S2x4096x768
  bcast_S_S2x4096x768 : S_.BroadcastsInDim S2x4096x768 (![] : Fin 0 → Fin S2x4096x768.rank)

variable [Facts]

def fn {F : FTy → Type} [FloatOps F] (main_arg0 : FVec F S2x4352x768 .f32) (main_arg1 : FVec F S2x4352x768 .f32) (main_arg2 : FVec F S8704x768 .f32) (main_arg3 : FVec F S8704x768 .f32) (main_arg4 : FVec F S8704x512 .bf16) (main_arg5 : FVec F S2x4096x768 .f32) (main_arg6 : FVec F S8704x2048 .f32) (main_arg7 : FVec F S2x2048x2048 .f32) (main_arg8 : FVec F S768 .f32) (main_arg9 : FVec F S768 .f32) (main_arg10 : FVec F S2048 .f32) (main_arg11 : FVec F S2x8x12288 .f32) : IVec S2x4096x768 1 × IVec S2x4096x768 1 :=
  let main_v0 : FVec F S2x4096x768 .f32 := (extractStridedSlice S2x4096x768 ![0, 256, 0] · slices_S2x4352x768_S2x4096x768_0_256_0) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_v4 : FVec F S2x4096x768 .f32 := (extractStridedSlice S2x4096x768 ![0, 256, 0] · slices_S2x4352x768_S2x4096x768_0_256_0) main_arg1
  let main_v5 : FVec F S2x4096x768 .f32 := Host.absf main_v4
  let main_cst_0 : FVec F S_ .f32 := constant S_ .f32 0x7F800000#32
  let main_v6 : FVec F S2x4096x768 .f32 := broadcastInDim S2x4096x768 ![] bcast_S_S2x4096x768 main_cst_0
  let main_v7 : IVec S2x4096x768 1 := cmpf .olt main_v5 main_v6
  (main_v3, main_v7)
-- ==== Pre_finite_scores.lean ====
abbrev S2x4096x12x64 : Shape := ⟨4, ![2, 4096, 12, 64]⟩
abbrev S2x4096x4x64 : Shape := ⟨4, ![2, 4096, 4, 64]⟩
abbrev S2x256x4x64 : Shape := ⟨4, ![2, 256, 4, 64]⟩
abbrev S12 : Shape := ⟨1, ![12]⟩
abbrev S_ : Shape := ⟨0, ![]⟩

class Facts : Prop where
  bcast_S_S2x4096x12x64 : S_.BroadcastsInDim S2x4096x12x64 (![] : Fin 0 → Fin S2x4096x12x64.rank)
  bcast_S_S2x4096x4x64 : S_.BroadcastsInDim S2x4096x4x64 (![] : Fin 0 → Fin S2x4096x4x64.rank)
  bcast_S_S2x256x4x64 : S_.BroadcastsInDim S2x256x4x64 (![] : Fin 0 → Fin S2x256x4x64.rank)
  bcast_S_S12 : S_.BroadcastsInDim S12 (![] : Fin 0 → Fin S12.rank)

variable [Facts]

def fn {F : FTy → Type} [FloatOps F] (main_arg0 : FVec F S2x4096x12x64 .f32) (main_arg1 : FVec F S2x4096x4x64 .f32) (main_arg2 : FVec F S2x4096x4x64 .f32) (main_arg3 : FVec F S2x256x4x64 .f32) (main_arg4 : FVec F S2x256x4x64 .f32) (main_arg5 : FVec F S12 .f32) : IVec S2x4096x12x64 1 × IVec S2x4096x4x64 1 × IVec S2x256x4x64 1 × IVec S12 1 :=
  let main_v0 : FVec F S2x4096x12x64 .f32 := Host.absf main_arg0
  let main_cst : FVec F S_ .f32 := constant S_ .f32 0x7F800000#32
  let main_v1 : FVec F S2x4096x12x64 .f32 := broadcastInDim S2x4096x12x64 ![] bcast_S_S2x4096x12x64 main_cst
  let main_v2 : IVec S2x4096x12x64 1 := cmpf .olt main_v0 main_v1
  let main_v3 : FVec F S2x4096x4x64 .f32 := Host.absf main_arg1
  let main_cst_0 : FVec F S_ .f32 := constant S_ .f32 0x7F800000#32
  let main_v4 : FVec F S2x4096x4x64 .f32 := broadcastInDim S2x4096x4x64 ![] bcast_S_S2x4096x4x64 main_cst_0
  let main_v5 : IVec S2x4096x4x64 1 := cmpf .olt main_v3 main_v4
  let main_v6 : FVec F S2x256x4x64 .f32 := Host.absf main_arg3
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  let main_v9 : FVec F S12 .f32 := Host.absf main_arg5
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  (main_v2, main_v5, main_v8, main_v11)
-- ==== Attn.lean ====
abbrev S2x4096x12x64 : Shape := ⟨4, ![2, 4096, 12, 64]⟩
abbrev S2x4096x4x64 : Shape := ⟨4, ![2, 4096, 4, 64]⟩
abbrev S2x256x4x64 : Shape := ⟨4, ![2, 256, 4, 64]⟩
abbrev S12 : Shape := ⟨1, ![12]⟩
abbrev S_ : Shape := ⟨0, ![]⟩
abbrev S8192x4x3x64 : Shape := ⟨4, ![8192, 4, 3, 64]⟩
abbrev S8192x3x4x64 : Shape := ⟨4, ![8192, 3, 4, 64]⟩
abbrev S8192x768 : Shape := ⟨2, ![8192, 768]⟩
abbrev S512x768 : Shape := ⟨2, ![512, 768]⟩
abbrev S8704x768 : Shape := ⟨2, ![8704, 768]⟩
abbrev S512x256 : Shape := ⟨2, ![512, 256]⟩
abbrev S8192x256 : Shape := ⟨2, ![8192, 256]⟩
abbrev S8704x256 : Shape := ⟨2, ![8704, 256]⟩
abbrev S8704x512 : Shape := ⟨2, ![8704, 512]⟩
abbrev S128x768 : Shape := ⟨2, ![128, 768]⟩
abbrev S128x512 : Shape := ⟨2, ![128, 512]⟩
abbrev S256x512 : Shape := ⟨2, ![256, 512]⟩
abbrev S640x512 : Shape := ⟨2, ![640, 512]⟩
abbrev S640x256 : Shape := ⟨2, ![640, 256]⟩
abbrev S128x640 : Shape := ⟨2, ![128, 640]⟩
abbrev S384x640 : Shape := ⟨2, ![384, 640]⟩
abbrev S1x256 : Shape := ⟨2, ![1, 256]⟩
abbrev S384x1 : Shape := ⟨2, ![384, 1]⟩
abbrev S128x256 : Shape := ⟨2, ![128, 256]⟩
abbrev S384x256 : Shape := ⟨2, ![384, 256]⟩
abbrev S1 : Shape := ⟨1, ![1]⟩
abbrev S384 : Shape := ⟨1, ![384]⟩
abbrev S2x4096x3x4x64 : Shape := ⟨5, ![2, 4096, 3, 4, 64]⟩
abbrev S2x4096x4x3x64 : Shape := ⟨5, ![2, 4096, 4, 3, 64]⟩
abbrev S2x4096x768 : Shape := ⟨3, ![2, 4096, 768]⟩

abbrev nBuf : Space → Nat
  | .hbm => 28
  | .vmem => 12
  | .smem => 1
  | _ => 0

abbrev bufTy : (tb : Table) → Fin (tcTables nBuf tb) → BufTy
  | .hbm, ⟨0, _⟩ => ⟨S2x4096x12x64, .f32⟩
  | .hbm, ⟨1, _⟩ => ⟨S2x4096x4x64, .f32⟩
  | .hbm, ⟨2, _⟩ => ⟨S2x4096x4x64, .f32⟩
  | .hbm, ⟨3, _⟩ => ⟨S2x256x4x64, .f32⟩
  | .hbm, ⟨4, _⟩ => ⟨S2x256x4x64, .f32⟩
  | .hbm, ⟨5, _⟩ => ⟨S12, .f32⟩
  | .hbm, ⟨6, _⟩ => ⟨S_, .f32⟩
  | .hbm, ⟨7, _⟩ => ⟨S2x4096x12x64, .f32⟩
  | .hbm, ⟨8, _⟩ => ⟨S2x4096x12x64, .f32⟩
  | .hbm, ⟨9, _⟩ => ⟨S8192x4x3x64, .f32⟩
  | .hbm, ⟨10, _⟩ => ⟨S8192x3x4x64, .f32⟩
  | .hbm, ⟨11, _⟩ => ⟨S8192x768, .f32⟩
  | .hbm, ⟨12, _⟩ => ⟨S_, .f32⟩
  | .hbm, ⟨13, _⟩ => ⟨S512x768, .f32⟩
  | .hbm, ⟨14, _⟩ => ⟨S8704x768, .f32⟩
  | .hbm, ⟨15, _⟩ => ⟨S8704x768, .bf16⟩
  | .hbm, ⟨16, _⟩ => ⟨S512x256, .f32⟩
  | .hbm, ⟨17, _⟩ => ⟨S8192x256, .f32⟩
  | .hbm, ⟨18, _⟩ => ⟨S8704x256, .f32⟩
  | .hbm, ⟨19, _⟩ => ⟨S512x256, .f32⟩
  | .hbm, ⟨20, _⟩ => ⟨S8192x256, .f32⟩
  | .hbm, ⟨21, _⟩ => ⟨S8704x256, .f32⟩
  | .hbm, ⟨22, _⟩ => ⟨S8704x512, .f32⟩
  | .hbm, ⟨23, _⟩ => ⟨S8704x512, .bf16⟩
  | .hbm, ⟨24, _⟩ => ⟨S8192x768, .bf16⟩
  | .hbm, ⟨25, _⟩ => ⟨S2x4096x3x4x64, .bf16⟩
  | .hbm, ⟨26, _⟩ => ⟨S2x4096x4x3x64, .bf16⟩
  | .hbm, ⟨27, _⟩ => ⟨S2x4096x768, .bf16⟩
  | .local _ .vmem, ⟨0, _⟩ => ⟨S128x768, .bf16⟩
  | .local _ .vmem, ⟨1, _⟩ => ⟨S128x768, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x768, .bf16⟩
  | .local _ .vmem, ⟨11, _⟩ => ⟨S128x768, .bf16⟩
  | .local _ .smem, ⟨0, _⟩ => ⟨S12, .f32⟩
  | _, _ => ⟨S2x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.addi c4_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.addi c4_i32 v0
  let c1_i32 : BitVec 32 := 1#32
  let v2 : BitVec 32 := Scalar.subi arg1 c1_i32
  let c0_i32 : BitVec 32 := 0#32
  let v3 : BitVec 32 := Scalar.maxsi v2 c0_i32
  let v4 : BitVec 32 := Scalar.addi v1 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.addi c4_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.addi c4_i32 v0
  let c1_i32 : BitVec 32 := 1#32
  let v2 : BitVec 32 := Scalar.addi arg1 c1_i32
  let c31_i32 : BitVec 32 := 31#32
  let v3 : BitVec 32 := Scalar.minsi v2 c31_i32
  let v4 : BitVec 32 := Scalar.addi v1 v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2x4096x12x64 : Shape := ⟨4, ![2, 4096, 12, 64]⟩
abbrev S2x4096x4x64 : Shape := ⟨4, ![2, 4096, 4, 64]⟩
abbrev S2x256x4x64 : Shape := ⟨4, ![2, 256, 4, 64]⟩
abbrev S12 : Shape := ⟨1, ![12]⟩
abbrev S2x32x128x4x3x64 : Shape := ⟨6, ![2, 32, 128, 4, 3, 64]⟩
abbrev S_ : Shape := ⟨0, ![]⟩
abbrev S2x4352x4x64 : Shape := ⟨4, ![2, 4352, 4, 64]⟩
abbrev S2x34x128x4x64 : Shape := ⟨5, ![2, 34, 128, 4, 64]⟩
abbrev S2x32x128x4x64 : Shape := ⟨5, ![2, 32, 128, 4, 64]⟩
abbrev S2x32x384x4x64 : Shape := ⟨5, ![2, 32, 384, 4, 64]⟩
abbrev S2x32x4x384x128x3 : Shape := ⟨6, ![2, 32, 4, 384, 128, 3]⟩
abbrev S2x32x4x3x128x384 : Shape := ⟨6, ![2, 32, 4, 3, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S2x4x256x32x128x3 : Shape := ⟨6, ![2, 4, 256, 32, 128, 3]⟩
abbrev S2x32x4x3x128x256 : Shape := ⟨6, ![2, 32, 4, 3, 128, 256]⟩
abbrev S4x3 : Shape := ⟨2, ![4, 3]⟩
abbrev S1x1x4x3x1x1 : Shape := ⟨6, ![1, 1, 4, 3, 1, 1]⟩
abbrev S2x32x4x3x128x1 : Shape := ⟨6, ![2, 32, 4, 3, 128, 1]⟩
abbrev S2x32x4x3x128x641 : Shape := ⟨6, ![2, 32, 4, 3, 128, 641]⟩
abbrev S2x32x4x3x128 : Shape := ⟨5, ![2, 32, 4, 3, 128]⟩
abbrev S2x32x4x64x3x128 : Shape := ⟨6, ![2, 32, 4, 64, 3, 128]⟩
abbrev S2x4x64x32x3x128 : Shape := ⟨6, ![2, 4, 64, 32, 3, 128]⟩
abbrev S2x4096x768 : Shape := ⟨3, ![2, 4096, 768]⟩

abbrev nBuf : Space → Nat
  | .hbm => 104
  | .vmem => 0
  | .smem => 0
  | _ => 0

abbrev bufTy : (tb : Table) → Fin (tcTables nBuf tb) → BufTy
  | .hbm, ⟨0, _⟩ => ⟨S2x4096x12x64, .f32⟩
  | .hbm, ⟨1, _⟩ => ⟨S2x4096x4x64, .f32⟩
  | .hbm, ⟨2, _⟩ => ⟨S2x4096x4x64, .f32⟩
  | .hbm, ⟨3, _⟩ => ⟨S2x256x4x64, .f32⟩
  | .hbm, ⟨4, _⟩ => ⟨S2x256x4x64, .f32⟩
  | .hbm, ⟨5, _⟩ => ⟨S12, .f32⟩
  | .hbm, ⟨6, _⟩ => ⟨S2x32x128x4x3x64, .f32⟩
  | .hbm, ⟨7, _⟩ => ⟨S_, .i32⟩
  | .hbm, ⟨8, _⟩ => ⟨S_, .f32⟩
  | .hbm, ⟨9, _⟩ => ⟨S2x4352x4x64, .f32⟩
  | .hbm, ⟨10, _⟩ => ⟨S2x34x128x4x64, .f32⟩
  | .hbm, ⟨11, _⟩ => ⟨S2x32x128x4x64, .f32⟩
  | .hbm, ⟨12, _⟩ => ⟨S2x32x128x4x64, .f32⟩
  | .hbm, ⟨13, _⟩ => ⟨S2x32x128x4x64, .f32⟩
  | .hbm, ⟨14, _⟩ => ⟨S2x32x384x4x64, .f32⟩
  | .hbm, ⟨15, _⟩ => ⟨S_, .i32⟩
  | .hbm, ⟨16, _⟩ => ⟨S_, .f32⟩
  | .hbm, ⟨17, _⟩ => ⟨S2x4352x4x64, .f32⟩
  | .hbm, ⟨18, _⟩ => ⟨S2x34x128x4x64, .f32⟩
  | .hbm, ⟨19, _⟩ => ⟨S2x32x128x4x64, .f32⟩
  | .hbm, ⟨20, _⟩ => ⟨S2x32x128x4x64, .f32⟩
  | .hbm, ⟨21, _⟩ => ⟨S2x32x128x4x64, .f32⟩
  | .hbm, ⟨22, _⟩ => ⟨S2x32x384x4x64, .f32⟩
  | .hbm, ⟨23, _⟩ => ⟨S2x32x4x384x128x3, .f32⟩
  | .hbm, ⟨24, _⟩ => ⟨S2x32x4x3x128x384, .f32⟩
  | .hbm, ⟨25, _⟩ => ⟨S_, .f32⟩
  | .hbm, ⟨26, _⟩ => ⟨S2x32x4x3x128x384, .f32⟩
  | .hbm, ⟨27, _⟩ => ⟨S2x32x4x3x128x384, .f32⟩
  | .hbm, ⟨28, _⟩ => ⟨S128, .i32⟩
  | .hbm, ⟨29, _⟩ => ⟨S128x1, .i32⟩
  | .hbm, ⟨30, _⟩ => ⟨S384, .i32⟩
  | .hbm, ⟨31, _⟩ => ⟨S1x384, .i32⟩
  | .hbm, ⟨32, _⟩ => ⟨S_, .i32⟩
  | .hbm, ⟨33, _⟩ => ⟨S1x384, .i32⟩
  | .hbm, ⟨34, _⟩ => ⟨S1x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x384, .i32⟩
  | .hbm, ⟨47, _⟩ => ⟨S32x1x384, .i32⟩
  | .hbm, ⟨48, _⟩ => ⟨S32x1x384, .i32⟩
  | .hbm, ⟨49, _⟩ => ⟨S32x1x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S1x128x384, .i1⟩
  | .hbm, ⟨55, _⟩ => ⟨S_, .i32⟩
  | .hbm, ⟨56, _⟩ => ⟨S32x1x384, .i32⟩
  | .hbm, ⟨57, _⟩ => ⟨S32x1x384, .i1⟩
  | .hbm, ⟨58, _⟩ => ⟨S32x128x384, .i1⟩
  | .hbm, ⟨59, _⟩ => ⟨S32x128x384, .i1⟩
  | .hbm, ⟨60, _⟩ => ⟨S32x128x384, .i1⟩
  | .hbm, ⟨61, _⟩ => ⟨S_, .i32⟩
  | .hbm, ⟨62, _⟩ => ⟨S32x1x384, .i32⟩
  | .hbm, ⟨63, _⟩ => ⟨S32x1x384, .i1⟩
  | .hbm, ⟨64, _⟩ => ⟨S32x128x384, .i1⟩
  | .hbm, ⟨65, _⟩ => ⟨S32x128x384, .i1⟩
  | .hbm, ⟨66, _⟩ => ⟨S1x32x1x1x128x384, .i1⟩
  | .hbm, ⟨67, _⟩ => ⟨S_, .f32⟩
  | .hbm, ⟨68, _⟩ => ⟨S_, .f32⟩
  | .hbm, ⟨69, _⟩ => ⟨S2x32x4x3x128x384, .i1⟩
  | .hbm, ⟨70, _⟩ => ⟨S2x32x4x3x128x384, .f32⟩
  | .hbm, ⟨71, _⟩ => ⟨S2x32x4x3x128x384, .f32⟩
  | .hbm, ⟨72, _⟩ => ⟨S2x4x256x32x128x3, .f32⟩
  | .hbm, ⟨73, _⟩ => ⟨S2x32x4x3x128x256, .f32⟩
  | .hbm, ⟨74, _⟩ => ⟨S_, .f32⟩
  | .hbm, ⟨75, _⟩ => ⟨S2x32x4x3x128x256, .f32⟩
  | .hbm, ⟨76, _⟩ => ⟨S2x32x4x3x128x256, .f32⟩
  | .hbm, ⟨77, _⟩ => ⟨S4x3, .f32⟩
  | .hbm, ⟨78, _⟩ => ⟨S1x1x4x3x1x1, .f32⟩
  | .hbm, ⟨79, _⟩ => ⟨S2x32x4x3x128x1, .f32⟩
  | .hbm, ⟨80, _⟩ => ⟨S2x32x4x3x128x641, .f32⟩
  | .hbm, ⟨81, _⟩ => ⟨S_, .f32⟩
  | .hbm, ⟨82, _⟩ => ⟨S2x32x4x3x128, .f32⟩
  | .hbm, ⟨83, _⟩ => ⟨S_, .f32⟩
  | .hbm, ⟨84, _⟩ => ⟨S2x32x4x3x128, .f32⟩
  | .hbm, ⟨85, _⟩ => ⟨S2x32x4x3x128, .f32⟩
  | .hbm, ⟨86, _⟩ => ⟨S2x32x4x3x128x1, .f32⟩
  | .hbm, ⟨87, _⟩ => ⟨S2x32x4x3x128x641, .f32⟩
  | .hbm, ⟨88, _⟩ => ⟨S2x32x4x3x128x641, .f32⟩
  | .hbm, ⟨89, _⟩ => ⟨S2x32x4x3x128x641, .f32⟩
  | .hbm, ⟨90, _⟩ => ⟨S_, .f32⟩
  | .hbm, ⟨91, _⟩ => ⟨S2x32x4x3x128, .f32⟩
  | .hbm, ⟨92, _⟩ => ⟨S2x32x4x3x128x1, .f32⟩
  | .hbm, ⟨93, _⟩ => ⟨S2x32x4x3x128x641, .f32⟩
  | .hbm, ⟨94, _⟩ => ⟨S2x32x4x3x128x641, .f32⟩
  | .hbm, ⟨95, _⟩ => ⟨S2x32x4x3x128x384, .f32⟩
  | .hbm, ⟨96, _⟩ => ⟨S2x32x4x3x128x256, .f32⟩
  | .hbm, ⟨97, _⟩ => ⟨S2x32x4x64x3x128, .f32⟩
  | .hbm, ⟨98, _⟩ => ⟨S2x32x128x4x3x64, .f32⟩
  | .hbm, ⟨99, _⟩ => ⟨S2x4x64x32x3x128, .f32⟩
  | .hbm, ⟨100, _⟩ => ⟨S2x32x128x4x3x64, .f32⟩
  | .hbm, ⟨101, _⟩ => ⟨S2x32x128x4x3x64, .f32⟩
  | .hbm, ⟨102, _⟩ => ⟨S2x4096x768, .f32⟩
  | .hbm, ⟨103, _⟩ => ⟨S2x4096x768, .bf16⟩
  | _, _ => ⟨S2x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Ffn.lean ====
abbrev S2x4096x2048 : Shape := ⟨3, ![2, 4096, 2048]⟩
abbrev S2048x11264 : Shape := ⟨2, ![2048, 11264]⟩
abbrev S5632x2048 : Shape := ⟨2, ![5632, 2048]⟩
abbrev S2x8x12288 : Shape := ⟨3, ![2, 8, 12288]⟩
abbrev S2048 : Shape := ⟨1, ![2048]⟩
abbrev S96x1x2048 : Shape := ⟨3, ![96, 1, 2048]⟩
abbrev S8192x2048 : Shape := ⟨2, ![8192, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S1x2048x256 : Shape := ⟨3, ![1, 2048, 256]⟩
abbrev S2048x256 : Shape := ⟨2, ![2048, 256]⟩
abbrev S512x256 : Shape := ⟨2, ![512, 256]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x11264, .f32⟩
  | .hbm, ⟨3, _⟩ => ⟨S5632x2048, .f32⟩
  | .hbm, ⟨4, _⟩ => ⟨S2x8x12288, .f32⟩
  | .hbm, ⟨5, _⟩ => ⟨S2048, .f32⟩
  | .hbm, ⟨6, _⟩ => ⟨S96x1x2048, .f32⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S2048x11264, .bf16⟩
  | .hbm, ⟨11, _⟩ => ⟨S1x2048x11264, .bf16⟩
  | .hbm, ⟨12, _⟩ => ⟨S5632x2048, .bf16⟩
  | .hbm, ⟨13, _⟩ => ⟨S1x5632x2048, .bf16⟩
  | .hbm, ⟨14, _⟩ => ⟨S1x2048, .f32⟩
  | .hbm, ⟨15, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v37 : BitVec 1 := Scalar.cmpi .eq arg1 c10_i32
  let v38 : BitVec 32 := Scalar.extui v37
  let c0_i32_28 : BitVec 32 := 0#32
  let v39 : BitVec 1 := Scalar.cmpi .ne v38 c0_i32_28
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c512_i32 : BitVec 32 := 512#32
  let v1 : BitVec 32 := Scalar.muli v0 c512_i32
  let c512_i32_0 : BitVec 32 := 512#32
  let v2 : BitVec 1 := Scalar.cmpi .slt v1 c512_i32_0
  let c512_i32_1 : BitVec 32 := 512#32
  let v3 : BitVec 32 := Scalar.subi v1 c512_i32_1
  let c0_i32 : BitVec 32 := 0#32
  let v4 : BitVec 32 := Scalar.maxsi v3 c0_i32
  let c4096_i32 : BitVec 32 := 4096#32
  let v5 : BitVec 32 := Scalar.divsi v4 c4096_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c4096_i32 c0_i32_4
  let v12 : BitVec 32 := Scalar.extui v11
  let c0_i32_5 : BitVec 32 := 0#32
  let v13 : BitVec 1 := Scalar.cmpi .slt c4096_i32 c0_i32_5
  let v14 : BitVec 32 := Scalar.extui v13
  let v15 : BitVec 32 := Scalar.subi v12 v14
  let v16 : BitVec 1 := Scalar.cmpi .ne v10 v15
  let v17 : BitVec 32 := Scalar.remsi v4 c4096_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c6_i32 : BitVec 32 := 6#32
  let v24 : BitVec 32 := Scalar.muli v23 c6_i32
  let c48_i32 : BitVec 32 := 48#32
  let v25 : BitVec 32 := Scalar.addi c48_i32 v24
  let c5_i32 : BitVec 32 := 5#32
  let v26 : BitVec 32 := Scalar.addi v25 c5_i32
  let c0_i32_10 : BitVec 32 := 0#32
  let c0_i32_11 : BitVec 32 := 0#32
  let c0_i32_12 : BitVec 32 := 0#32
  ![v26.toNat, c0_i32_10.toNat, c0_i32_11.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S2x4096x2048 : Shape := ⟨3, ![2, 4096, 2048]⟩
abbrev S2048x11264 : Shape := ⟨2, ![2048, 11264]⟩
abbrev S5632x2048 : Shape := ⟨2, ![5632, 2048]⟩
abbrev S2x8x12288 : Shape := ⟨3, ![2, 8, 12288]⟩
abbrev S2048 : Shape := ⟨1, ![2048]⟩
abbrev S1x2x12288 : Shape := ⟨3, ![1, 2, 12288]⟩
abbrev S2x12288 : Shape := ⟨2, ![2, 12288]⟩
abbrev S2x1x12288 : Shape := ⟨3, ![2, 1, 12288]⟩
abbrev S2x1x2048 : Shape := ⟨3, ![2, 1, 2048]⟩
abbrev S2x4096x11264 : Shape := ⟨3, ![2, 4096, 11264]⟩
abbrev S2x4096x5632 : Shape := ⟨3, ![2, 4096, 5632]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x11264, .f32⟩
  | .hbm, ⟨3, _⟩ => ⟨S5632x2048, .f32⟩
  | .hbm, ⟨4, _⟩ => ⟨S2x8x12288, .f32⟩
  | .hbm, ⟨5, _⟩ => ⟨S2048, .f32⟩
  | .hbm, ⟨6, _⟩ => ⟨S1x2x12288, .f32⟩
  | .hbm, ⟨7, _⟩ => ⟨S2x12288, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x4096x11264, .f32⟩
  | .hbm, ⟨16, _⟩ => ⟨S2x4096x5632, .f32⟩
  | .hbm, ⟨17, _⟩ => ⟨S2x4096x5632, .f32⟩
  | .hbm, ⟨18, _⟩ => ⟨S2x4096x5632, .f32⟩
  | .hbm, ⟨19, _⟩ => ⟨S2x4096x5632, .f32⟩
  | .hbm, ⟨20, _⟩ => ⟨S_, .f32⟩
  | .hbm, ⟨21, _⟩ => ⟨S2x4096x5632, .f32⟩
  | .hbm, ⟨22, _⟩ => ⟨S2x4096x5632, .f32⟩
  | .hbm, ⟨23, _⟩ => ⟨S_, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x2048, .f32⟩
  | .hbm, ⟨44, _⟩ => ⟨S2x4096x2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Ffn0.lean ====
abbrev S2x4096x2048 : Shape := ⟨3, ![2, 4096, 2048]⟩
abbrev S2x256x2048 : Shape := ⟨3, ![2, 256, 2048]⟩
abbrev S2048x11264 : Shape := ⟨2, ![2048, 11264]⟩
abbrev S5632x2048 : Shape := ⟨2, ![5632, 2048]⟩
abbrev S2x8x12288 : Shape := ⟨3, ![2, 8, 12288]⟩
abbrev S2048 : Shape := ⟨1, ![2048]⟩
abbrev S96x1x2048 : Shape := ⟨3, ![96, 1, 2048]⟩
abbrev S512x2048 : Shape := ⟨2, ![512, 2048]⟩
abbrev S8192x2048 : Shape := ⟨2, ![8192, 2048]⟩
abbrev S8704x2048 : Shape := ⟨2, ![8704, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S1x2048x256 : Shape := ⟨3, ![1, 2048, 256]⟩
abbrev S2048x256 : Shape := ⟨2, ![2048, 256]⟩
abbrev S512x256 : Shape := ⟨2, ![512, 256]⟩
abbrev S1x256x2048 : Shape := ⟨3, ![1, 256, 2048]⟩
abbrev S256x2048 : Shape := ⟨2, ![256, 2048]⟩

abbrev nBuf : Space → Nat
  | .hbm => 26
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S2048x11264, .f32⟩
  | .hbm, ⟨5, _⟩ => ⟨S5632x2048, .f32⟩
  | .hbm, ⟨6, _⟩ => ⟨S2x8x12288, .f32⟩
  | .hbm, ⟨7, _⟩ => ⟨S2048, .f32⟩
  | .hbm, ⟨8, _⟩ => ⟨S96x1x2048, .f32⟩
  | .hbm, ⟨9, _⟩ => ⟨S512x2048, .f32⟩
  | .hbm, ⟨10, _⟩ => ⟨S8192x2048, .f32⟩
  | .hbm, ⟨11, _⟩ => ⟨S8704x2048, .f32⟩
  | .hbm, ⟨12, _⟩ => ⟨S8704x2048, .bf16⟩
  | .hbm, ⟨13, _⟩ => ⟨S512x2048, .f32⟩
  | .hbm, ⟨14, _⟩ => ⟨S8192x2048, .f32⟩
  | .hbm, ⟨15, _⟩ => ⟨S8704x2048, .f32⟩
  | .hbm, ⟨16, _⟩ => ⟨S2048x11264, .bf16⟩
  | .hbm, ⟨17, _⟩ => ⟨S1x2048x11264, .bf16⟩
  | .hbm, ⟨18, _⟩ => ⟨S5632x2048, .bf16⟩
  | .hbm, ⟨19, _⟩ => ⟨S1x5632x2048, .bf16⟩
  | .hbm, ⟨20, _⟩ => ⟨S1x2048, .f32⟩
  | .hbm, ⟨21, _⟩ => ⟨S8704x2048, .f32⟩
  | .hbm, ⟨22, _⟩ => ⟨S8192x2048, .f32⟩
  | .hbm, ⟨23, _⟩ => ⟨S2x4096x2048, .f32⟩
  | .hbm, ⟨24, _⟩ => ⟨S512x2048, .f32⟩
  | .hbm, ⟨25, _⟩ => ⟨S2x256x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v37 : BitVec 1 := Scalar.cmpi .eq arg1 c10_i32
  let v38 : BitVec 32 := Scalar.extui v37
  let c0_i32_28 : BitVec 32 := 0#32
  let v39 : BitVec 1 := Scalar.cmpi .ne v38 c0_i32_28
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c512_i32 : BitVec 32 := 512#32
  let v1 : BitVec 32 := Scalar.muli v0 c512_i32
  let c512_i32_0 : BitVec 32 := 512#32
  let v2 : BitVec 1 := Scalar.cmpi .slt v1 c512_i32_0
  let c512_i32_1 : BitVec 32 := 512#32
  let v3 : BitVec 32 := Scalar.subi v1 c512_i32_1
  let c0_i32_2 : BitVec 32 := 0#32
  let v4 : BitVec 32 := Scalar.maxsi v3 c0_i32_2
  let c4096_i32 : BitVec 32 := 4096#32
  let v5 : BitVec 32 := Scalar.divsi v4 c4096_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c4096_i32 c0_i32_5
  let v12 : BitVec 32 := Scalar.extui v11
  let c0_i32_6 : BitVec 32 := 0#32
  let v13 : BitVec 1 := Scalar.cmpi .slt c4096_i32 c0_i32_6
  let v14 : BitVec 32 := Scalar.extui v13
  let v15 : BitVec 32 := Scalar.subi v12 v14
  let v16 : BitVec 1 := Scalar.cmpi .ne v10 v15
  let v17 : BitVec 32 := Scalar.remsi v4 c4096_i32
  let c0_i32_7 : BitVec 32 := 0#32
  let v18 : BitVec 1 := Scalar.cmpi .ne v17 c0_i32_7
  let v19 : BitVec 1 := Scalar.andi v16 v18
  let c1_i32 : BitVec 32 := 1#32
  let v20 : BitVec 32 := Scalar.subi v5 c1_i32
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c6_i32 : BitVec 32 := 6#32
  let v24 : BitVec 32 := Scalar.muli v23 c6_i32
  let c0_i32_10 : BitVec 32 := 0#32
  let v25 : BitVec 32 := Scalar.addi c0_i32_10 v24
  let c5_i32 : BitVec 32 := 5#32
  let v26 : BitVec 32 := Scalar.addi v25 c5_i32
  let c0_i32_11 : BitVec 32 := 0#32
  let c0_i32_12 : BitVec 32 := 0#32
  let c0_i32_13 : BitVec 32 := 0#32
  ![v26.toNat, c0_i32_11.toNat, c0_i32_12.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn0RefIdeal.lean ====
abbrev S2x4096x2048 : Shape := ⟨3, ![2, 4096, 2048]⟩
abbrev S2x256x2048 : Shape := ⟨3, ![2, 256, 2048]⟩
abbrev S2048x11264 : Shape := ⟨2, ![2048, 11264]⟩
abbrev S5632x2048 : Shape := ⟨2, ![5632, 2048]⟩
abbrev S2x8x12288 : Shape := ⟨3, ![2, 8, 12288]⟩
abbrev S2048 : Shape := ⟨1, ![2048]⟩
abbrev S1x2x12288 : Shape := ⟨3, ![1, 2, 12288]⟩
abbrev S2x12288 : Shape := ⟨2, ![2, 12288]⟩
abbrev S2x1x12288 : Shape := ⟨3, ![2, 1, 12288]⟩
abbrev S1x1x12288 : Shape := ⟨3, ![1, 1, 12288]⟩
abbrev S12288 : Shape := ⟨1, ![12288]⟩
abbrev S2x1x2048 : Shape := ⟨3, ![2, 1, 2048]⟩
abbrev S2x4096x11264 : Shape := ⟨3, ![2, 4096, 11264]⟩
abbrev S2x4096x5632 : Shape := ⟨3, ![2, 4096, 5632]⟩
abbrev S_ : Shape := ⟨0, ![]⟩
abbrev S2x256x11264 : Shape := ⟨3, ![2, 256, 11264]⟩
abbrev S2x256x5632 : Shape := ⟨3, ![2, 256, 5632]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S2048x11264, .f32⟩
  | .hbm, ⟨5, _⟩ => ⟨S5632x2048, .f32⟩
  | .hbm, ⟨6, _⟩ => ⟨S2x8x12288, .f32⟩
  | .hbm, ⟨7, _⟩ => ⟨S2048, .f32⟩
  | .hbm, ⟨8, _⟩ => ⟨S1x2x12288, .f32⟩
  | .hbm, ⟨9, _⟩ => ⟨S2x12288, .f32⟩
  | .hbm, ⟨10, _⟩ => ⟨S2x1x12288, .f32⟩
  | .hbm, ⟨11, _⟩ => ⟨S1x1x12288, .f32⟩
  | .hbm, ⟨12, _⟩ => ⟨S12288, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2x4096x11264, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S_, .f32⟩
  | .hbm, ⟨31, _⟩ => ⟨S2x4096x5632, .f32⟩
  | .hbm, ⟨32, _⟩ => ⟨S2x4096x5632, .f32⟩
  | .hbm, ⟨33, _⟩ => ⟨S_, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x256x11264, .f32⟩
  | .hbm, ⟨43, _⟩ => ⟨S2x256x5632, .f32⟩
  | .hbm, ⟨44, _⟩ => ⟨S2x256x5632, .f32⟩
  | .hbm, ⟨45, _⟩ => ⟨S2x256x5632, .f32⟩
  | .hbm, ⟨46, _⟩ => ⟨S2x256x5632, .f32⟩
  | .hbm, ⟨47, _⟩ => ⟨S_, .f32⟩
  | .hbm, ⟨48, _⟩ => ⟨S2x256x5632, .f32⟩
  | .hbm, ⟨49, _⟩ => ⟨S2x256x5632, .f32⟩
  | .hbm, ⟨50, _⟩ => ⟨S_, .f32⟩
  | .hbm, ⟨51, _⟩ => ⟨S2x256x5632, .f32⟩
  | .hbm, ⟨52, _⟩ => ⟨S2x256x5632, .f32⟩
  | .hbm, ⟨53, _⟩ => ⟨S2x256x5632, .f32⟩
  | .hbm, ⟨54, _⟩ => ⟨S2x256x5632, .f32⟩
  | .hbm, ⟨55, _⟩ => ⟨S2x256x2048, .f32⟩
  | .hbm, ⟨56, _⟩ => ⟨S1x1x2048, .f32⟩
  | .hbm, ⟨57, _⟩ => ⟨S2x256x2048, .f32⟩
  | .hbm, ⟨58, _⟩ => ⟨S2x256x2048, .f32⟩
  | .hbm, ⟨59, _⟩ => ⟨S2x256x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== In0.lean ====
abbrev S2x4096x2048 : Shape := ⟨3, ![2, 4096, 2048]⟩
abbrev S2x256x2048 : Shape := ⟨3, ![2, 256, 2048]⟩
abbrev S2x8x12288 : Shape := ⟨3, ![2, 8, 12288]⟩
abbrev S2048 : Shape := ⟨1, ![2048]⟩
abbrev S2x2048x4480 : Shape := ⟨3, ![2, 2048, 4480]⟩
abbrev S96x1x2048 : Shape := ⟨3, ![96, 1, 2048]⟩
abbrev S2x2048x768 : Shape := ⟨3, ![2, 2048, 768]⟩
abbrev S2x2048x4x3x64 : Shape := ⟨5, ![2, 2048, 4, 3, 64]⟩
abbrev S2x2048x3x4x64 : Shape := ⟨5, ![2, 2048, 3, 4, 64]⟩
abbrev S512x2048 : Shape := ⟨2, ![512, 2048]⟩
abbrev S8192x2048 : Shape := ⟨2, ![8192, 2048]⟩
abbrev S16 : Shape := ⟨1, ![16]⟩
abbrev S_ : Shape := ⟨0, ![]⟩
abbrev S64 : Shape := ⟨1, ![64]⟩
abbrev S64x1 : Shape := ⟨2, ![64, 1]⟩
abbrev S1x16 : Shape := ⟨2, ![1, 16]⟩
abbrev S64x16 : Shape := ⟨2, ![64, 16]⟩
abbrev S64x64x16 : Shape := ⟨3, ![64, 64, 16]⟩
abbrev S4096x16 : Shape := ⟨2, ![4096, 16]⟩
abbrev S1x64x1x16 : Shape := ⟨4, ![1, 64, 1, 16]⟩
abbrev S64x64x1x16 : Shape := ⟨4, ![64, 64, 1, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S512x128 : Shape := ⟨2, ![512, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S8704x128 : Shape := ⟨2, ![8704, 128]⟩
abbrev S1x2048 : Shape := ⟨2, ![1, 2048]⟩
abbrev S8704x2688 : Shape := ⟨2, ![8704, 2688]⟩
abbrev S8704x512 : Shape := ⟨2, ![8704, 512]⟩
abbrev S8704x768 : Shape := ⟨2, ![8704, 768]⟩
abbrev S256x2048 : Shape := ⟨2, ![256, 2048]⟩
abbrev S1x1x2048 : Shape := ⟨3, ![1, 1, 2048]⟩
abbrev S1x2048x4480 : Shape := ⟨3, ![1, 2048, 4480]⟩
abbrev S1x2048x768 : Shape := ⟨3, ![1, 2048, 768]⟩
abbrev S256x128 : Shape := ⟨2, ![256, 128]⟩
abbrev S256x2688 : Shape := ⟨2, ![256, 2688]⟩
abbrev S256x512 : Shape := ⟨2, ![256, 512]⟩
abbrev S256x768 : Shape := ⟨2, ![256, 768]⟩
abbrev S256 : Shape := ⟨1, ![256]⟩
abbrev S256x1 : Shape := ⟨2, ![256, 1]⟩
abbrev S1x2048x2688 : Shape := ⟨3, ![1, 2048, 2688]⟩
abbrev S2048x2688 : Shape := ⟨2, ![2048, 2688]⟩
abbrev S1x2048x512 : Shape := ⟨3, ![1, 2048, 512]⟩
abbrev S2048x512 : Shape := ⟨2, ![2048, 512]⟩
abbrev S2048x768 : Shape := ⟨2, ![2048, 768]⟩
abbrev S1x2048x256 : Shape := ⟨3, ![1, 2048, 256]⟩
abbrev S2048x256 : Shape := ⟨2, ![2048, 256]⟩
abbrev S256x256 : Shape := ⟨2, ![256, 256]⟩
abbrev S8704x256 : Shape := ⟨2, ![8704, 256]⟩
abbrev S8192x2688 : Shape := ⟨2, ![8192, 2688]⟩
abbrev S2x4096x2688 : Shape := ⟨3, ![2, 4096, 2688]⟩
abbrev S512x2688 : Shape := ⟨2, ![512, 2688]⟩
abbrev S2x256x2688 : Shape := ⟨3, ![2, 256, 2688]⟩
abbrev S8192x512 : Shape := ⟨2, ![8192, 512]⟩
abbrev S2x4096x512 : Shape := ⟨3, ![2, 4096, 512]⟩
abbrev S8192x768 : Shape := ⟨2, ![8192, 768]⟩
abbrev S2x4096x3x4x64 : Shape := ⟨5, ![2, 4096, 3, 4, 64]⟩
abbrev S2x4096x4x3x64 : Shape := ⟨5, ![2, 4096, 4, 3, 64]⟩
abbrev S2x4096x12x64 : Shape := ⟨4, ![2, 4096, 12, 64]⟩
abbrev S512x768 : Shape := ⟨2, ![512, 768]⟩
abbrev S2x256x3x4x64 : Shape := ⟨5, ![2, 256, 3, 4, 64]⟩
abbrev S2x256x4x3x64 : Shape := ⟨5, ![2, 256, 4, 3, 64]⟩
abbrev S2x256x12x64 : Shape := ⟨4, ![2, 256, 12, 64]⟩
abbrev S8192x256 : Shape := ⟨2, ![8192, 256]⟩
abbrev S2x4096x4x64 : Shape := ⟨4, ![2, 4096, 4, 64]⟩
abbrev S512x256 : Shape := ⟨2, ![512, 256]⟩
abbrev S2x256x4x64 : Shape := ⟨4, ![2, 256, 4, 64]⟩

abbrev nBuf : Space → Nat
  | .hbm => 141
  | .vmem => 25
  | .smem => 0
  | _ => 0

abbrev hbmTy0_0 (i : Nat) : BufTy := match i % 128 with
  | 0 => ⟨S2x4096x2048, .f32⟩
  | 1 => ⟨S2x256x2048, .f32⟩
  | 2 => ⟨S2x8x12288, .f32⟩
  | 3 => ⟨S2048, .f32⟩
  | 4 => ⟨S2x2048x4480, .f32⟩
  | 5 => ⟨S96x1x2048, .f32⟩
  | 6 => ⟨S2x2048x4480, .bf16⟩
  | 7 => ⟨S2x2048x768, .bf16⟩
  | 8 => ⟨S2x2048x4x3x64, .bf16⟩
  | 9 => ⟨S2x2048x3x4x64, .bf16⟩
  | 10 => ⟨S2x2048x768, .bf16⟩
  | 11 => ⟨S512x2048, .f32⟩
  | 12 => ⟨S8192x2048, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S64, .i32⟩
  | 22 => ⟨S64, .f32⟩
  | 23 => ⟨S64x1, .f32⟩
  | 24 => ⟨S1x16, .f32⟩
  | 25 => ⟨S64x16, .f32⟩
  | 26 => ⟨S64x16, .f32⟩
  | 27 => ⟨S64x16, .f32⟩
  | 28 => ⟨S64, .i32⟩
  | 29 => ⟨S64, .f32⟩
  | 30 => ⟨S64x1, .f32⟩
  | 31 => ⟨S1x16, .f32⟩
  | 32 => ⟨S64x16, .f32⟩
  | 33 => ⟨S64x16, .f32⟩
  | 34 => ⟨S64x16, .f32⟩
  | 35 => ⟨S64x16, .f32⟩
  | 36 => ⟨S64x64x16, .f32⟩
  | 37 => ⟨S4096x16, .f32⟩
  | 38 => ⟨S64x16, .f32⟩
  | 39 => ⟨S1x64x1x16, .f32⟩
  | 40 => ⟨S64x64x1x16, .f32⟩
  | 41 => ⟨S4096x16, .f32⟩
  | 42 => ⟨S4096x64, .f32⟩
  | 43 => ⟨S1x4096x1x64, .f32⟩
  | 44 => ⟨S1x4096x2x64, .f32⟩
  | 45 => ⟨S4096x128, .f32⟩
  | 46 => ⟨S64x16, .f32⟩
  | 47 => ⟨S64x64x16, .f32⟩
  | 48 => ⟨S4096x16, .f32⟩
  | 49 => ⟨S64x16, .f32⟩
  | 50 => ⟨S1x64x1x16, .f32⟩
  | 51 => ⟨S64x64x1x16, .f32⟩
  | 52 => ⟨S4096x16, .f32⟩
  | 53 => ⟨S4096x64, .f32⟩
  | 54 => ⟨S1x4096x1x64, .f32⟩
  | 55 => ⟨S1x4096x2x64, .f32⟩
  | 56 => ⟨S4096x128, .f32⟩
  | 57 => ⟨S128, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128, .i32⟩
  | 65 => ⟨S128, .i32⟩
  | 66 => ⟨S_, .i32⟩
  | 67 => ⟨S128, .i32⟩
  | 68 => ⟨S128, .i1⟩
  | 69 => ⟨S_, .i32⟩
  | 70 => ⟨S128, .i32⟩
  | 71 => ⟨S128, .i1⟩
  | 72 => ⟨S_, .i32⟩
  | 73 => ⟨S_, .i1⟩
  | 74 => ⟨S128, .i1⟩
  | 75 => ⟨S128, .i1⟩
  | 76 => ⟨S128, .i1⟩
  | 77 => ⟨S128, .i32⟩
  | 78 => ⟨S128, .i32⟩
  | 79 => ⟨S128, .i32⟩
  | 80 => ⟨S_, .i32⟩
  | 81 => ⟨S128, .i32⟩
  | 82 => ⟨S128, .i1⟩
  | 83 => ⟨S4096x128, .f32⟩
  | 84 => ⟨S_, .f32⟩
  | 85 => ⟨S_, .f32⟩
  | 86 => ⟨S4096x128, .i1⟩
  | 87 => ⟨S4096x128, .f32⟩
  | 88 => ⟨S4096x128, .f32⟩
  | 89 => ⟨S_, .f32⟩
  | 90 => ⟨S_, .f32⟩
  | 91 => ⟨S4096x128, .i1⟩
  | 92 => ⟨S4096x128, .f32⟩
  | 93 => ⟨S4096x128, .f32⟩
  | 94 => ⟨S_, .f32⟩
  | 95 => ⟨S512x128, .f32⟩
  | 96 => ⟨S1x4096x1x128, .f32⟩
  | 97 => ⟨S2x4096x1x128, .f32⟩
  | 98 => ⟨S8192x128, .f32⟩
  | 99 => ⟨S8704x128, .f32⟩
  | 100 => ⟨S_, .f32⟩
  | 101 => ⟨S512x128, .f32⟩
  | 102 => ⟨S1x4096x1x128, .f32⟩
  | 103 => ⟨S2x4096x1x128, .f32⟩
  | 104 => ⟨S8192x128, .f32⟩
  | 105 => ⟨S8704x128, .f32⟩
  | 106 => ⟨S_, .f32⟩
  | 107 => ⟨S512x128, .f32⟩
  | 108 => ⟨S1x4096x1x128, .f32⟩
  | 109 => ⟨S2x4096x1x128, .f32⟩
  | 110 => ⟨S8192x128, .f32⟩
  | 111 => ⟨S8704x128, .f32⟩
  | 112 => ⟨S1x2048, .f32⟩
  | 113 => ⟨S8704x2688, .f32⟩
  | 114 => ⟨S8704x512, .f32⟩
  | 115 => ⟨S8704x768, .bf16⟩
  | 116 => ⟨S8704x512, .bf16⟩
  | 117 => ⟨S8704x256, .bf16⟩
  | 118 => ⟨S8704x256, .bf16⟩
  | 119 => ⟨S8192x2688, .f32⟩
  | 120 => ⟨S2x4096x2688, .f32⟩
  | 121 => ⟨S512x2688, .f32⟩
  | 122 => ⟨S2x256x2688, .f32⟩
  | 123 => ⟨S8192x512, .f32⟩
  | 124 => ⟨S2x4096x512, .f32⟩
  | 125 => ⟨S8192x768, .bf16⟩
  | 126 => ⟨S2x4096x3x4x64, .bf16⟩
  | 127 => ⟨S2x4096x4x3x64, .bf16⟩
  | _ => ⟨S2x4096x2048, .f32⟩

abbrev hbmTy0_1 (i : Nat) : BufTy := match i % 128 with
  | 0 => ⟨S2x4096x12x64, .bf16⟩
  | 1 => ⟨S512x768, .bf16⟩
  | 2 => ⟨S2x256x3x4x64, .bf16⟩
  | 3 => ⟨S2x256x4x3x64, .bf16⟩
  | 4 => ⟨S2x256x12x64, .bf16⟩
  | 5 => ⟨S8192x256, .bf16⟩
  | 6 => ⟨S2x4096x4x64, .bf16⟩
  | 7 => ⟨S8192x256, .bf16⟩
  | 8 => ⟨S2x4096x4x64, .bf16⟩
  | 9 => ⟨S512x256, .bf16⟩
  | 10 => ⟨S2x256x4x64, .bf16⟩
  | 11 => ⟨S512x256, .bf16⟩
  | 12 => ⟨S2x256x4x64, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x4480, .bf16⟩
  | .local _ .vmem, ⟨10, _⟩ => ⟨S1x2048x768, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x2688, .f32⟩
  | .local _ .vmem, ⟨18, _⟩ => ⟨S256x2688, .f32⟩
  | .local _ .vmem, ⟨19, _⟩ => ⟨S256x512, .f32⟩
  | .local _ .vmem, ⟨20, _⟩ => ⟨S256x512, .f32⟩
  | .local _ .vmem, ⟨21, _⟩ => ⟨S256x768, .bf16⟩
  | .local _ .vmem, ⟨22, _⟩ => ⟨S256x768, .bf16⟩
  | .local _ .vmem, ⟨23, _⟩ => ⟨S256x512, .bf16⟩
  | .local _ .vmem, ⟨24, _⟩ => ⟨S256x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_c : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_1 : Ref sig .tc := ⟨.hbm, 66, rfl⟩
abbrev main_call0_v5 : Ref sig .tc := ⟨.hbm, 67, rfl⟩
abbrev main_call0_v6 : Ref sig .tc := ⟨.hbm, 68, rfl⟩
abbrev main_call0_c_2 : Ref sig .tc := ⟨.hbm, 69, rfl⟩
abbrev main_call0_v7 : Ref sig .tc := ⟨.hbm, 70, rfl⟩
abbrev main_call0_v8 : Ref sig .tc := ⟨.hbm, 71, rfl⟩
abbrev main_call0_c_3 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_v51 : Ref sig .tc := ⟨.hbm, 79, rfl⟩
abbrev main_c_1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_2 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v55 : Ref sig .tc := ⟨.hbm, 88, rfl⟩
abbrev main_cst_3 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v56 : Ref sig .tc := ⟨.hbm, 93, rfl⟩
abbrev main_cst_4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_5 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_6 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73_0 : Ref sig .tc := ⟨.hbm, 113, rfl⟩
abbrev main_v73_1 : Ref sig .tc := ⟨.hbm, 114, rfl⟩
abbrev main_v73_2 : Ref sig .tc := ⟨.hbm, 115, rfl⟩
abbrev main_v73_3 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.subi v0 c2_i32
  let c0_i32_0 : BitVec 32 := 0#32
  let v2 : BitVec 32 := Scalar.maxsi v1 c0_i32_0
  let c0_i32_1 : BitVec 32 := 0#32
  let v3 : BitVec 32 := Scalar.addi v2 c0_i32_1
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c512_i32 : BitVec 32 := 512#32
  let v1 : BitVec 1 := Scalar.cmpi .slt v0 c512_i32
  let c512_i32_0 : BitVec 32 := 512#32
  let v2 : BitVec 32 := Scalar.subi v0 c512_i32_0
  let c0_i32 : BitVec 32 := 0#32
  let v3 : BitVec 32 := Scalar.maxsi v2 c0_i32
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c6_i32 : BitVec 32 := 6#32
  let v23 : BitVec 32 := Scalar.muli v22 c6_i32
  let c0_i32_8 : BitVec 32 := 0#32
  let v24 : BitVec 32 := Scalar.addi c0_i32_8 v23
  let c1_i32_9 : BitVec 32 := 1#32
  let v25 : BitVec 32 := Scalar.addi v24 c1_i32_9
  let c0_i32_10 : BitVec 32 := 0#32
  let c0_i32_11 : BitVec 32 := 0#32
  let c0_i32_12 : BitVec 32 := 0#32
  ![v25.toNat, c0_i32_10.toNat, c0_i32_11.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c512_i32 : BitVec 32 := 512#32
  let v1 : BitVec 1 := Scalar.cmpi .slt v0 c512_i32
  let c512_i32_0 : BitVec 32 := 512#32
  let v2 : BitVec 32 := Scalar.subi v0 c512_i32_0
  let c0_i32 : BitVec 32 := 0#32
  let v3 : BitVec 32 := Scalar.maxsi v2 c0_i32
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c6_i32 : BitVec 32 := 6#32
  let v23 : BitVec 32 := Scalar.muli v22 c6_i32
  let c0_i32_8 : BitVec 32 := 0#32
  let v24 : BitVec 32 := Scalar.addi c0_i32_8 v23
  let c0_i32_9 : BitVec 32 := 0#32
  let v25 : BitVec 32 := Scalar.addi v24 c0_i32_9
  let c0_i32_10 : BitVec 32 := 0#32
  let c0_i32_11 : BitVec 32 := 0#32
  let c0_i32_12 : BitVec 32 := 0#32
  ![v25.toNat, c0_i32_10.toNat, c0_i32_11.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x4480 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2688 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== In0RefIdeal.lean ====
abbrev S2x4096x2048 : Shape := ⟨3, ![2, 4096, 2048]⟩
abbrev S2x256x2048 : Shape := ⟨3, ![2, 256, 2048]⟩
abbrev S2x8x12288 : Shape := ⟨3, ![2, 8, 12288]⟩
abbrev S2048 : Shape := ⟨1, ![2048]⟩
abbrev S2x2048x4480 : Shape := ⟨3, ![2, 2048, 4480]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x2x12288 : Shape := ⟨3, ![1, 2, 12288]⟩
abbrev S2x12288 : Shape := ⟨2, ![2, 12288]⟩
abbrev S2x1x12288 : Shape := ⟨3, ![2, 1, 12288]⟩
abbrev S1x1x12288 : Shape := ⟨3, ![1, 1, 12288]⟩
abbrev S12288 : Shape := ⟨1, ![12288]⟩
abbrev S2x1x2048 : Shape := ⟨3, ![2, 1, 2048]⟩
abbrev S2x4096 : Shape := ⟨2, ![2, 4096]⟩
abbrev S2x4096x1 : Shape := ⟨3, ![2, 4096, 1]⟩
abbrev S1x1x2048 : Shape := ⟨3, ![1, 1, 2048]⟩
abbrev S2x256 : Shape := ⟨2, ![2, 256]⟩
abbrev S2x256x1 : Shape := ⟨3, ![2, 256, 1]⟩
abbrev S1x2048x4480 : Shape := ⟨3, ![1, 2048, 4480]⟩
abbrev S2048x4480 : Shape := ⟨2, ![2048, 4480]⟩
abbrev S2x4096x4480 : Shape := ⟨3, ![2, 4096, 4480]⟩
abbrev S2x256x4480 : Shape := ⟨3, ![2, 256, 4480]⟩
abbrev S2x4096x768 : Shape := ⟨3, ![2, 4096, 768]⟩
abbrev S2x4096x12x64 : Shape := ⟨4, ![2, 4096, 12, 64]⟩
abbrev S2x4096x12x16 : Shape := ⟨4, ![2, 4096, 12, 16]⟩
abbrev S4096x1x64 : Shape := ⟨3, ![4096, 1, 64]⟩
abbrev S1x4096x1x64 : Shape := ⟨4, ![1, 4096, 1, 64]⟩
abbrev S2x4096x256 : Shape := ⟨3, ![2, 4096, 256]⟩
abbrev S2x4096x4x64 : Shape := ⟨4, ![2, 4096, 4, 64]⟩
abbrev S2x4096x4x16 : Shape := ⟨4, ![2, 4096, 4, 16]⟩
abbrev S2x256x768 : Shape := ⟨3, ![2, 256, 768]⟩
abbrev S2x256x12x64 : Shape := ⟨4, ![2, 256, 12, 64]⟩
abbrev S2x256x256 : Shape := ⟨3, ![2, 256, 256]⟩
abbrev S2x256x4x64 : Shape := ⟨4, ![2, 256, 4, 64]⟩
abbrev S2x4096x2688 : Shape := ⟨3, ![2, 4096, 2688]⟩
abbrev S2x256x2688 : Shape := ⟨3, ![2, 256, 2688]⟩
abbrev S2x4096x512 : Shape := ⟨3, ![2, 4096, 512]⟩

abbrev nBuf : Space → Nat
  | .hbm => 165
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2x8x12288, .f32⟩
  | 3 => ⟨S2048, .f32⟩
  | 4 => ⟨S2x2048x4480, .f32⟩
  | 5 => ⟨S64, .i32⟩
  | 6 => ⟨S64x64, .i32⟩
  | 7 => ⟨S4096, .i32⟩
  | 8 => ⟨S4096, .f32⟩
  | 9 => ⟨S64, .i32⟩
  | 10 => ⟨S1x64, .i32⟩
  | 11 => ⟨S64x64, .i32⟩
  | 12 => ⟨S4096, .i32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x64, .f32⟩
  | 33 => ⟨S4096x64, .f32⟩
  | 34 => ⟨S4096x64, .f32⟩
  | 35 => ⟨S1x2x12288, .f32⟩
  | 36 => ⟨S2x12288, .f32⟩
  | 37 => ⟨S2x1x12288, .f32⟩
  | 38 => ⟨S1x1x12288, .f32⟩
  | 39 => ⟨S12288, .f32⟩
  | 40 => ⟨S2x1x2048, .f32⟩
  | 41 => ⟨S2x1x2048, .f32⟩
  | 42 => ⟨S2x1x2048, .f32⟩
  | 43 => ⟨S2x1x2048, .f32⟩
  | 44 => ⟨S2x1x2048, .f32⟩
  | 45 => ⟨S2x1x2048, .f32⟩
  | 46 => ⟨S2048, .f32⟩
  | 47 => ⟨S2048, .f32⟩
  | 48 => ⟨S2048, .f32⟩
  | 49 => ⟨S2048, .f32⟩
  | 50 => ⟨S2048, .f32⟩
  | 51 => ⟨S2048, .f32⟩
  | 52 => ⟨S2x4096x2048, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S_, .f32⟩
  | 60 => ⟨S2x4096x1, .f32⟩
  | 61 => ⟨S2x4096x1, .f32⟩
  | 62 => ⟨S2x4096x1, .f32⟩
  | 63 => ⟨S2x4096x2048, .f32⟩
  | 64 => ⟨S2x4096x2048, .f32⟩
  | 65 => ⟨S1x1x2048, .f32⟩
  | 66 => ⟨S2x4096x2048, .f32⟩
  | 67 => ⟨S2x4096x2048, .f32⟩
  | 68 => ⟨S_, .f32⟩
  | 69 => ⟨S2x1x2048, .f32⟩
  | 70 => ⟨S2x1x2048, .f32⟩
  | 71 => ⟨S2x4096x2048, .f32⟩
  | 72 => ⟨S2x4096x2048, .f32⟩
  | 73 => ⟨S2x4096x2048, .f32⟩
  | 74 => ⟨S2x4096x2048, .f32⟩
  | 75 => ⟨S2x256x2048, .f32⟩
  | 76 => ⟨S_, .f32⟩
  | 77 => ⟨S2x256, .f32⟩
  | 78 => ⟨S2x256x1, .f32⟩
  | 79 => ⟨S_, .f32⟩
  | 80 => ⟨S2x256x1, .f32⟩
  | 81 => ⟨S2x256x1, .f32⟩
  | 82 => ⟨S_, .f32⟩
  | 83 => ⟨S2x256x1, .f32⟩
  | 84 => ⟨S2x256x1, .f32⟩
  | 85 => ⟨S2x256x1, .f32⟩
  | 86 => ⟨S2x256x2048, .f32⟩
  | 87 => ⟨S2x256x2048, .f32⟩
  | 88 => ⟨S1x1x2048, .f32⟩
  | 89 => ⟨S2x256x2048, .f32⟩
  | 90 => ⟨S2x256x2048, .f32⟩
  | 91 => ⟨S_, .f32⟩
  | 92 => ⟨S2048, .f32⟩
  | 93 => ⟨S2048, .f32⟩
  | 94 => ⟨S1x1x2048, .f32⟩
  | 95 => ⟨S2x256x2048, .f32⟩
  | 96 => ⟨S2x256x2048, .f32⟩
  | 97 => ⟨S1x1x2048, .f32⟩
  | 98 => ⟨S2x256x2048, .f32⟩
  | 99 => ⟨S2x256x2048, .f32⟩
  | 100 => ⟨S1x2048x4480, .f32⟩
  | 101 => ⟨S2048x4480, .f32⟩
  | 102 => ⟨S2x4096x4480, .f32⟩
  | 103 => ⟨S1x2048x4480, .f32⟩
  | 104 => ⟨S2048x4480, .f32⟩
  | 105 => ⟨S2x256x4480, .f32⟩
  | 106 => ⟨S2x4096x768, .f32⟩
  | 107 => ⟨S2x4096x12x64, .f32⟩
  | 108 => ⟨S2x4096x12x16, .f32⟩
  | 109 => ⟨S2x4096x12x16, .f32⟩
  | 110 => ⟨S2x4096x12x16, .f32⟩
  | 111 => ⟨S2x4096x12x16, .f32⟩
  | 112 => ⟨S2x4096x12x16, .f32⟩
  | 113 => ⟨S2x4096x12x16, .f32⟩
  | 114 => ⟨S2x4096x12x64, .f32⟩
  | 115 => ⟨S4096x1x64, .f32⟩
  | 116 => ⟨S1x4096x1x64, .f32⟩
  | 117 => ⟨S2x4096x12x64, .f32⟩
  | 118 => ⟨S2x4096x12x64, .f32⟩
  | 119 => ⟨S4096x1x64, .f32⟩
  | 120 => ⟨S1x4096x1x64, .f32⟩
  | 121 => ⟨S2x4096x12x64, .f32⟩
  | 122 => ⟨S2x4096x12x64, .f32⟩
  | 123 => ⟨S2x4096x12x64, .f32⟩
  | 124 => ⟨S2x4096x256, .f32⟩
  | 125 => ⟨S2x4096x4x64, .f32⟩
  | 126 => ⟨S2x4096x4x16, .f32⟩
  | 127 => ⟨S2x4096x4x16, .f32⟩
  | _ => ⟨S2x4096x2048, .f32⟩

abbrev hbmTy0_1 (i : Nat) : BufTy := match i % 128 with
  | 0 => ⟨S2x4096x4x16, .f32⟩
  | 1 => ⟨S2x4096x4x16, .f32⟩
  | 2 => ⟨S2x4096x4x16, .f32⟩
  | 3 => ⟨S2x4096x4x16, .f32⟩
  | 4 => ⟨S2x4096x4x64, .f32⟩
  | 5 => ⟨S4096x1x64, .f32⟩
  | 6 => ⟨S1x4096x1x64, .f32⟩
  | 7 => ⟨S2x4096x4x64, .f32⟩
  | 8 => ⟨S2x4096x4x64, .f32⟩
  | 9 => ⟨S4096x1x64, .f32⟩
  | 10 => ⟨S1x4096x1x64, .f32⟩
  | 11 => ⟨S2x4096x4x64, .f32⟩
  | 12 => ⟨S2x4096x4x64, .f32⟩
  | 13 => ⟨S2x4096x4x64, .f32⟩
  | 14 => ⟨S2x4096x256, .f32⟩
  | 15 => ⟨S2x4096x4x64, .f32⟩
  | 16 => ⟨S2x256x768, .f32⟩
  | 17 => ⟨S2x256x12x64, .f32⟩
  | 18 => ⟨S2x256x256, .f32⟩
  | 19 => ⟨S2x256x4x64, .f32⟩
  | 20 => ⟨S2x256x256, .f32⟩
  | 21 => ⟨S2x256x4x64, .f32⟩
  | 22 => ⟨S2x4096x2688, .f32⟩
  | 23 => ⟨S2x256x2688, .f32⟩
  | 24 => ⟨S2x4096x512, .f32⟩
  | 25 => ⟨S_, .f32⟩
  | 26 => ⟨S2x4096x12x64, .f32⟩
  | 27 => ⟨S2x4096x12x64, .f32⟩
  | 28 => ⟨S2x4096x12x64, .bf16⟩
  | 29 => ⟨S_, .f32⟩
  | 30 => ⟨S2x256x12x64, .f32⟩
  | 31 => ⟨S2x256x12x64, .f32⟩
  | 32 => ⟨S2x256x12x64, .bf16⟩
  | 33 => ⟨S2x4096x4x64, .bf16⟩
  | 34 => ⟨S2x4096x4x64, .bf16⟩
  | 35 => ⟨S2x256x4x64, .bf16⟩
  | 36 => ⟨S2x256x4x64, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_cst_9 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_cst_10 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩

abbrev nD : Nat := 1
abbrev τ : Topo := Topo.v7x

variable {F : FTy → Type} [FloatOps F]
-- ==== In1.lean ====
abbrev S2x4096x2048 : Shape := ⟨3, ![2, 4096, 2048]⟩
abbrev S2x256x2048 : Shape := ⟨3, ![2, 256, 2048]⟩
abbrev S2x8x12288 : Shape := ⟨3, ![2, 8, 12288]⟩
abbrev S2048 : Shape := ⟨1, ![2048]⟩
abbrev S2x2048x4480 : Shape := ⟨3, ![2, 2048, 4480]⟩
abbrev S96x1x2048 : Shape := ⟨3, ![96, 1, 2048]⟩
abbrev S2x2048x768 : Shape := ⟨3, ![2, 2048, 768]⟩
abbrev S2x2048x4x3x64 : Shape := ⟨5, ![2, 2048, 4, 3, 64]⟩
abbrev S2x2048x3x4x64 : Shape := ⟨5, ![2, 2048, 3, 4, 64]⟩
abbrev S512x2048 : Shape := ⟨2, ![512, 2048]⟩
abbrev S8192x2048 : Shape := ⟨2, ![8192, 2048]⟩
abbrev S8704x2048 : Shape := ⟨2, ![8704, 2048]⟩
abbrev S16 : Shape := ⟨1, ![16]⟩
abbrev S_ : Shape := ⟨0, ![]⟩
abbrev S64 : Shape := ⟨1, ![64]⟩
abbrev S64x1 : Shape := ⟨2, ![64, 1]⟩
abbrev S1x16 : Shape := ⟨2, ![1, 16]⟩
abbrev S64x16 : Shape := ⟨2, ![64, 16]⟩
abbrev S64x64x16 : Shape := ⟨3, ![64, 64, 16]⟩
abbrev S4096x16 : Shape := ⟨2, ![4096, 16]⟩
abbrev S1x64x1x16 : Shape := ⟨4, ![1, 64, 1, 16]⟩
abbrev S64x64x1x16 : Shape := ⟨4, ![64, 64, 1, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S512x128 : Shape := ⟨2, ![512, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S8704x128 : Shape := ⟨2, ![8704, 128]⟩
abbrev S1x2048 : Shape := ⟨2, ![1, 2048]⟩
abbrev S8704x2688 : Shape := ⟨2, ![8704, 2688]⟩
abbrev S8704x512 : Shape := ⟨2, ![8704, 512]⟩
abbrev S8704x768 : Shape := ⟨2, ![8704, 768]⟩
abbrev S256x2048 : Shape := ⟨2, ![256, 2048]⟩
abbrev S1x1x2048 : Shape := ⟨3, ![1, 1, 2048]⟩
abbrev S1x2048x4480 : Shape := ⟨3, ![1, 2048, 4480]⟩
abbrev S1x2048x768 : Shape := ⟨3, ![1, 2048, 768]⟩
abbrev S256x128 : Shape := ⟨2, ![256, 128]⟩
abbrev S256x2688 : Shape := ⟨2, ![256, 2688]⟩
abbrev S256x512 : Shape := ⟨2, ![256, 512]⟩
abbrev S256x768 : Shape := ⟨2, ![256, 768]⟩
abbrev S256 : Shape := ⟨1, ![256]⟩
abbrev S256x1 : Shape := ⟨2, ![256, 1]⟩
abbrev S1x2048x2688 : Shape := ⟨3, ![1, 2048, 2688]⟩
abbrev S2048x2688 : Shape := ⟨2, ![2048, 2688]⟩
abbrev S1x2048x512 : Shape := ⟨3, ![1, 2048, 512]⟩
abbrev S2048x512 : Shape := ⟨2, ![2048, 512]⟩
abbrev S2048x768 : Shape := ⟨2, ![2048, 768]⟩
abbrev S1x2048x256 : Shape := ⟨3, ![1, 2048, 256]⟩
abbrev S2048x256 : Shape := ⟨2, ![2048, 256]⟩
abbrev S256x256 : Shape := ⟨2, ![256, 256]⟩
abbrev S8704x256 : Shape := ⟨2, ![8704, 256]⟩
abbrev S8192x2688 : Shape := ⟨2, ![8192, 2688]⟩
abbrev S2x4096x2688 : Shape := ⟨3, ![2, 4096, 2688]⟩
abbrev S512x2688 : Shape := ⟨2, ![512, 2688]⟩
abbrev S2x256x2688 : Shape := ⟨3, ![2, 256, 2688]⟩
abbrev S8192x512 : Shape := ⟨2, ![8192, 512]⟩
abbrev S2x4096x512 : Shape := ⟨3, ![2, 4096, 512]⟩
abbrev S8192x768 : Shape := ⟨2, ![8192, 768]⟩
abbrev S2x4096x3x4x64 : Shape := ⟨5, ![2, 4096, 3, 4, 64]⟩
abbrev S2x4096x4x3x64 : Shape := ⟨5, ![2, 4096, 4, 3, 64]⟩
abbrev S2x4096x12x64 : Shape := ⟨4, ![2, 4096, 12, 64]⟩
abbrev S512x768 : Shape := ⟨2, ![512, 768]⟩
abbrev S2x256x3x4x64 : Shape := ⟨5, ![2, 256, 3, 4, 64]⟩
abbrev S2x256x4x3x64 : Shape := ⟨5, ![2, 256, 4, 3, 64]⟩
abbrev S2x256x12x64 : Shape := ⟨4, ![2, 256, 12, 64]⟩
abbrev S8192x256 : Shape := ⟨2, ![8192, 256]⟩
abbrev S2x4096x4x64 : Shape := ⟨4, ![2, 4096, 4, 64]⟩
abbrev S512x256 : Shape := ⟨2, ![512, 256]⟩
abbrev S2x256x4x64 : Shape := ⟨4, ![2, 256, 4, 64]⟩

abbrev nBuf : Space → Nat
  | .hbm => 142
  | .vmem => 25
  | .smem => 0
  | _ => 0

abbrev hbmTy0_0 (i : Nat) : BufTy := match i % 128 with
  | 0 => ⟨S2x4096x2048, .f32⟩
  | 1 => ⟨S2x256x2048, .f32⟩
  | 2 => ⟨S2x8x12288, .f32⟩
  | 3 => ⟨S2048, .f32⟩
  | 4 => ⟨S2x2048x4480, .f32⟩
  | 5 => ⟨S96x1x2048, .f32⟩
  | 6 => ⟨S2x2048x4480, .bf16⟩
  | 7 => ⟨S2x2048x768, .bf16⟩
  | 8 => ⟨S2x2048x4x3x64, .bf16⟩
  | 9 => ⟨S2x2048x3x4x64, .bf16⟩
  | 10 => ⟨S2x2048x768, .bf16⟩
  | 11 => ⟨S512x2048, .f32⟩
  | 12 => ⟨S8192x2048, .f32⟩
  | 13 => ⟨S8704x2048, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S64, .i32⟩
  | 23 => ⟨S64, .f32⟩
  | 24 => ⟨S64x1, .f32⟩
  | 25 => ⟨S1x16, .f32⟩
  | 26 => ⟨S64x16, .f32⟩
  | 27 => ⟨S64x16, .f32⟩
  | 28 => ⟨S64x16, .f32⟩
  | 29 => ⟨S64, .i32⟩
  | 30 => ⟨S64, .f32⟩
  | 31 => ⟨S64x1, .f32⟩
  | 32 => ⟨S1x16, .f32⟩
  | 33 => ⟨S64x16, .f32⟩
  | 34 => ⟨S64x16, .f32⟩
  | 35 => ⟨S64x16, .f32⟩
  | 36 => ⟨S64x16, .f32⟩
  | 37 => ⟨S64x64x16, .f32⟩
  | 38 => ⟨S4096x16, .f32⟩
  | 39 => ⟨S64x16, .f32⟩
  | 40 => ⟨S1x64x1x16, .f32⟩
  | 41 => ⟨S64x64x1x16, .f32⟩
  | 42 => ⟨S4096x16, .f32⟩
  | 43 => ⟨S4096x64, .f32⟩
  | 44 => ⟨S1x4096x1x64, .f32⟩
  | 45 => ⟨S1x4096x2x64, .f32⟩
  | 46 => ⟨S4096x128, .f32⟩
  | 47 => ⟨S64x16, .f32⟩
  | 48 => ⟨S64x64x16, .f32⟩
  | 49 => ⟨S4096x16, .f32⟩
  | 50 => ⟨S64x16, .f32⟩
  | 51 => ⟨S1x64x1x16, .f32⟩
  | 52 => ⟨S64x64x1x16, .f32⟩
  | 53 => ⟨S4096x16, .f32⟩
  | 54 => ⟨S4096x64, .f32⟩
  | 55 => ⟨S1x4096x1x64, .f32⟩
  | 56 => ⟨S1x4096x2x64, .f32⟩
  | 57 => ⟨S4096x128, .f32⟩
  | 58 => ⟨S128, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S128, .i32⟩
  | 66 => ⟨S128, .i32⟩
  | 67 => ⟨S_, .i32⟩
  | 68 => ⟨S128, .i32⟩
  | 69 => ⟨S128, .i1⟩
  | 70 => ⟨S_, .i32⟩
  | 71 => ⟨S128, .i32⟩
  | 72 => ⟨S128, .i1⟩
  | 73 => ⟨S_, .i32⟩
  | 74 => ⟨S_, .i1⟩
  | 75 => ⟨S128, .i1⟩
  | 76 => ⟨S128, .i1⟩
  | 77 => ⟨S128, .i1⟩
  | 78 => ⟨S128, .i32⟩
  | 79 => ⟨S128, .i32⟩
  | 80 => ⟨S128, .i32⟩
  | 81 => ⟨S_, .i32⟩
  | 82 => ⟨S128, .i32⟩
  | 83 => ⟨S128, .i1⟩
  | 84 => ⟨S4096x128, .f32⟩
  | 85 => ⟨S_, .f32⟩
  | 86 => ⟨S_, .f32⟩
  | 87 => ⟨S4096x128, .i1⟩
  | 88 => ⟨S4096x128, .f32⟩
  | 89 => ⟨S4096x128, .f32⟩
  | 90 => ⟨S_, .f32⟩
  | 91 => ⟨S_, .f32⟩
  | 92 => ⟨S4096x128, .i1⟩
  | 93 => ⟨S4096x128, .f32⟩
  | 94 => ⟨S4096x128, .f32⟩
  | 95 => ⟨S_, .f32⟩
  | 96 => ⟨S512x128, .f32⟩
  | 97 => ⟨S1x4096x1x128, .f32⟩
  | 98 => ⟨S2x4096x1x128, .f32⟩
  | 99 => ⟨S8192x128, .f32⟩
  | 100 => ⟨S8704x128, .f32⟩
  | 101 => ⟨S_, .f32⟩
  | 102 => ⟨S512x128, .f32⟩
  | 103 => ⟨S1x4096x1x128, .f32⟩
  | 104 => ⟨S2x4096x1x128, .f32⟩
  | 105 => ⟨S8192x128, .f32⟩
  | 106 => ⟨S8704x128, .f32⟩
  | 107 => ⟨S_, .f32⟩
  | 108 => ⟨S512x128, .f32⟩
  | 109 => ⟨S1x4096x1x128, .f32⟩
  | 110 => ⟨S2x4096x1x128, .f32⟩
  | 111 => ⟨S8192x128, .f32⟩
  | 112 => ⟨S8704x128, .f32⟩
  | 113 => ⟨S1x2048, .f32⟩
  | 114 => ⟨S8704x2688, .f32⟩
  | 115 => ⟨S8704x512, .f32⟩
  | 116 => ⟨S8704x768, .bf16⟩
  | 117 => ⟨S8704x512, .bf16⟩
  | 118 => ⟨S8704x256, .bf16⟩
  | 119 => ⟨S8704x256, .bf16⟩
  | 120 => ⟨S8192x2688, .f32⟩
  | 121 => ⟨S2x4096x2688, .f32⟩
  | 122 => ⟨S512x2688, .f32⟩
  | 123 => ⟨S2x256x2688, .f32⟩
  | 124 => ⟨S8192x512, .f32⟩
  | 125 => ⟨S2x4096x512, .f32⟩
  | 126 => ⟨S8192x768, .bf16⟩
  | 127 => ⟨S2x4096x3x4x64, .bf16⟩
  | _ => ⟨S2x4096x2048, .f32⟩

abbrev hbmTy0_1 (i : Nat) : BufTy := match i % 128 with
  | 0 => ⟨S2x4096x4x3x64, .bf16⟩
  | 1 => ⟨S2x4096x12x64, .bf16⟩
  | 2 => ⟨S512x768, .bf16⟩
  | 3 => ⟨S2x256x3x4x64, .bf16⟩
  | 4 => ⟨S2x256x4x3x64, .bf16⟩
  | 5 => ⟨S2x256x12x64, .bf16⟩
  | 6 => ⟨S8192x256, .bf16⟩
  | 7 => ⟨S2x4096x4x64, .bf16⟩
  | 8 => ⟨S8192x256, .bf16⟩
  | 9 => ⟨S2x4096x4x64, .bf16⟩
  | 10 => ⟨S512x256, .bf16⟩
  | 11 => ⟨S2x256x4x64, .bf16⟩
  | 12 => ⟨S512x256, .bf16⟩
  | 13 => ⟨S2x256x4x64, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x4480, .bf16⟩
  | .local _ .vmem, ⟨10, _⟩ => ⟨S1x2048x768, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x2688, .f32⟩
  | .local _ .vmem, ⟨18, _⟩ => ⟨S256x2688, .f32⟩
  | .local _ .vmem, ⟨19, _⟩ => ⟨S256x512, .f32⟩
  | .local _ .vmem, ⟨20, _⟩ => ⟨S256x512, .f32⟩
  | .local _ .vmem, ⟨21, _⟩ => ⟨S256x768, .bf16⟩
  | .local _ .vmem, ⟨22, _⟩ => ⟨S256x768, .bf16⟩
  | .local _ .vmem, ⟨23, _⟩ => ⟨S256x512, .bf16⟩
  | .local _ .vmem, ⟨24, _⟩ => ⟨S256x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_1 : Ref sig .tc := ⟨.hbm, 67, rfl⟩
abbrev main_call0_v5 : Ref sig .tc := ⟨.hbm, 68, rfl⟩
abbrev main_call0_v6 : Ref sig .tc := ⟨.hbm, 69, rfl⟩
abbrev main_call0_c_2 : Ref sig .tc := ⟨.hbm, 70, rfl⟩
abbrev main_call0_v7 : Ref sig .tc := ⟨.hbm, 71, rfl⟩
abbrev main_call0_v8 : Ref sig .tc := ⟨.hbm, 72, rfl⟩
abbrev main_call0_c_3 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_v13 : Ref sig .tc := ⟨.hbm, 78, rfl⟩
abbrev main_call0_v14 : Ref sig .tc := ⟨.hbm, 79, rfl⟩
abbrev main_v52 : Ref sig .tc := ⟨.hbm, 80, rfl⟩
abbrev main_c_1 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_2 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v56 : Ref sig .tc := ⟨.hbm, 89, rfl⟩
abbrev main_cst_3 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v57 : Ref sig .tc := ⟨.hbm, 94, rfl⟩
abbrev main_cst_4 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_5 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_6 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74_0 : Ref sig .tc := ⟨.hbm, 114, rfl⟩
abbrev main_v74_1 : Ref sig .tc := ⟨.hbm, 115, rfl⟩
abbrev main_v74_2 : Ref sig .tc := ⟨.hbm, 116, rfl⟩
abbrev main_v74_3 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.subi v0 c2_i32
  let c0_i32_0 : BitVec 32 := 0#32
  let v2 : BitVec 32 := Scalar.maxsi v1 c0_i32_0
  let c2_i32_1 : BitVec 32 := 2#32
  let v3 : BitVec 32 := Scalar.addi v2 c2_i32_1
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c512_i32 : BitVec 32 := 512#32
  let v1 : BitVec 1 := Scalar.cmpi .slt v0 c512_i32
  let c512_i32_0 : BitVec 32 := 512#32
  let v2 : BitVec 32 := Scalar.subi v0 c512_i32_0
  let c0_i32 : BitVec 32 := 0#32
  let v3 : BitVec 32 := Scalar.maxsi v2 c0_i32
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c6_i32 : BitVec 32 := 6#32
  let v23 : BitVec 32 := Scalar.muli v22 c6_i32
  let c48_i32 : BitVec 32 := 48#32
  let v24 : BitVec 32 := Scalar.addi c48_i32 v23
  let c1_i32_8 : BitVec 32 := 1#32
  let v25 : BitVec 32 := Scalar.addi v24 c1_i32_8
  let c0_i32_9 : BitVec 32 := 0#32
  let c0_i32_10 : BitVec 32 := 0#32
  let c0_i32_11 : BitVec 32 := 0#32
  ![v25.toNat, c0_i32_9.toNat, c0_i32_10.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c512_i32 : BitVec 32 := 512#32
  let v1 : BitVec 1 := Scalar.cmpi .slt v0 c512_i32
  let c512_i32_0 : BitVec 32 := 512#32
  let v2 : BitVec 32 := Scalar.subi v0 c512_i32_0
  let c0_i32 : BitVec 32 := 0#32
  let v3 : BitVec 32 := Scalar.maxsi v2 c0_i32
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c6_i32 : BitVec 32 := 6#32
  let v23 : BitVec 32 := Scalar.muli v22 c6_i32
  let c48_i32 : BitVec 32 := 48#32
  let v24 : BitVec 32 := Scalar.addi c48_i32 v23
  let c0_i32_8 : BitVec 32 := 0#32
  let v25 : BitVec 32 := Scalar.addi v24 c0_i32_8
  let c0_i32_9 : BitVec 32 := 0#32
  let c0_i32_10 : BitVec 32 := 0#32
  let c0_i32_11 : BitVec 32 := 0#32
  ![v25.toNat, c0_i32_9.toNat, c0_i32_10.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x4480 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2688 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== In1RefIdeal.lean ====
abbrev S2x4096x2048 : Shape := ⟨3, ![2, 4096, 2048]⟩
abbrev S2x256x2048 : Shape := ⟨3, ![2, 256, 2048]⟩
abbrev S2x8x12288 : Shape := ⟨3, ![2, 8, 12288]⟩
abbrev S2048 : Shape := ⟨1, ![2048]⟩
abbrev S2x2048x4480 : Shape := ⟨3, ![2, 2048, 4480]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x2x12288 : Shape := ⟨3, ![1, 2, 12288]⟩
abbrev S2x12288 : Shape := ⟨2, ![2, 12288]⟩
abbrev S2x1x12288 : Shape := ⟨3, ![2, 1, 12288]⟩
abbrev S1x1x12288 : Shape := ⟨3, ![1, 1, 12288]⟩
abbrev S12288 : Shape := ⟨1, ![12288]⟩
abbrev S2x1x2048 : Shape := ⟨3, ![2, 1, 2048]⟩
abbrev S2x4096 : Shape := ⟨2, ![2, 4096]⟩
abbrev S2x4096x1 : Shape := ⟨3, ![2, 4096, 1]⟩
abbrev S1x1x2048 : Shape := ⟨3, ![1, 1, 2048]⟩
abbrev S2x256 : Shape := ⟨2, ![2, 256]⟩
abbrev S2x256x1 : Shape := ⟨3, ![2, 256, 1]⟩
abbrev S1x2048x4480 : Shape := ⟨3, ![1, 2048, 4480]⟩
abbrev S2048x4480 : Shape := ⟨2, ![2048, 4480]⟩
abbrev S2x4096x4480 : Shape := ⟨3, ![2, 4096, 4480]⟩
abbrev S2x256x4480 : Shape := ⟨3, ![2, 256, 4480]⟩
abbrev S2x4096x768 : Shape := ⟨3, ![2, 4096, 768]⟩
abbrev S2x4096x12x64 : Shape := ⟨4, ![2, 4096, 12, 64]⟩
abbrev S2x4096x12x16 : Shape := ⟨4, ![2, 4096, 12, 16]⟩
abbrev S4096x1x64 : Shape := ⟨3, ![4096, 1, 64]⟩
abbrev S1x4096x1x64 : Shape := ⟨4, ![1, 4096, 1, 64]⟩
abbrev S2x4096x256 : Shape := ⟨3, ![2, 4096, 256]⟩
abbrev S2x4096x4x64 : Shape := ⟨4, ![2, 4096, 4, 64]⟩
abbrev S2x4096x4x16 : Shape := ⟨4, ![2, 4096, 4, 16]⟩
abbrev S2x256x768 : Shape := ⟨3, ![2, 256, 768]⟩
abbrev S2x256x12x64 : Shape := ⟨4, ![2, 256, 12, 64]⟩
abbrev S2x256x256 : Shape := ⟨3, ![2, 256, 256]⟩
abbrev S2x256x4x64 : Shape := ⟨4, ![2, 256, 4, 64]⟩
abbrev S2x4096x2688 : Shape := ⟨3, ![2, 4096, 2688]⟩
abbrev S2x256x2688 : Shape := ⟨3, ![2, 256, 2688]⟩
abbrev S2x4096x512 : Shape := ⟨3, ![2, 4096, 512]⟩

abbrev nBuf : Space → Nat
  | .hbm => 165
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2x8x12288, .f32⟩
  | 3 => ⟨S2048, .f32⟩
  | 4 => ⟨S2x2048x4480, .f32⟩
  | 5 => ⟨S64, .i32⟩
  | 6 => ⟨S64x64, .i32⟩
  | 7 => ⟨S4096, .i32⟩
  | 8 => ⟨S4096, .f32⟩
  | 9 => ⟨S64, .i32⟩
  | 10 => ⟨S1x64, .i32⟩
  | 11 => ⟨S64x64, .i32⟩
  | 12 => ⟨S4096, .i32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x64, .f32⟩
  | 33 => ⟨S4096x64, .f32⟩
  | 34 => ⟨S4096x64, .f32⟩
  | 35 => ⟨S1x2x12288, .f32⟩
  | 36 => ⟨S2x12288, .f32⟩
  | 37 => ⟨S2x1x12288, .f32⟩
  | 38 => ⟨S1x1x12288, .f32⟩
  | 39 => ⟨S12288, .f32⟩
  | 40 => ⟨S2x1x2048, .f32⟩
  | 41 => ⟨S2x1x2048, .f32⟩
  | 42 => ⟨S2x1x2048, .f32⟩
  | 43 => ⟨S2x1x2048, .f32⟩
  | 44 => ⟨S2x1x2048, .f32⟩
  | 45 => ⟨S2x1x2048, .f32⟩
  | 46 => ⟨S2048, .f32⟩
  | 47 => ⟨S2048, .f32⟩
  | 48 => ⟨S2048, .f32⟩
  | 49 => ⟨S2048, .f32⟩
  | 50 => ⟨S2048, .f32⟩
  | 51 => ⟨S2048, .f32⟩
  | 52 => ⟨S2x4096x2048, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S_, .f32⟩
  | 60 => ⟨S2x4096x1, .f32⟩
  | 61 => ⟨S2x4096x1, .f32⟩
  | 62 => ⟨S2x4096x1, .f32⟩
  | 63 => ⟨S2x4096x2048, .f32⟩
  | 64 => ⟨S2x4096x2048, .f32⟩
  | 65 => ⟨S1x1x2048, .f32⟩
  | 66 => ⟨S2x4096x2048, .f32⟩
  | 67 => ⟨S2x4096x2048, .f32⟩
  | 68 => ⟨S_, .f32⟩
  | 69 => ⟨S2x1x2048, .f32⟩
  | 70 => ⟨S2x1x2048, .f32⟩
  | 71 => ⟨S2x4096x2048, .f32⟩
  | 72 => ⟨S2x4096x2048, .f32⟩
  | 73 => ⟨S2x4096x2048, .f32⟩
  | 74 => ⟨S2x4096x2048, .f32⟩
  | 75 => ⟨S2x256x2048, .f32⟩
  | 76 => ⟨S_, .f32⟩
  | 77 => ⟨S2x256, .f32⟩
  | 78 => ⟨S2x256x1, .f32⟩
  | 79 => ⟨S_, .f32⟩
  | 80 => ⟨S2x256x1, .f32⟩
  | 81 => ⟨S2x256x1, .f32⟩
  | 82 => ⟨S_, .f32⟩
  | 83 => ⟨S2x256x1, .f32⟩
  | 84 => ⟨S2x256x1, .f32⟩
  | 85 => ⟨S2x256x1, .f32⟩
  | 86 => ⟨S2x256x2048, .f32⟩
  | 87 => ⟨S2x256x2048, .f32⟩
  | 88 => ⟨S1x1x2048, .f32⟩
  | 89 => ⟨S2x256x2048, .f32⟩
  | 90 => ⟨S2x256x2048, .f32⟩
  | 91 => ⟨S_, .f32⟩
  | 92 => ⟨S2048, .f32⟩
  | 93 => ⟨S2048, .f32⟩
  | 94 => ⟨S1x1x2048, .f32⟩
  | 95 => ⟨S2x256x2048, .f32⟩
  | 96 => ⟨S2x256x2048, .f32⟩
  | 97 => ⟨S1x1x2048, .f32⟩
  | 98 => ⟨S2x256x2048, .f32⟩
  | 99 => ⟨S2x256x2048, .f32⟩
  | 100 => ⟨S1x2048x4480, .f32⟩
  | 101 => ⟨S2048x4480, .f32⟩
  | 102 => ⟨S2x4096x4480, .f32⟩
  | 103 => ⟨S1x2048x4480, .f32⟩
  | 104 => ⟨S2048x4480, .f32⟩
  | 105 => ⟨S2x256x4480, .f32⟩
  | 106 => ⟨S2x4096x768, .f32⟩
  | 107 => ⟨S2x4096x12x64, .f32⟩
  | 108 => ⟨S2x4096x12x16, .f32⟩
  | 109 => ⟨S2x4096x12x16, .f32⟩
  | 110 => ⟨S2x4096x12x16, .f32⟩
  | 111 => ⟨S2x4096x12x16, .f32⟩
  | 112 => ⟨S2x4096x12x16, .f32⟩
  | 113 => ⟨S2x4096x12x16, .f32⟩
  | 114 => ⟨S2x4096x12x64, .f32⟩
  | 115 => ⟨S4096x1x64, .f32⟩
  | 116 => ⟨S1x4096x1x64, .f32⟩
  | 117 => ⟨S2x4096x12x64, .f32⟩
  | 118 => ⟨S2x4096x12x64, .f32⟩
  | 119 => ⟨S4096x1x64, .f32⟩
  | 120 => ⟨S1x4096x1x64, .f32⟩
  | 121 => ⟨S2x4096x12x64, .f32⟩
  | 122 => ⟨S2x4096x12x64, .f32⟩
  | 123 => ⟨S2x4096x12x64, .f32⟩
  | 124 => ⟨S2x4096x256, .f32⟩
  | 125 => ⟨S2x4096x4x64, .f32⟩
  | 126 => ⟨S2x4096x4x16, .f32⟩
  | 127 => ⟨S2x4096x4x16, .f32⟩
  | _ => ⟨S2x4096x2048, .f32⟩

abbrev hbmTy0_1 (i : Nat) : BufTy := match i % 128 with
  | 0 => ⟨S2x4096x4x16, .f32⟩
  | 1 => ⟨S2x4096x4x16, .f32⟩
  | 2 => ⟨S2x4096x4x16, .f32⟩
  | 3 => ⟨S2x4096x4x16, .f32⟩
  | 4 => ⟨S2x4096x4x64, .f32⟩
  | 5 => ⟨S4096x1x64, .f32⟩
  | 6 => ⟨S1x4096x1x64, .f32⟩
  | 7 => ⟨S2x4096x4x64, .f32⟩
  | 8 => ⟨S2x4096x4x64, .f32⟩
  | 9 => ⟨S4096x1x64, .f32⟩
  | 10 => ⟨S1x4096x1x64, .f32⟩
  | 11 => ⟨S2x4096x4x64, .f32⟩
  | 12 => ⟨S2x4096x4x64, .f32⟩
  | 13 => ⟨S2x4096x4x64, .f32⟩
  | 14 => ⟨S2x4096x256, .f32⟩
  | 15 => ⟨S2x4096x4x64, .f32⟩
  | 16 => ⟨S2x256x768, .f32⟩
  | 17 => ⟨S2x256x12x64, .f32⟩
  | 18 => ⟨S2x256x256, .f32⟩
  | 19 => ⟨S2x256x4x64, .f32⟩
  | 20 => ⟨S2x256x256, .f32⟩
  | 21 => ⟨S2x256x4x64, .f32⟩
  | 22 => ⟨S2x4096x2688, .f32⟩
  | 23 => ⟨S2x256x2688, .f32⟩
  | 24 => ⟨S2x4096x512, .f32⟩
  | 25 => ⟨S_, .f32⟩
  | 26 => ⟨S2x4096x12x64, .f32⟩
  | 27 => ⟨S2x4096x12x64, .f32⟩
  | 28 => ⟨S2x4096x12x64, .bf16⟩
  | 29 => ⟨S_, .f32⟩
  | 30 => ⟨S2x256x12x64, .f32⟩
  | 31 => ⟨S2x256x12x64, .f32⟩
  | 32 => ⟨S2x256x12x64, .bf16⟩
  | 33 => ⟨S2x4096x4x64, .bf16⟩
  | 34 => ⟨S2x4096x4x64, .bf16⟩
  | 35 => ⟨S2x256x4x64, .bf16⟩
  | 36 => ⟨S2x256x4x64, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_cst_9 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_cst_10 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩

abbrev nD : Nat := 1
abbrev τ : Topo := Topo.v7x

variable {F : FTy → Type} [FloatOps F]
-- ==== Out1.lean ====
abbrev S2x4352x768 : Shape := ⟨3, ![2, 4352, 768]⟩
abbrev S8704x768 : Shape := ⟨2, ![8704, 768]⟩
abbrev S8704x512 : Shape := ⟨2, ![8704, 512]⟩
abbrev S2x4096x768 : Shape := ⟨3, ![2, 4096, 768]⟩
abbrev S8704x2048 : Shape := ⟨2, ![8704, 2048]⟩
abbrev S2x2048x2048 : Shape := ⟨3, ![2, 2048, 2048]⟩
abbrev S768 : Shape := ⟨1, ![768]⟩
abbrev S2048 : Shape := ⟨1, ![2048]⟩
abbrev S2x8x12288 : Shape := ⟨3, ![2, 8, 12288]⟩
abbrev S256x256 : Shape := ⟨2, ![256, 256]⟩
abbrev S96x1x2048 : Shape := ⟨3, ![96, 1, 2048]⟩
abbrev S2x768x2048 : Shape := ⟨3, ![2, 768, 2048]⟩
abbrev S2x4x3x64x2048 : Shape := ⟨5, ![2, 4, 3, 64, 2048]⟩
abbrev S2x3x4x64x2048 : Shape := ⟨5, ![2, 3, 4, 64, 2048]⟩
abbrev S8192x4x3x64 : Shape := ⟨4, ![8192, 4, 3, 64]⟩
abbrev S8192x3x4x64 : Shape := ⟨4, ![8192, 3, 4, 64]⟩
abbrev S8192x768 : Shape := ⟨2, ![8192, 768]⟩
abbrev S1x768 : Shape := ⟨2, ![1, 768]⟩
abbrev S1x2048 : Shape := ⟨2, ![1, 2048]⟩
abbrev S8192x2048 : Shape := ⟨2, ![8192, 2048]⟩
abbrev S1x256x768 : Shape := ⟨3, ![1, 256, 768]⟩
abbrev S256x768 : Shape := ⟨2, ![256, 768]⟩
abbrev S256x512 : Shape := ⟨2, ![256, 512]⟩
abbrev S256x2048 : Shape := ⟨2, ![256, 2048]⟩
abbrev S1x2048x2048 : Shape := ⟨3, ![1, 2048, 2048]⟩
abbrev S1x768x2048 : Shape := ⟨3, ![1, 768, 2048]⟩
abbrev S1x1x2048 : Shape := ⟨3, ![1, 1, 2048]⟩
abbrev S768x2048 : Shape := ⟨2, ![768, 2048]⟩
abbrev S1x512x2048 : Shape := ⟨3, ![1, 512, 2048]⟩
abbrev S512x2048 : Shape := ⟨2, ![512, 2048]⟩
abbrev S256 : Shape := ⟨1, ![256]⟩
abbrev S256x1 : Shape := ⟨2, ![256, 1]⟩

abbrev nBuf : Space → Nat
  | .hbm => 28
  | .vmem => 34
  | .smem => 0
  | _ => 0

abbrev bufTy : (tb : Table) → Fin (tcTables nBuf tb) → BufTy
  | .hbm, ⟨0, _⟩ => ⟨S2x4352x768, .f32⟩
  | .hbm, ⟨1, _⟩ => ⟨S2x4352x768, .f32⟩
  | .hbm, ⟨2, _⟩ => ⟨S8704x768, .f32⟩
  | .hbm, ⟨3, _⟩ => ⟨S8704x768, .f32⟩
  | .hbm, ⟨4, _⟩ => ⟨S8704x512, .bf16⟩
  | .hbm, ⟨5, _⟩ => ⟨S2x4096x768, .f32⟩
  | .hbm, ⟨6, _⟩ => ⟨S8704x2048, .f32⟩
  | .hbm, ⟨7, _⟩ => ⟨S2x2048x2048, .f32⟩
  | .hbm, ⟨8, _⟩ => ⟨S768, .f32⟩
  | .hbm, ⟨9, _⟩ => ⟨S768, .f32⟩
  | .hbm, ⟨10, _⟩ => ⟨S2048, .f32⟩
  | .hbm, ⟨11, _⟩ => ⟨S2x8x12288, .f32⟩
  | .hbm, ⟨12, _⟩ => ⟨S256x256, .bf16⟩
  | .hbm, ⟨13, _⟩ => ⟨S96x1x2048, .f32⟩
  | .hbm, ⟨14, _⟩ => ⟨S2x2048x2048, .bf16⟩
  | .hbm, ⟨15, _⟩ => ⟨S2x768x2048, .bf16⟩
  | .hbm, ⟨16, _⟩ => ⟨S2x4x3x64x2048, .bf16⟩
  | .hbm, ⟨17, _⟩ => ⟨S2x3x4x64x2048, .bf16⟩
  | .hbm, ⟨18, _⟩ => ⟨S2x768x2048, .bf16⟩
  | .hbm, ⟨19, _⟩ => ⟨S8192x4x3x64, .f32⟩
  | .hbm, ⟨20, _⟩ => ⟨S8192x3x4x64, .f32⟩
  | .hbm, ⟨21, _⟩ => ⟨S8192x768, .f32⟩
  | .hbm, ⟨22, _⟩ => ⟨S8192x768, .bf16⟩
  | .hbm, ⟨23, _⟩ => ⟨S1x768, .f32⟩
  | .hbm, ⟨24, _⟩ => ⟨S1x768, .f32⟩
  | .hbm, ⟨25, _⟩ => ⟨S1x2048, .f32⟩
  | .hbm, ⟨26, _⟩ => ⟨S8192x2048, .f32⟩
  | .hbm, ⟨27, _⟩ => ⟨S8192x2048, .bf16⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x512, .bf16⟩
  | .local _ .vmem, ⟨9, _⟩ => ⟨S256x512, .bf16⟩
  | .local _ .vmem, ⟨10, _⟩ => ⟨S256x768, .bf16⟩
  | .local _ .vmem, ⟨11, _⟩ => ⟨S256x768, .bf16⟩
  | .local _ .vmem, ⟨12, _⟩ => ⟨S256x768, .bf16⟩
  | .local _ .vmem, ⟨13, _⟩ => ⟨S256x768, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x2048x2048, .bf16⟩
  | .local _ .vmem, ⟨19, _⟩ => ⟨S1x768x2048, .bf16⟩
  | .local _ .vmem, ⟨20, _⟩ => ⟨S1x768, .f32⟩
  | .local _ .vmem, ⟨21, _⟩ => ⟨S1x768, .f32⟩
  | .local _ .vmem, ⟨22, _⟩ => ⟨S256x256, .bf16⟩
  | .local _ .vmem, ⟨23, _⟩ => ⟨S1x1x2048, .f32⟩
  | .local _ .vmem, ⟨24, _⟩ => ⟨S1x1x2048, .f32⟩
  | .local _ .vmem, ⟨25, _⟩ => ⟨S1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .bf16⟩
  | .local _ .vmem, ⟨33, _⟩ => ⟨S256x2048, .bf16⟩
  | _, _ => ⟨S2x4352x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c2_i32 : BitVec 32 := 2#32
  let v0 : BitVec 32 := Scalar.addi arg0 c2_i32
  let c2_i32_0 : BitVec 32 := 2#32
  let v1 : BitVec 32 := Scalar.subi v0 c2_i32_0
  let c0_i32 : BitVec 32 := 0#32
  let v2 : BitVec 32 := Scalar.maxsi v1 c0_i32
  let c2_i32_1 : BitVec 32 := 2#32
  let v3 : BitVec 1 := Scalar.cmpi .slt v0 c2_i32_1
  let c1_i32 : BitVec 32 := 1#32
  let v4 : BitVec 32 := Scalar.divsi v0 c1_i32
  let c0_i32_2 : BitVec 32 := 0#32
  let v5 : BitVec 1 := Scalar.cmpi .sgt v0 c0_i32_2
  let v6 : BitVec 32 := Scalar.extui v5
  let c0_i32_3 : BitVec 32 := 0#32
  let v7 : BitVec 1 := Scalar.cmpi .slt v0 c0_i32_3
  let v8 : BitVec 32 := Scalar.extui v7
  let v9 : BitVec 32 := Scalar.subi v6 v8
  let c0_i32_4 : BitVec 32 := 0#32
  let v10 : BitVec 1 := Scalar.cmpi .sgt c1_i32 c0_i32_4
  let v11 : BitVec 32 := Scalar.extui v10
  let c0_i32_5 : BitVec 32 := 0#32
  let v12 : BitVec 1 := Scalar.cmpi .slt c1_i32 c0_i32_5
  let v13 : BitVec 32 := Scalar.extui v12
  let v14 : BitVec 32 := Scalar.subi v11 v13
  let v15 : BitVec 1 := Scalar.cmpi .ne v9 v14
  let v16 : BitVec 32 := Scalar.remsi v0 c1_i32
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c16_i32 : BitVec 32 := 16#32
  let v21 : BitVec 32 := Scalar.divsi v2 c16_i32
  let c0_i32_8 : BitVec 32 := 0#32
  let v22 : BitVec 1 := Scalar.cmpi .sgt v2 c0_i32_8
  let v23 : BitVec 32 := Scalar.extui v22
  let c0_i32_9 : BitVec 32 := 0#32
  let v24 : BitVec 1 := Scalar.cmpi .slt v2 c0_i32_9
  let v25 : BitVec 32 := Scalar.extui v24
  let v26 : BitVec 32 := Scalar.subi v23 v25
  let c0_i32_10 : BitVec 32 := 0#32
  let v27 : BitVec 1 := Scalar.cmpi .sgt c16_i32 c0_i32_10
  let v28 : BitVec 32 := Scalar.extui v27
  let c0_i32_11 : BitVec 32 := 0#32
  let v29 : BitVec 1 := Scalar.cmpi .slt c16_i32 c0_i32_11
  let v30 : BitVec 32 := Scalar.extui v29
  let v31 : BitVec 32 := Scalar.subi v28 v30
  let v32 : BitVec 1 := Scalar.cmpi .ne v26 v31
  let v33 : BitVec 32 := Scalar.remsi v2 c16_i32
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let v38 : BitVec 32 := Scalar.select v3 v20 v37
  let c1_i32_14 : BitVec 32 := 1#32
  let c0_i32_15 : BitVec 32 := 0#32
  let v39 : BitVec 1 := Scalar.cmpi .eq c1_i32_14 c0_i32_15
  let c1_i32_16 : BitVec 32 := 1#32
  let v40 : BitVec 32 := Scalar.select v39 c1_i32_16 c1_i32_14
  let v41 : BitVec 32 := Scalar.remsi v0 v40
  let c0_i32_17 : BitVec 32 := 0#32
  let v42 : BitVec 1 := Scalar.cmpi .ne v41 c0_i32_17
  let c0_i32_18 : BitVec 32 := 0#32
  let v43 : BitVec 1 := Scalar.cmpi .slt v41 c0_i32_18
  let c0_i32_19 : BitVec 32 := 0#32
  let v44 : BitVec 1 := Scalar.cmpi .slt v40 c0_i32_19
  let v45 : BitVec 1 := Scalar.xori v43 v44
  let v46 : BitVec 1 := Scalar.andi v45 v42
  let v47 : BitVec 32 := Scalar.addi v41 v40
  let v48 : BitVec 32 := Scalar.select v46 v47 v41
  let c16_i32_20 : BitVec 32 := 16#32
  let c0_i32_21 : BitVec 32 := 0#32
  let v49 : BitVec 1 := Scalar.cmpi .eq c16_i32_20 c0_i32_21
  let c1_i32_22 : BitVec 32 := 1#32
  let v50 : BitVec 32 := Scalar.select v49 c1_i32_22 c16_i32_20
  let v51 : BitVec 32 := Scalar.remsi v2 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let c1_i32_26 : BitVec 32 := 1#32
  let v59 : BitVec 32 := Scalar.addi c1_i32_26 v58
  let v60 : BitVec 32 := Scalar.select v3 v48 v59
  let c0_i32_27 : BitVec 32 := 0#32
  let c0_i32_28 : BitVec 32 := 0#32
  ![v38.toNat, v60.toNat, c0_i32_27.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c2_i32_0 : BitVec 32 := 2#32
  let v1 : BitVec 32 := Scalar.subi v0 c2_i32_0
  let c0_i32 : BitVec 32 := 0#32
  let v2 : BitVec 32 := Scalar.maxsi v1 c0_i32
  let c2_i32_1 : BitVec 32 := 2#32
  let v3 : BitVec 1 := Scalar.cmpi .slt v0 c2_i32_1
  let c1_i32 : BitVec 32 := 1#32
  let v4 : BitVec 32 := Scalar.divsi v0 c1_i32
  let c0_i32_2 : BitVec 32 := 0#32
  let v5 : BitVec 1 := Scalar.cmpi .sgt v0 c0_i32_2
  let v6 : BitVec 32 := Scalar.extui v5
  let c0_i32_3 : BitVec 32 := 0#32
  let v7 : BitVec 1 := Scalar.cmpi .slt v0 c0_i32_3
  let v8 : BitVec 32 := Scalar.extui v7
  let v9 : BitVec 32 := Scalar.subi v6 v8
  let c0_i32_4 : BitVec 32 := 0#32
  let v10 : BitVec 1 := Scalar.cmpi .sgt c1_i32 c0_i32_4
  let v11 : BitVec 32 := Scalar.extui v10
  let c0_i32_5 : BitVec 32 := 0#32
  let v12 : BitVec 1 := Scalar.cmpi .slt c1_i32 c0_i32_5
  let v13 : BitVec 32 := Scalar.extui v12
  let v14 : BitVec 32 := Scalar.subi v11 v13
  let v15 : BitVec 1 := Scalar.cmpi .ne v9 v14
  let v16 : BitVec 32 := Scalar.remsi v0 c1_i32
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c16_i32 : BitVec 32 := 16#32
  let v21 : BitVec 32 := Scalar.divsi v2 c16_i32
  let c0_i32_8 : BitVec 32 := 0#32
  let v22 : BitVec 1 := Scalar.cmpi .sgt v2 c0_i32_8
  let v23 : BitVec 32 := Scalar.extui v22
  let c0_i32_9 : BitVec 32 := 0#32
  let v24 : BitVec 1 := Scalar.cmpi .slt v2 c0_i32_9
  let v25 : BitVec 32 := Scalar.extui v24
  let v26 : BitVec 32 := Scalar.subi v23 v25
  let c0_i32_10 : BitVec 32 := 0#32
  let v27 : BitVec 1 := Scalar.cmpi .sgt c16_i32 c0_i32_10
  let v28 : BitVec 32 := Scalar.extui v27
  let c0_i32_11 : BitVec 32 := 0#32
  let v29 : BitVec 1 := Scalar.cmpi .slt c16_i32 c0_i32_11
  let v30 : BitVec 32 := Scalar.extui v29
  let v31 : BitVec 32 := Scalar.subi v28 v30
  let v32 : BitVec 1 := Scalar.cmpi .ne v26 v31
  let v33 : BitVec 32 := Scalar.remsi v2 c16_i32
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let v38 : BitVec 32 := Scalar.select v3 v20 v37
  let c1_i32_14 : BitVec 32 := 1#32
  let c0_i32_15 : BitVec 32 := 0#32
  let v39 : BitVec 1 := Scalar.cmpi .eq c1_i32_14 c0_i32_15
  let c1_i32_16 : BitVec 32 := 1#32
  let v40 : BitVec 32 := Scalar.select v39 c1_i32_16 c1_i32_14
  let v41 : BitVec 32 := Scalar.remsi v0 v40
  let c0_i32_17 : BitVec 32 := 0#32
  let v42 : BitVec 1 := Scalar.cmpi .ne v41 c0_i32_17
  let c0_i32_18 : BitVec 32 := 0#32
  let v43 : BitVec 1 := Scalar.cmpi .slt v41 c0_i32_18
  let c0_i32_19 : BitVec 32 := 0#32
  let v44 : BitVec 1 := Scalar.cmpi .slt v40 c0_i32_19
  let v45 : BitVec 1 := Scalar.xori v43 v44
  let v46 : BitVec 1 := Scalar.andi v45 v42
  let v47 : BitVec 32 := Scalar.addi v41 v40
  let v48 : BitVec 32 := Scalar.select v46 v47 v41
  let c16_i32_20 : BitVec 32 := 16#32
  let c0_i32_21 : BitVec 32 := 0#32
  let v49 : BitVec 1 := Scalar.cmpi .eq c16_i32_20 c0_i32_21
  let c1_i32_22 : BitVec 32 := 1#32
  let v50 : BitVec 32 := Scalar.select v49 c1_i32_22 c16_i32_20
  let v51 : BitVec 32 := Scalar.remsi v2 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let c1_i32_26 : BitVec 32 := 1#32
  let v59 : BitVec 32 := Scalar.addi c1_i32_26 v58
  let v60 : BitVec 32 := Scalar.select v3 v48 v59
  let c0_i32_27 : BitVec 32 := 0#32
  let c0_i32_28 : BitVec 32 := 0#32
  ![v38.toNat, v60.toNat, c0_i32_27.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c1_i32 : BitVec 32 := 1#32
  let v1 : BitVec 32 := Scalar.minsi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c2_i32_0 : BitVec 32 := 2#32
  let v1 : BitVec 32 := Scalar.subi v0 c2_i32_0
  let c0_i32 : BitVec 32 := 0#32
  let v2 : BitVec 32 := Scalar.maxsi v1 c0_i32
  let c0_i32_1 : BitVec 32 := 0#32
  let v3 : BitVec 32 := Scalar.addi v2 c0_i32_1
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c1_i32 : BitVec 32 := 1#32
  let v1 : BitVec 32 := Scalar.minsi v0 c1_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.addi arg0 c2_i32
  let c2_i32_0 : BitVec 32 := 2#32
  let v1 : BitVec 32 := Scalar.subi v0 c2_i32_0
  let c0_i32 : BitVec 32 := 0#32
  let v2 : BitVec 32 := Scalar.maxsi v1 c0_i32
  let c2_i32_1 : BitVec 32 := 2#32
  let v3 : BitVec 32 := Scalar.addi v2 c2_i32_1
  let c0_i32_2 : BitVec 32 := 0#32
  let c0_i32_3 : BitVec 32 := 0#32
  ![v3.toNat, c0_i32_2.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c2_i32 : BitVec 32 := 2#32
  let v0 : BitVec 32 := Scalar.addi arg0 c2_i32
  let c256_i32 : BitVec 32 := 256#32
  let v1 : BitVec 32 := Scalar.muli v0 c256_i32
  let c512_i32 : BitVec 32 := 512#32
  let v2 : BitVec 1 := Scalar.cmpi .slt v1 c512_i32
  let c512_i32_0 : BitVec 32 := 512#32
  let v3 : BitVec 32 := Scalar.subi v1 c512_i32_0
  let c0_i32 : BitVec 32 := 0#32
  let v4 : BitVec 32 := Scalar.maxsi v3 c0_i32
  let c4096_i32 : BitVec 32 := 4096#32
  let v5 : BitVec 32 := Scalar.divsi v4 c4096_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c4096_i32 c0_i32_3
  let v12 : BitVec 32 := Scalar.extui v11
  let c0_i32_4 : BitVec 32 := 0#32
  let v13 : BitVec 1 := Scalar.cmpi .slt c4096_i32 c0_i32_4
  let v14 : BitVec 32 := Scalar.extui v13
  let v15 : BitVec 32 := Scalar.subi v12 v14
  let v16 : BitVec 1 := Scalar.cmpi .ne v10 v15
  let v17 : BitVec 32 := Scalar.remsi v4 c4096_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c1_i32_6 : BitVec 32 := 1#32
  let v22 : BitVec 32 := Scalar.addi c1_i32_6 v21
  let c0_i32_7 : BitVec 32 := 0#32
  let v23 : BitVec 32 := Scalar.select v2 c0_i32_7 v22
  let c6_i32 : BitVec 32 := 6#32
  let v24 : BitVec 32 := Scalar.muli v23 c6_i32
  let c48_i32 : BitVec 32 := 48#32
  let v25 : BitVec 32 := Scalar.addi c48_i32 v24
  let c2_i32_8 : BitVec 32 := 2#32
  let v26 : BitVec 32 := Scalar.addi v25 c2_i32_8
  let c0_i32_9 : BitVec 32 := 0#32
  let c0_i32_10 : BitVec 32 := 0#32
  let c0_i32_11 : BitVec 32 := 0#32
  ![v26.toNat, c0_i32_9.toNat, c0_i32_10.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c2_i32 : BitVec 32 := 2#32
  let v0 : BitVec 32 := Scalar.addi arg0 c2_i32
  let c256_i32 : BitVec 32 := 256#32
  let v1 : BitVec 32 := Scalar.muli v0 c256_i32
  let c512_i32 : BitVec 32 := 512#32
  let v2 : BitVec 1 := Scalar.cmpi .slt v1 c512_i32
  let c512_i32_0 : BitVec 32 := 512#32
  let v3 : BitVec 32 := Scalar.subi v1 c512_i32_0
  let c0_i32 : BitVec 32 := 0#32
  let v4 : BitVec 32 := Scalar.maxsi v3 c0_i32
  let c4096_i32 : BitVec 32 := 4096#32
  let v5 : BitVec 32 := Scalar.divsi v4 c4096_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c4096_i32 c0_i32_3
  let v12 : BitVec 32 := Scalar.extui v11
  let c0_i32_4 : BitVec 32 := 0#32
  let v13 : BitVec 1 := Scalar.cmpi .slt c4096_i32 c0_i32_4
  let v14 : BitVec 32 := Scalar.extui v13
  let v15 : BitVec 32 := Scalar.subi v12 v14
  let v16 : BitVec 1 := Scalar.cmpi .ne v10 v15
  let v17 : BitVec 32 := Scalar.remsi v4 c4096_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c1_i32_6 : BitVec 32 := 1#32
  let v22 : BitVec 32 := Scalar.addi c1_i32_6 v21
  let c0_i32_7 : BitVec 32 := 0#32
  let v23 : BitVec 32 := Scalar.select v2 c0_i32_7 v22
  let c6_i32 : BitVec 32 := 6#32
  let v24 : BitVec 32 := Scalar.muli v23 c6_i32
  let c48_i32 : BitVec 32 := 48#32
  let v25 : BitVec 32 := Scalar.addi c48_i32 v24
  let c4_i32 : BitVec 32 := 4#32
  let v26 : BitVec 32 := Scalar.addi v25 c4_i32
  let c0_i32_8 : BitVec 32 := 0#32
  let c0_i32_9 : BitVec 32 := 0#32
  let c0_i32_10 : BitVec 32 := 0#32
  ![v26.toNat, c0_i32_8.toNat, c0_i32_9.toNat]

def cc0_transform_17 (i : grid0.Coords) : Fin 3 → Nat :=
  let arg0 : BitVec 32 := BitVec.ofNat 32 (i 0).val
  let c2_i32 : BitVec 32 := 2#32
  let v0 : BitVec 32 := Scalar.addi arg0 c2_i32
  let c256_i32 : BitVec 32 := 256#32
  let v1 : BitVec 32 := Scalar.muli v0 c256_i32
  let c512_i32 : BitVec 32 := 512#32
  let v2 : BitVec 1 := Scalar.cmpi .slt v1 c512_i32
  let c512_i32_0 : BitVec 32 := 512#32
  let v3 : BitVec 32 := Scalar.subi v1 c512_i32_0
  let c0_i32 : BitVec 32 := 0#32
  let v4 : BitVec 32 := Scalar.maxsi v3 c0_i32
  let c4096_i32 : BitVec 32 := 4096#32
  let v5 : BitVec 32 := Scalar.divsi v4 c4096_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c4096_i32 c0_i32_3
  let v12 : BitVec 32 := Scalar.extui v11
  let c0_i32_4 : BitVec 32 := 0#32
  let v13 : BitVec 1 := Scalar.cmpi .slt c4096_i32 c0_i32_4
  let v14 : BitVec 32 := Scalar.extui v13
  let v15 : BitVec 32 := Scalar.subi v12 v14
  let v16 : BitVec 1 := Scalar.cmpi .ne v10 v15
  let v17 : BitVec 32 := Scalar.remsi v4 c4096_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c1_i32_6 : BitVec 32 := 1#32
  let v22 : BitVec 32 := Scalar.addi c1_i32_6 v21
  let c0_i32_7 : BitVec 32 := 0#32
  let v23 : BitVec 32 := Scalar.select v2 c0_i32_7 v22
  let c6_i32 : BitVec 32 := 6#32
  let v24 : BitVec 32 := Scalar.muli v23 c6_i32
  let c48_i32 : BitVec 32 := 48#32
  let v25 : BitVec 32 := Scalar.addi c48_i32 v24
  let c3_i32 : BitVec 32 := 3#32
  let v26 : BitVec 32 := Scalar.addi v25 c3_i32
  let c0_i32_8 : BitVec 32 := 0#32
  let c0_i32_9 : BitVec 32 := 0#32
  let c0_i32_10 : BitVec 32 := 0#32
  ![v26.toNat, c0_i32_8.toNat, c0_i32_9.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Out1RefIdeal.lean ====
abbrev S2x4352x768 : Shape := ⟨3, ![2, 4352, 768]⟩
abbrev S8704x768 : Shape := ⟨2, ![8704, 768]⟩
abbrev S8704x512 : Shape := ⟨2, ![8704, 512]⟩
abbrev S2x4096x768 : Shape := ⟨3, ![2, 4096, 768]⟩
abbrev S8704x2048 : Shape := ⟨2, ![8704, 2048]⟩
abbrev S2x2048x2048 : Shape := ⟨3, ![2, 2048, 2048]⟩
abbrev S768 : Shape := ⟨1, ![768]⟩
abbrev S2048 : Shape := ⟨1, ![2048]⟩
abbrev S2x8x12288 : Shape := ⟨3, ![2, 8, 12288]⟩
abbrev S2x4096x12x64 : Shape := ⟨4, ![2, 4096, 12, 64]⟩
abbrev S_ : Shape := ⟨0, ![]⟩
abbrev S8192x768 : Shape := ⟨2, ![8192, 768]⟩
abbrev S2x4096x12 : Shape := ⟨3, ![2, 4096, 12]⟩
abbrev S2x4096x12x1 : Shape := ⟨4, ![2, 4096, 12, 1]⟩
abbrev S1x1x768 : Shape := ⟨3, ![1, 1, 768]⟩
abbrev S8192x512 : Shape := ⟨2, ![8192, 512]⟩
abbrev S2x4096x512 : Shape := ⟨3, ![2, 4096, 512]⟩
abbrev S8192x2048 : Shape := ⟨2, ![8192, 2048]⟩
abbrev S2x4096x2048 : Shape := ⟨3, ![2, 4096, 2048]⟩
abbrev S1x2x12288 : Shape := ⟨3, ![1, 2, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x2048x2048 : Shape := ⟨3, ![1, 2048, 2048]⟩
abbrev S2048x2048 : Shape := ⟨2, ![2048, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S2x4352x768, .f32⟩
  | .hbm, ⟨1, _⟩ => ⟨S2x4352x768, .f32⟩
  | .hbm, ⟨2, _⟩ => ⟨S8704x768, .f32⟩
  | .hbm, ⟨3, _⟩ => ⟨S8704x768, .f32⟩
  | .hbm, ⟨4, _⟩ => ⟨S8704x512, .bf16⟩
  | .hbm, ⟨5, _⟩ => ⟨S2x4096x768, .f32⟩
  | .hbm, ⟨6, _⟩ => ⟨S8704x2048, .f32⟩
  | .hbm, ⟨7, _⟩ => ⟨S2x2048x2048, .f32⟩
  | .hbm, ⟨8, _⟩ => ⟨S768, .f32⟩
  | .hbm, ⟨9, _⟩ => ⟨S768, .f32⟩
  | .hbm, ⟨10, _⟩ => ⟨S2048, .f32⟩
  | .hbm, ⟨11, _⟩ => ⟨S2x8x12288, .f32⟩
  | .hbm, ⟨12, _⟩ => ⟨S2x4096x768, .f32⟩
  | .hbm, ⟨13, _⟩ => ⟨S2x4096x12x64, .f32⟩
  | .hbm, ⟨14, _⟩ => ⟨S_, .f32⟩
  | .hbm, ⟨15, _⟩ => ⟨S2x4096x12x64, .f32⟩
  | .hbm, ⟨16, _⟩ => ⟨S2x4096x12x64, .f32⟩
  | .hbm, ⟨17, _⟩ => ⟨S2x4096x768, .f32⟩
  | .hbm, ⟨18, _⟩ => ⟨S2x4096x12x64, .f32⟩
  | .hbm, ⟨19, _⟩ => ⟨S2x4096x12x64, .f32⟩
  | .hbm, ⟨20, _⟩ => ⟨S8192x768, .f32⟩
  | .hbm, ⟨21, _⟩ => ⟨S2x4096x12x64, .f32⟩
  | .hbm, ⟨22, _⟩ => ⟨S8192x768, .f32⟩
  | .hbm, ⟨23, _⟩ => ⟨S2x4096x768, .f32⟩
  | .hbm, ⟨24, _⟩ => ⟨S_, .f32⟩
  | .hbm, ⟨25, _⟩ => ⟨S2x4096x12, .f32⟩
  | .hbm, ⟨26, _⟩ => ⟨S2x4096x12x1, .f32⟩
  | .hbm, ⟨27, _⟩ => ⟨S_, .f32⟩
  | .hbm, ⟨28, _⟩ => ⟨S2x4096x12x1, .f32⟩
  | .hbm, ⟨29, _⟩ => ⟨S2x4096x12x1, .f32⟩
  | .hbm, ⟨30, _⟩ => ⟨S2x4096x12x64, .f32⟩
  | .hbm, ⟨31, _⟩ => ⟨S2x4096x12x64, .f32⟩
  | .hbm, ⟨32, _⟩ => ⟨S2x4096x12x64, .f32⟩
  | .hbm, ⟨33, _⟩ => ⟨S_, .f32⟩
  | .hbm, ⟨34, _⟩ => ⟨S2x4096x12, .f32⟩
  | .hbm, ⟨35, _⟩ => ⟨S2x4096x12x1, .f32⟩
  | .hbm, ⟨36, _⟩ => ⟨S_, .f32⟩
  | .hbm, ⟨37, _⟩ => ⟨S2x4096x12x1, .f32⟩
  | .hbm, ⟨38, _⟩ => ⟨S2x4096x12x1, .f32⟩
  | .hbm, ⟨39, _⟩ => ⟨S2x4096x12x64, .f32⟩
  | .hbm, ⟨40, _⟩ => ⟨S2x4096x12x64, .f32⟩
  | .hbm, ⟨41, _⟩ => ⟨S_, .f32⟩
  | .hbm, ⟨42, _⟩ => ⟨S2x4096x12x1, .f32⟩
  | .hbm, ⟨43, _⟩ => ⟨S2x4096x12x1, .f32⟩
  | .hbm, ⟨44, _⟩ => ⟨S2x4096x12x1, .f32⟩
  | .hbm, ⟨45, _⟩ => ⟨S2x4096x12x64, .f32⟩
  | .hbm, ⟨46, _⟩ => ⟨S2x4096x12x64, .f32⟩
  | .hbm, ⟨47, _⟩ => ⟨S2x4096x768, .f32⟩
  | .hbm, ⟨48, _⟩ => ⟨S1x1x768, .f32⟩
  | .hbm, ⟨49, _⟩ => ⟨S2x4096x768, .f32⟩
  | .hbm, ⟨50, _⟩ => ⟨S2x4096x768, .f32⟩
  | .hbm, ⟨51, _⟩ => ⟨S1x1x768, .f32⟩
  | .hbm, ⟨52, _⟩ => ⟨S2x4096x768, .f32⟩
  | .hbm, ⟨53, _⟩ => ⟨S2x4096x768, .f32⟩
  | .hbm, ⟨54, _⟩ => ⟨S2x4096x768, .f32⟩
  | .hbm, ⟨55, _⟩ => ⟨S2x4096x768, .f32⟩
  | .hbm, ⟨56, _⟩ => ⟨S2x4096x768, .f32⟩
  | .hbm, ⟨57, _⟩ => ⟨S8192x512, .bf16⟩
  | .hbm, ⟨58, _⟩ => ⟨S2x4096x512, .bf16⟩
  | .hbm, ⟨59, _⟩ => ⟨S8192x2048, .f32⟩
  | .hbm, ⟨60, _⟩ => ⟨S2x4096x2048, .f32⟩
  | .hbm, ⟨61, _⟩ => ⟨S1x2x12288, .f32⟩
  | .hbm, ⟨62, _⟩ => ⟨S2x12288, .f32⟩
  | .hbm, ⟨63, _⟩ => ⟨S2x1x12288, .f32⟩
  | .hbm, ⟨64, _⟩ => ⟨S2x1x2048, .f32⟩
  | .hbm, ⟨65, _⟩ => ⟨S2x1x2048, .f32⟩
  | .hbm, ⟨66, _⟩ => ⟨S2x1x2048, .f32⟩
  | .hbm, ⟨67, _⟩ => ⟨S2x1x2048, .f32⟩
  | .hbm, ⟨68, _⟩ => ⟨S2x1x2048, .f32⟩
  | .hbm, ⟨69, _⟩ => ⟨S2x1x2048, .f32⟩
  | .hbm, ⟨70, _⟩ => ⟨S2x4096x512, .f32⟩
  | .hbm, ⟨71, _⟩ => ⟨S2x4096x2048, .f32⟩
  | .hbm, ⟨72, _⟩ => ⟨S1x2048x2048, .f32⟩
  | .hbm, ⟨73, _⟩ => ⟨S2048x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S2x4096x2048, .f32⟩
  | .hbm, ⟨79, _⟩ => ⟨S_, .f32⟩
  | .hbm, ⟨80, _⟩ => ⟨S2x4096, .f32⟩
  | .hbm, ⟨81, _⟩ => ⟨S2x4096x1, .f32⟩
  | .hbm, ⟨82, _⟩ => ⟨S_, .f32⟩
  | .hbm, ⟨83, _⟩ => ⟨S2x4096x1, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S2x4096x1, .f32⟩
  | .hbm, ⟨89, _⟩ => ⟨S2x4096x2048, .f32⟩
  | .hbm, ⟨90, _⟩ => ⟨S2x4096x2048, .f32⟩
  | .hbm, ⟨91, _⟩ => ⟨S1x1x2048, .f32⟩
  | .hbm, ⟨92, _⟩ => ⟨S2x4096x2048, .f32⟩
  | .hbm, ⟨93, _⟩ => ⟨S2x4096x2048, .f32⟩
  | .hbm, ⟨94, _⟩ => ⟨S_, .f32⟩
  | .hbm, ⟨95, _⟩ => ⟨S2x1x2048, .f32⟩
  | .hbm, ⟨96, _⟩ => ⟨S2x1x2048, .f32⟩
  | .hbm, ⟨97, _⟩ => ⟨S2x4096x2048, .f32⟩
  | .hbm, ⟨98, _⟩ => ⟨S2x4096x2048, .f32⟩
  | .hbm, ⟨99, _⟩ => ⟨S2x4096x2048, .f32⟩
  | .hbm, ⟨100, _⟩ => ⟨S2x4096x2048, .f32⟩
  | .hbm, ⟨101, _⟩ => ⟨S8192x2048, .f32⟩
  | .hbm, ⟨102, _⟩ => ⟨S2x4096x2048, .bf16⟩
  | .hbm, ⟨103, _⟩ => ⟨S8192x2048, .bf16⟩
  | _, _ => ⟨S2x4352x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.AttnBody.lean ====
module

public import proofs.«01_k».proof.Proof.Gen.AttnIdeal.Frame
public import Idealize.ShloMosaic.Lib.Pipeline.ValueKit

@[expose] public section

set_option maxRecDepth 16384

noncomputable section

namespace Cert.AttnIdeal.Value

open Cert.AttnIdeal Cert.AttnIdeal.Gen Idealize.ShloMosaic Idealize.ShloMosaic.TcCoe Idealize.SL.Sem

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl

/-- The additive mask of a query block: one row of 640 keys for each query, three copies for the three groups. -/
def neg (i : grid0.Coords) : FVec F S384x640 .f32 :=
  k0_pay7 (iota Kind.tc S128x640 32 [1] iota_S128x640_d1_w32)
    (Scalar.select (Scalar.cmpi CmpIPredicate.eq (BitVec.ofNat 32 (i 1).val) 31#32) 256#32 384#32) k0_pay5 (k0_pay6 i)

/-- The scores of one key head: the queries times the head's lanes, against the keys, plus the mask. -/
def hs (neg : FVec F S384x640 .f32) (q : FVec F S128x768 .bf16) (k : FVec F S640x256 .bf16) (lm : FVec F S1x256 .f32) : FVec F S384x640 .f32 :=
  k0_pay25 neg (k0_pay13 q k lm)

/-- The weights of one key head, not yet divided by their sum. -/
def hp (s : FVec F S384x640 .f32) (a b c : Elt F .f32) : FVec F S384x640 .f32 :=
  k0_pay35 s (k0_pay31 k0_pay9) a (k0_pay32 k0_pay9) b c

/-- The sum of the weights of one key head, the sink's included. -/
def hd (s : FVec F S384x640 .f32) (a b c : Elt F .f32) : FVec F S384x1 .f32 :=
  k0_pay36 s (k0_pay31 k0_pay9) a (k0_pay32 k0_pay9) b c

/-- The four heads' outputs, each on its own lanes, as the block the kernel stores. -/
def join (v : FVec F S640x256 .bf16) (l0 l1 l2 l3 : FVec F S1x256 .f32) (p0 : FVec F S384x640 .f32) (d0 : FVec F S384x1 .f32)
    (p1 : FVec F S384x640 .f32) (d1 : FVec F S384x1 .f32) (p2 : FVec F S384x640 .f32) (d2 : FVec F S384x1 .f32)
    (p3 : FVec F S384x640 .f32) (d3 : FVec F S384x1 .f32) : FVec F S128x768 .bf16 :=
  k0_pay45 v l0 l1 l2 l3 p1 d1 p2 d2 p3 d3 (k0_pay42 v p0 d0) (k0_pay43 v p0 d0) (k0_pay44 l0)

/-- One element of the sinks. -/
def sk (x0 : Vec F S12 .f32) (k : Fin 12) : Elt F .f32 := x0 (ix1 k)

/-- The block the kernel stores at one grid point, from the blocks it loads. -/
def body (i : grid0.Coords) (x0 : Vec F S12 .f32) (x1 : Vec F S128x768 .bf16) (x2 x3 x4 : Vec F S128x512 .bf16) (x5 : Vec F S256x512 .bf16) : Vec F S128x768 .bf16 :=
  let s0 := hs (neg i) (k0_pay2 x1) (k0_pay3 x2 x3 x4 x5) k0_pay10
  let s1 := hs (neg i) (k0_pay2 x1) (k0_pay3 x2 x3 x4 x5) k0_pay12
  let s2 := hs (neg i) (k0_pay2 x1) (k0_pay3 x2 x3 x4 x5) (k0_pay14 k0_pay8)
  let s3 := hs (neg i) (k0_pay2 x1) (k0_pay3 x2 x3 x4 x5) (k0_pay16 k0_pay8)
  join (k0_pay4 x2 x3 x4 x5) k0_pay10 k0_pay12 (k0_pay14 k0_pay8) (k0_pay16 k0_pay8)
    (hp s0 (sk x0 0) (sk x0 1) (sk x0 2)) (hd s0 (sk x0 0) (sk x0 1) (sk x0 2))
    (hp s1 (sk x0 3) (sk x0 4) (sk x0 5)) (hd s1 (sk x0 3) (sk x0 4) (sk x0 5))
    (hp s2 (sk x0 6) (sk x0 7) (sk x0 8)) (hd s2 (sk x0 6) (sk x0 7) (sk x0 8))
    (hp s3 (sk x0 9) (sk x0 10) (sk x0 11)) (hd s3 (sk x0 9) (sk x0 10) (sk x0 11))

theorem ld_sk (x0 : Vec F S12 .f32) (n : Nat) (hn : n < 12) (h : ∀ a, (![n] : Fin 1 → Nat) a + S1.size a ≤ S12.size a)
    (j : (Rect.unit (s := S12) ![n] S1.size h).shape.Idx) :
    View.ld x0 (Rect.unit (s := S12) ![n] S1.size h) j = sk x0 ⟨n, hn⟩ := by
  unfold sk
  refine congrArg x0 (funext fun a => Fin.ext ?_)
  fin_cases a
  have hj : (j 0).val < 1 := (j 0).isLt
  have hj : (j 0).val = 0 := by omega
  simp [Rect.unit, hj, ix1]

theorem out0_A_6_eq  (c : Dev nD) (i : grid0.Coords) (arg2 : Memref sig .tc .smem S12 .f32) (harg2 : arg2.IsWhole) (arg3 : Memref sig .tc .vmem S128x768 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S256x512 .bf16) (harg7 : arg7.IsWhole) (arg8 : Memref sig .tc .vmem S128x768 .bf16) (harg8 : arg8.IsWhole)
    (x0 : Vec F S12 .f32) (x1 : Vec F S128x768 .bf16) (x2 : Vec F S128x512 .bf16) (x3 : Vec F S128x512 .bf16) (x4 : Vec F S128x512 .bf16) (x5 : Vec F S256x512 .bf16) :
    out0_A_6 c i arg2 harg2 arg3 harg3 arg4 harg4 arg5 harg5 arg6 harg6 arg7 harg7 arg8 harg8 x0 x1 x2 x3 x4 x5 = body i x0 x1 x2 x3 x4 x5 := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  first | rw [View.canon_unit_zero hz2] | rw [View.canon_cons_unit_zero (S := S128x768) hz2]
  simp only [View.readAt_eq_ld, harg2.read_unread, harg3.read_unread, harg4.read_unread, harg5.read_unread, harg6.read_unread, harg7.read_unread, harg8.read_unread, View.ld_unit_zero (S := S128x768) hz2, View.ld_unit_zero (S := S128x512) hz2, View.ld_unit_zero (S := S256x512) hz2, shapeCast_self]
  simp only [ld_sk x0 0 (by decide), ld_sk x0 1 (by decide), ld_sk x0 2 (by decide), ld_sk x0 3 (by decide), ld_sk x0 4 (by decide), ld_sk x0 5 (by decide), ld_sk x0 6 (by decide), ld_sk x0 7 (by decide), ld_sk x0 8 (by decide), ld_sk x0 9 (by decide), ld_sk x0 10 (by decide), ld_sk x0 11 (by decide)]
  rfl

end Cert.AttnIdeal.Value

end
-- ==== Proof.AttnWords.lean ====
module

public import Idealize.ShloMosaic.Lib.Pipeline.ValueKit

@[expose] public section

set_option maxRecDepth 16384

/-! Comparisons of small 32-bit words, read as comparisons of the integers they hold. -/

noncomputable section

namespace Cert.AttnWords

open Idealize.ShloMosaic

theorem toInt_ofNat (n : Nat) (h : n < 1048576) : (BitVec.ofNat 32 n).toInt = n := by
  rw [BitVec.toInt_ofNat']
  simp only [Int.bmod_def]
  omega

theorem toInt_subi (x y : BitVec 32) (hx : -1048576 < x.toInt ∧ x.toInt < 1048576) (hy : -1048576 < y.toInt ∧ y.toInt < 1048576) :
    (IntOp.subi x y).toInt = x.toInt - y.toInt := by
  unfold IntOp.subi
  rw [BitVec.toInt_sub]
  simp only [Int.bmod_def]
  omega

theorem toInt_addi (x y : BitVec 32) (hx : -1048576 < x.toInt ∧ x.toInt < 1048576) (hy : -1048576 < y.toInt ∧ y.toInt < 1048576) :
    (IntOp.addi x y).toInt = x.toInt + y.toInt := by
  unfold IntOp.addi
  rw [BitVec.toInt_add]
  simp only [Int.bmod_def]
  omega

theorem toInt_absi (x : BitVec 32) (hx : -1048576 < x.toInt ∧ x.toInt < 1048576) : (IntOp.absi x).toInt = |x.toInt| := by
  unfold IntOp.absi
  rw [BitVec.msb_eq_toInt]
  split <;> rename_i h
  · have h' : x.toInt < 0 := by simpa using h
    rw [abs_of_neg h', BitVec.toInt_neg]
    simp only [Int.bmod_def]
    omega
  · have h' : 0 ≤ x.toInt := by simpa using h
    rw [abs_of_nonneg h']

theorem toInt_muli (x y : BitVec 32) (hx : 0 ≤ x.toInt ∧ x.toInt ≤ 128) (hy : y.toInt = 128) : (IntOp.muli x y).toInt = x.toInt * 128 := by
  unfold IntOp.muli
  rw [BitVec.toInt_mul, hy]
  simp only [Int.bmod_def]
  omega

theorem sgt (x y : BitVec 32) : IntOp.cmpi .sgt x y = if y.toInt < x.toInt then 1#1 else 0#1 := by
  simp only [IntOp.cmpi, BitVec.slt_eq_decide]
  split <;> rename_i h <;> simp [h]

theorem slt (x y : BitVec 32) : IntOp.cmpi .slt x y = if x.toInt < y.toInt then 1#1 else 0#1 := by
  simp only [IntOp.cmpi, BitVec.slt_eq_decide]
  split <;> rename_i h <;> simp [h]

theorem sge (x y : BitVec 32) : IntOp.cmpi .sge x y = if y.toInt ≤ x.toInt then 1#1 else 0#1 := by
  simp only [IntOp.cmpi, BitVec.sle_eq_decide]
  split <;> rename_i h <;> simp [h]

theorem sle (x y : BitVec 32) : IntOp.cmpi .sle x y = if x.toInt ≤ y.toInt then 1#1 else 0#1 := by
  simp only [IntOp.cmpi, BitVec.sle_eq_decide]
  split <;> rename_i h <;> simp [h]

theorem eq_nat (a b : Nat) (ha : a < 1048576) (hb : b < 1048576) :
    IntOp.cmpi .eq (BitVec.ofNat 32 a) (BitVec.ofNat 32 b) = if a = b then 1#1 else 0#1 := by
  have : (BitVec.ofNat 32 a == BitVec.ofNat 32 b) = decide (a = b) := by
    rw [Bool.eq_iff_iff, beq_iff_eq, decide_eq_true_iff]
    refine ⟨fun h => ?_, fun h => by rw [h]⟩
    have := congrArg BitVec.toNat h
    simp only [BitVec.toNat_ofNat] at this
    omega
  simp only [IntOp.cmpi, this]
  split <;> rename_i h <;> simp [h]

theorem select_ite {α : Type} (p : Prop) [Decidable p] (a b : α) : Scalar.select (if p then 1#1 else 0#1) a b = if p then a else b := by
  split <;> rfl

theorem shr7 : ∀ R : Fin 384, IntOp.shrui ArithUnit.vector (BitVec.ofNat 32 R.val) 7#32 = BitVec.ofNat 32 (R.val / 128) := by decide +kernel

theorem shr6 : ∀ l : Fin 256, IntOp.shrui ArithUnit.vector (BitVec.ofNat 32 l.val) 6#32 = BitVec.ofNat 32 (l.val / 64) := by decide +kernel

end Cert.AttnWords

end
-- ==== Proof.AttnMask.lean ====
module

public import proofs.«01_k».proof.Proof.AttnBody
public import proofs.«01_k».proof.Proof.AttnWords

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnWords

/-- The keys of block `n`'s band that query `r` doesn't see: further away than the window, or outside the sequence. -/
def bad (n r j : Nat) : Prop := j < 384 ∧ (256 + r < j ∨ j < r ∨ (n = 0 ∧ j < 128) ∨ (n = 31 ∧ 256 ≤ j))

instance (n r j : Nat) : Decidable (bad n r j) := by unfold bad; infer_instance

theorem diff (j r : Nat) (hj : j < 1024) (hr : r < 1024) :
    (IntOp.subi (IntOp.subi (BitVec.ofNat 32 j) 128#32) (BitVec.ofNat 32 r)).toInt = (j : Int) - 128 - r := by
  have h1 : (128#32 : BitVec 32).toInt = 128 := rfl
  have h2 : (IntOp.subi (BitVec.ofNat 32 j) 128#32).toInt = (j : Int) - 128 := by
    rw [toInt_subi _ _ (by rw [toInt_ofNat _ (by omega)]; omega) (by rw [h1]; omega), toInt_ofNat _ (by omega), h1]
  rw [toInt_subi _ _ (by rw [h2]; omega) (by rw [toInt_ofNat _ (by omega)]; omega), h2, toInt_ofNat _ (by omega)]

/-- The kernel's mask word: 1 for each reason to hide the key, none beyond the band. -/
theorem mask_word (n r j : Nat) (hn : n < 32) (hr : r < 128) (hj : j < 640) :
    IntOp.cmpi CmpIPredicate.sgt
      (Scalar.select (IntOp.cmpi CmpIPredicate.sge (BitVec.ofNat 32 j) 384#32) (0#32)
        (IntOp.addi
          (IntOp.addi
            (IntOp.addi
              (Scalar.select (IntOp.cmpi CmpIPredicate.sgt (IntOp.subi (IntOp.subi (BitVec.ofNat 32 j) 128#32) (BitVec.ofNat 32 r)) 128#32) 1#32 0#32)
              (Scalar.select (IntOp.cmpi CmpIPredicate.slt (IntOp.subi (IntOp.subi (BitVec.ofNat 32 j) 128#32) (BitVec.ofNat 32 r)) 4294967168#32) 1#32 0#32))
            (Scalar.select (IntOp.cmpi CmpIPredicate.slt (BitVec.ofNat 32 j)
              (Scalar.select (Scalar.cmpi CmpIPredicate.eq (BitVec.ofNat 32 n) 0#32) 128#32 0#32)) 1#32 0#32))
          (Scalar.select (IntOp.cmpi CmpIPredicate.sge (BitVec.ofNat 32 j)
            (Scalar.select (Scalar.cmpi CmpIPredicate.eq (BitVec.ofNat 32 n) 31#32) 256#32 384#32)) 1#32 0#32)))
      0#32 = if bad n r j then 1#1 else 0#1 := by
  unfold Scalar.cmpi
  rw [show (31#32 : BitVec 32) = BitVec.ofNat 32 31 from rfl, show IntOp.cmpi CmpIPredicate.eq (BitVec.ofNat 32 n) 0#32 = IntOp.cmpi CmpIPredicate.eq (BitVec.ofNat 32 n) (BitVec.ofNat 32 0) from rfl,
    eq_nat n 31 (by omega) (by omega), eq_nat n 0 (by omega) (by omega), select_ite, select_ite]
  simp only [sgt, sge, slt, select_ite]
  rw [diff j r (by omega) (by omega), toInt_ofNat j (by omega),
    show (128#32 : BitVec 32).toInt = 128 from rfl, show (4294967168#32 : BitVec 32).toInt = -128 from rfl, show (384#32 : BitVec 32).toInt = 384 from rfl,
    show (0#32 : BitVec 32).toInt = 0 from rfl]
  have e1 : ((if n = 0 then 128#32 else 0#32 : BitVec 32)).toInt = if n = 0 then 128 else 0 := by split <;> rfl
  have e2 : ((if n = 31 then 256#32 else 384#32 : BitVec 32)).toInt = if n = 31 then 256 else 384 := by split <;> rfl
  rw [e1, e2]
  by_cases c0 : (384 : Int) ≤ j
  · have hb : ¬ bad n r j := by unfold bad; omega
    rw [if_neg hb, if_pos c0]
    rfl
  · rw [if_neg c0]
    by_cases c1 : (128 : Int) < (j : Int) - 128 - r
    · have hb : bad n r j := by unfold bad; omega
      have c2 : ¬ ((j : Int) - 128 - r < -128) := by omega
      rw [if_pos hb, if_pos c1, if_neg c2]
      split <;> split <;> (try split) <;> (try split) <;> first | rfl | (exfalso; revert ‹¬ (0 : Int) < _›; decide)
    · by_cases c2 : (j : Int) - 128 - r < -128
      · have hb : bad n r j := by unfold bad; omega
        rw [if_pos hb, if_neg c1, if_pos c2]
        split <;> split <;> (try split) <;> (try split) <;> first | rfl | (exfalso; revert ‹¬ (0 : Int) < _›; decide)
      · rw [if_neg c1, if_neg c2]
        by_cases h0 : n = 0
        · have h1 : ¬ n = 31 := by omega
          simp only [if_pos h0, if_neg h1, if_neg c0]
          by_cases c3 : (j : Int) < 128
          · have hb : bad n r j := by unfold bad; omega
            rw [if_pos c3, if_pos hb]; rfl
          · have hb : ¬ bad n r j := by unfold bad; omega
            rw [if_neg c3, if_neg hb]; rfl
        · simp only [if_neg h0, if_neg (show ¬ ((j : Int) < 0) by omega)]
          by_cases h1 : n = 31
          · simp only [if_pos h1]
            by_cases c3 : (256 : Int) ≤ j
            · have hb : bad n r j := by unfold bad; omega
              rw [if_pos c3, if_pos hb]; rfl
            · have hb : ¬ bad n r j := by unfold bad; omega
              rw [if_neg c3, if_neg hb]; rfl
          · have hb : ¬ bad n r j := by unfold bad; omega
            simp only [if_neg h1, if_neg c0]
            rw [if_neg hb]; rfl

theorem neg_apply (i : grid0.Coords) (g : Fin 3) (r : Fin 128) (j : Fin 640) :
    neg (F := Ideal) i (ix2 ⟨g.val * 128 + r.val, by omega⟩ j) = if bad (i 1).val r.val j.val then ⊥ else 0 := by
  have hi : (i 1).val < 32 := (i 1).isLt
  have key : neg (F := Ideal) i (ix2 ⟨g.val * 128 + r.val, by omega⟩ j) = Scalar.select (if bad (i 1).val r.val j.val then 1#1 else 0#1) (⊥ : EReal) 0 := by
    rw [← mask_word (i 1).val r.val j.val hi r.isLt j.isLt]
    fin_cases g
    · pointwise [neg, k0_pay7, k0_pay5, k0_pay6]
      rfl
    · pointwise [neg, k0_pay7, k0_pay5, k0_pay6]
      rfl
    · pointwise [neg, k0_pay7, k0_pay5, k0_pay6]
      simp only [dif_neg (show ¬ 256 + r.val < 128 by omega), dif_neg (show ¬ 256 + r.val - 128 < 128 by omega), show 256 + r.val - 128 - 128 = r.val by omega]
      rfl
  rw [key, select_ite]

end Cert.AttnIdeal.Value

end
-- ==== Proof.AttnBlocks.lean ====
module

public import proofs.«01_k».proof.Proof.AttnBody

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![0] ∧ win0_1.index t = ![4 + t.val, 0]
    ∧ win0_2.index t = ![4 + t.val / 32 * 32 + (t.val % 32 - 1), 0] ∧ win0_3.index t = ![4 + t.val, 0]
    ∧ win0_4.index t = ![4 + t.val / 32 * 32 + min (t.val % 32 + 1) 31, 0] ∧ win0_5.index t = ![t.val / 32, 0] ∧ win0_6.index t = ![t.val, 0] :=
  (by decide +kernel : ∀ t : Fin grid0.N, _)

theorem blk0 (c : Dev nD) (t : Fin cfg0.N) (k : Fin 12) :
    iblk m c 0 t (ix1 k) = m ((c : Thread nD τ).loc main_arg5) (ix1 k) := by
  blk_point [iblk, V, idx_val t]

/-- The queries as the launch takes them: scaled, the heads of a group side by side, after 512 rows of zeros. -/
def qArr (a : FVec Ideal S2x4096x12x64 .f32) : FVec Ideal S8704x768 .bf16 :=
  truncf .bf16 (concatenate S8704x768 0 [⟨S512x768, broadcastInDim S512x768 ![] bcast_S_S512x768 (constant S_ .f32 0x00000000#32)⟩,
    ⟨S8192x768, shapeCast S8192x768 (transpose S8192x3x4x64 [0, 2, 1, 3] (shapeCast S8192x4x3x64 (mulf a (broadcastInDim S2x4096x12x64 ![] bcast_S_S2x4096x12x64 (constant S_ .f32 0x3E000000#32))) shapeCasts_S2x4096x12x64_S8192x4x3x64) transposes_S8192x4x3x64_S8192x3x4x64_0_2_1_3) shapeCasts_S8192x3x4x64_S8192x768⟩] concatenates_S512x768_S8192x768_S8704x768_d0) bitsLt_bf16_f32

/-- Keys or values as the launch takes them: the context's rows before the sequence's. -/
def cArr (a : FVec Ideal S2x256x4x64 .f32) (b : FVec Ideal S2x4096x4x64 .f32) : FVec Ideal S8704x256 .f32 :=
  concatenate S8704x256 0 [⟨S512x256, shapeCast S512x256 a shapeCasts_S2x256x4x64_S512x256⟩, ⟨S8192x256, shapeCast S8192x256 b shapeCasts_S2x4096x4x64_S8192x256⟩] concatenates_S512x256_S8192x256_S8704x256_d0

/-- Keys and values side by side. -/
def kvArr (a1 a2 : FVec Ideal S2x4096x4x64 .f32) (a3 a4 : FVec Ideal S2x256x4x64 .f32) : FVec Ideal S8704x512 .bf16 :=
  truncf .bf16 (concatenate S8704x512 1 [⟨S8704x256, cArr a3 a1⟩, ⟨S8704x256, cArr a4 a2⟩] concatenates_S8704x256_S8704x256_S8704x512_d1) bitsLt_bf16_f32

theorem V7 (c : Dev nD) : V m c main_v7 = qArr (m ((c : Thread nD τ).loc main_arg0)) := by
  show StableHlo.after [hostOps0].flatten (fun b => m (c, b)) (Proc.devRef .tc main_v7) = _
  simp only [hostOps0, List.flatten_cons, List.flatten_nil, List.append_nil]
  after_results
  rfl

theorem V15 (c : Dev nD) : V m c main_v15 = kvArr (m ((c : Thread nD τ).loc main_arg1)) (m ((c : Thread nD τ).loc main_arg2)) (m ((c : Thread nD τ).loc main_arg3)) (m ((c : Thread nD τ).loc main_arg4)) := by
  show StableHlo.after [hostOps0].flatten (fun b => m (c, b)) (Proc.devRef .tc main_v15) = _
  simp only [hostOps0, List.flatten_cons, List.flatten_nil, List.append_nil]
  after_results
  rfl

theorem qArr_apply (a : FVec Ideal S2x4096x12x64 .f32) (b : Fin 2) (p : Fin 4096) (g : Fin 3) (h : Fin 4) (d : Fin 64) (s : Fin 8704) (hs : s.val = 512 + (b.val * 4096 + p.val))
    (L : Fin 768) (hL : L.val = 256 * g.val + (64 * h.val + d.val)) :
    qArr a (ix2 s L) = a (ix4 b p ⟨3 * h.val + g.val, by omega⟩ d) * Ideal.ofBits FTy.f32 1040187392#32 := by
  pointwise [qArr]
  rw [dif_neg (by omega)]
  congr 1
  blk_ext

theorem cArr_apply_seq (a : FVec Ideal S2x256x4x64 .f32) (e : FVec Ideal S2x4096x4x64 .f32) (b : Fin 2) (p : Fin 4096) (h : Fin 4) (d : Fin 64) (s : Fin 8704) (hs : s.val = 512 + (b.val * 4096 + p.val))
    (L : Fin 256) (hL : L.val = 64 * h.val + d.val) :
    cArr a e (ix2 s L) = e (ix4 b p h d) := by
  pointwise [cArr]
  rw [dif_neg (by omega)]
  blk_ext

theorem cArr_apply_ctx (a : FVec Ideal S2x256x4x64 .f32) (e : FVec Ideal S2x4096x4x64 .f32) (b : Fin 2) (p : Fin 256) (h : Fin 4) (d : Fin 64) (s : Fin 8704) (hs : s.val = b.val * 256 + p.val)
    (L : Fin 256) (hL : L.val = 64 * h.val + d.val) :
    cArr a e (ix2 s L) = a (ix4 b p h d) := by
  pointwise [cArr]
  rw [dif_pos (by omega)]
  blk_ext

theorem kvArr_apply_k (a1 a2 : FVec Ideal S2x4096x4x64 .f32) (a3 a4 : FVec Ideal S2x256x4x64 .f32) (s : Fin 8704) (L : Fin 512) (l : Fin 256) (hL : L.val = l.val) :
    kvArr a1 a2 a3 a4 (ix2 s L) = cArr a3 a1 (ix2 s l) := by
  pointwise [kvArr]
  rw [dif_pos (by omega)]
  blk_ext

theorem kvArr_apply_v (a1 a2 : FVec Ideal S2x4096x4x64 .f32) (a3 a4 : FVec Ideal S2x256x4x64 .f32) (s : Fin 8704) (L : Fin 512) (l : Fin 256) (hL : L.val = 256 + l.val) :
    kvArr a1 a2 a3 a4 (ix2 s L) = cArr a4 a2 (ix2 s l) := by
  pointwise [kvArr]
  rw [dif_neg (by omega)]
  blk_ext

theorem blk1 (c : Dev nD) (t : Fin cfg0.N) (r : Fin 128) (L : Fin 768) (s : Fin 8704) (h : s.val = (4 + t.val) * 128 + r.val) :
    iblk m c 1 t (ix2 r L) = qArr (m ((c : Thread nD τ).loc main_arg0)) (ix2 s L) := by
  rw [← V7 m c]
  blk_point [iblk, idx_val t]

theorem blk2 (c : Dev nD) (t : Fin cfg0.N) (r : Fin 128) (L : Fin 512) (s : Fin 8704) (h : s.val = (4 + t.val / 32 * 32 + (t.val % 32 - 1)) * 128 + r.val) :
    iblk m c 2 t (ix2 r L) = kvArr (m ((c : Thread nD τ).loc main_arg1)) (m ((c : Thread nD τ).loc main_arg2)) (m ((c : Thread nD τ).loc main_arg3)) (m ((c : Thread nD τ).loc main_arg4)) (ix2 s L) := by
  rw [← V15 m c]
  blk_point [iblk, idx_val t]

theorem blk3 (c : Dev nD) (t : Fin cfg0.N) (r : Fin 128) (L : Fin 512) (s : Fin 8704) (h : s.val = (4 + t.val) * 128 + r.val) :
    iblk m c 3 t (ix2 r L) = kvArr (m ((c : Thread nD τ).loc main_arg1)) (m ((c : Thread nD τ).loc main_arg2)) (m ((c : Thread nD τ).loc main_arg3)) (m ((c : Thread nD τ).loc main_arg4)) (ix2 s L) := by
  rw [← V15 m c]
  blk_point [iblk, idx_val t]

theorem blk4 (c : Dev nD) (t : Fin cfg0.N) (r : Fin 128) (L : Fin 512) (s : Fin 8704) (h : s.val = (4 + t.val / 32 * 32 + min (t.val % 32 + 1) 31) * 128 + r.val) :
    iblk m c 4 t (ix2 r L) = kvArr (m ((c : Thread nD τ).loc main_arg1)) (m ((c : Thread nD τ).loc main_arg2)) (m ((c : Thread nD τ).loc main_arg3)) (m ((c : Thread nD τ).loc main_arg4)) (ix2 s L) := by
  rw [← V15 m c]
  blk_point [iblk, idx_val t]

theorem blk5 (c : Dev nD) (t : Fin cfg0.N) (r : Fin 256) (L : Fin 512) (s : Fin 8704) (h : s.val = t.val / 32 * 256 + r.val) :
    iblk m c 5 t (ix2 r L) = kvArr (m ((c : Thread nD τ).loc main_arg1)) (m ((c : Thread nD τ).loc main_arg2)) (m ((c : Thread nD τ).loc main_arg3)) (m ((c : Thread nD τ).loc main_arg4)) (ix2 s L) := by
  rw [← V15 m c]
  blk_point [iblk, idx_val t]

/-- The rows of a point's keys and values: the three blocks of the band, then the context. -/
def rowsOf (x2 x3 x4 : FVec Ideal S128x512 .bf16) (x5 : FVec Ideal S256x512 .bf16) (j : Fin 640) (L : Fin 512) : EReal :=
  if h : j.val < 128 then x2 (ix2 ⟨j.val, h⟩ L)
  else if h : j.val - 128 < 128 then x3 (ix2 ⟨j.val - 128, h⟩ L)
  else if h : j.val - 128 - 128 < 128 then x4 (ix2 ⟨j.val - 128 - 128, h⟩ L)
  else x5 (ix2 ⟨j.val - 128 - 128 - 128, by omega⟩ L)

theorem keys_apply (x2 x3 x4 : FVec Ideal S128x512 .bf16) (x5 : FVec Ideal S256x512 .bf16) (j : Fin 640) (l : Fin 256) :
    k0_pay3 (F := Ideal) x2 x3 x4 x5 (ix2 j l) = rowsOf x2 x3 x4 x5 j ⟨l.val, by omega⟩ := by
  unfold rowsOf
  pointwise [k0_pay3, k0_pay1]

theorem vals_apply (x2 x3 x4 : FVec Ideal S128x512 .bf16) (x5 : FVec Ideal S256x512 .bf16) (j : Fin 640) (l : Fin 256) :
    k0_pay4 (F := Ideal) x2 x3 x4 x5 (ix2 j l) = rowsOf x2 x3 x4 x5 j ⟨256 + l.val, by omega⟩ := by
  unfold rowsOf
  pointwise [k0_pay4, k0_pay1]

/-- A key or value of the band of the query block `n` of sequence `b`: rows `128 n - 128 …` of the sequence, zeros outside it, then the context's rows. -/
def band (a : FVec Ideal S2x4096x4x64 .f32) (e : FVec Ideal S2x256x4x64 .f32) (b : Fin 2) (n : Nat) (h : Fin 4) (d : Fin 64) (j : Fin 640) : EReal :=
  if hj : j.val < 384 then
    if hp : 128 ≤ n * 128 + j.val ∧ n * 128 + j.val - 128 < 4096 then a (ix4 b ⟨n * 128 + j.val - 128, hp.2⟩ h d) else 0
  else e (ix4 b ⟨j.val - 384, by omega⟩ h d)

/-- The rows a point loads are the band's wherever the band lies inside the sequence. -/
theorem rows_band (c : Dev nD) (t : Fin cfg0.N) (b : Fin 2) (hb : b.val = t.val / 32) (j : Fin 640)
    (hj : j.val < 384 → 128 ≤ t.val % 32 * 128 + j.val ∧ t.val % 32 * 128 + j.val - 128 < 4096) (L : Fin 512) :
    rowsOf (iblk m c 2 t) (iblk m c 3 t) (iblk m c 4 t) (iblk m c 5 t) j L
      = kvArr (m ((c : Thread nD τ).loc main_arg1)) (m ((c : Thread nD τ).loc main_arg2)) (m ((c : Thread nD τ).loc main_arg3)) (m ((c : Thread nD τ).loc main_arg4))
          (ix2 ⟨if j.val < 384 then 512 + t.val / 32 * 4096 + (t.val % 32 * 128 + j.val - 128) else t.val / 32 * 256 + (j.val - 384), by
            have := t.isLt; have hN : cfg0.N = 64 := rfl; split <;> omega⟩ L) := by
  have ht := t.isLt
  have hN : cfg0.N = 64 := rfl
  unfold rowsOf
  by_cases h1 : j.val < 128
  · rw [dif_pos h1]
    exact blk2 m c t _ L _ (by simp only [if_pos (show j.val < 384 by omega)]; have := hj (by omega); omega)
  rw [dif_neg h1]
  by_cases h2 : j.val - 128 < 128
  · rw [dif_pos h2]
    exact blk3 m c t _ L _ (by simp only [if_pos (show j.val < 384 by omega)]; have := hj (by omega); omega)
  rw [dif_neg h2]
  by_cases h3 : j.val - 128 - 128 < 128
  · rw [dif_pos h3]
    exact blk4 m c t _ L _ (by simp only [if_pos (show j.val < 384 by omega)]; have := hj (by omega); omega)
  rw [dif_neg h3]
  exact blk5 m c t _ L _ (by simp only [if_neg (show ¬ j.val < 384 by omega)]; omega)

theorem cArr_band (a : FVec Ideal S2x4096x4x64 .f32) (e : FVec Ideal S2x256x4x64 .f32) (t : Fin cfg0.N) (b : Fin 2) (hb : b.val = t.val / 32) (h : Fin 4) (d : Fin 64) (j : Fin 640)
    (hj : j.val < 384 → 128 ≤ t.val % 32 * 128 + j.val ∧ t.val % 32 * 128 + j.val - 128 < 4096) (s : Fin 8704)
    (hs : s.val = if j.val < 384 then 512 + t.val / 32 * 4096 + (t.val % 32 * 128 + j.val - 128) else t.val / 32 * 256 + (j.val - 384)) (L : Fin 256) (hL : L.val = 64 * h.val + d.val) :
    cArr e a (ix2 s L) = band a e b (t.val % 32) h d j := by
  unfold band
  by_cases h1 : j.val < 384
  · rw [dif_pos h1, dif_pos (hj h1)]
    rw [if_pos h1] at hs
    exact cArr_apply_seq _ _ b _ h d s (by simp only; omega) L hL
  · rw [dif_neg h1]
    rw [if_neg h1] at hs
    exact cArr_apply_ctx _ _ b _ h d s (by simp only; omega) L hL

theorem keys_band (c : Dev nD) (t : Fin cfg0.N) (b : Fin 2) (hb : b.val = t.val / 32) (h : Fin 4) (d : Fin 64) (j : Fin 640)
    (hj : j.val < 384 → 128 ≤ t.val % 32 * 128 + j.val ∧ t.val % 32 * 128 + j.val - 128 < 4096) (l : Fin 256) (hl : l.val = 64 * h.val + d.val) :
    k0_pay3 (F := Ideal) (iblk m c 2 t) (iblk m c 3 t) (iblk m c 4 t) (iblk m c 5 t) (ix2 j l)
      = band (m ((c : Thread nD τ).loc main_arg1)) (m ((c : Thread nD τ).loc main_arg3)) b (t.val % 32) h d j := by
  rw [keys_apply, rows_band m c t b hb j hj, kvArr_apply_k _ _ _ _ _ _ l rfl]
  exact cArr_band _ _ t b hb h d j hj _ rfl l hl

theorem vals_band (c : Dev nD) (t : Fin cfg0.N) (b : Fin 2) (hb : b.val = t.val / 32) (h : Fin 4) (d : Fin 64) (j : Fin 640)
    (hj : j.val < 384 → 128 ≤ t.val % 32 * 128 + j.val ∧ t.val % 32 * 128 + j.val - 128 < 4096) (l : Fin 256) (hl : l.val = 64 * h.val + d.val) :
    k0_pay4 (F := Ideal) (iblk m c 2 t) (iblk m c 3 t) (iblk m c 4 t) (iblk m c 5 t) (ix2 j l)
      = band (m ((c : Thread nD τ).loc main_arg2)) (m ((c : Thread nD τ).loc main_arg4)) b (t.val % 32) h d j := by
  rw [vals_apply, rows_band m c t b hb j hj, kvArr_apply_v _ _ _ _ _ _ l rfl]
  exact cArr_band _ _ t b hb h d j hj _ rfl l hl

end Cert.AttnIdeal.Value

end
-- ==== Proof.AttnPoint.lean ====
module

public import proofs.«01_k».proof.Proof.AttnBody
public import proofs.«01_k».proof.Proof.AttnWords

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnWords

theorem hs_apply (neg : FVec Ideal S384x640 .f32) (q : FVec Ideal S128x768 .bf16) (k : FVec Ideal S640x256 .bf16) (lm : FVec Ideal S1x256 .f32)
    (g : Fin 3) (r : Fin 128) (j : Fin 640) :
    hs (F := Ideal) neg q k lm (ix2 ⟨g.val * 128 + r.val, by omega⟩ j)
      = (∑ l : Fin 256, q (ix2 r ⟨256 * g.val + l.val, by omega⟩) * lm (ix2 0 l) * k (ix2 j l)) + neg (ix2 ⟨g.val * 128 + r.val, by omega⟩ j) := by
  fin_cases g
  · pointwise [hs, k0_pay25, k0_pay13]
  · pointwise [hs, k0_pay25, k0_pay13]
  · pointwise [hs, k0_pay25, k0_pay13]
    simp only [dif_neg (show ¬ 256 + r.val < 128 by omega), dif_neg (show ¬ 256 + r.val - 128 < 128 by omega), show 256 + r.val - 128 - 128 = r.val by omega, Fin.eta]

/-- The sink of one of a key head's three queries. -/
def pick (a b c : EReal) (g : Fin 3) : EReal := if g.val = 0 then a else if g.val = 1 then b else c

theorem pick_eq (a b c : EReal) (g : Fin 3) (r : Fin 128) :
    Scalar.select (IntOp.cmpi CmpIPredicate.eq (IntOp.shrui ArithUnit.vector (BitVec.ofNat 32 (g.val * 128 + r.val)) 7#32) 0#32) a
      (Scalar.select (IntOp.cmpi CmpIPredicate.eq (IntOp.shrui ArithUnit.vector (BitVec.ofNat 32 (g.val * 128 + r.val)) 7#32) 1#32) b c) = pick a b c g := by
  have h := shr7 ⟨g.val * 128 + r.val, by omega⟩
  have hg : (g.val * 128 + r.val) / 128 = g.val := by omega
  dsimp only at h
  rw [h, hg, show (0#32 : BitVec 32) = BitVec.ofNat 32 0 from rfl, show (1#32 : BitVec 32) = BitVec.ofNat 32 1 from rfl,
    eq_nat _ _ (by omega) (by omega), eq_nat _ _ (by omega) (by omega), select_ite, select_ite]
  rfl

/-- The greatest of a row's scores and its sink. -/
def rowMax (s : Fin 640 → EReal) (σ : EReal) : EReal := max (Finset.fold max (Ideal.ofBits FTy.f32 4286578688#32) s Finset.univ) σ

theorem hp_apply (s : FVec Ideal S384x640 .f32) (a b c : EReal) (g : Fin 3) (r : Fin 128) (j : Fin 640) :
    hp (F := Ideal) s a b c (ix2 ⟨g.val * 128 + r.val, by omega⟩ j)
      = Ideal.exp (s (ix2 ⟨g.val * 128 + r.val, by omega⟩ j) - rowMax (fun x => s (ix2 ⟨g.val * 128 + r.val, by omega⟩ x)) (pick a b c g)) := by
  pointwise [hp, k0_pay35, k0_pay34, k0_pay33, k0_pay31, k0_pay32, k0_pay9]
  rw [pick_eq]
  rfl

theorem hd_apply (s : FVec Ideal S384x640 .f32) (a b c : EReal) (g : Fin 3) (r : Fin 128) :
    hd (F := Ideal) s a b c (ix2 ⟨g.val * 128 + r.val, by omega⟩ 0)
      = (∑ j : Fin 640, Ideal.exp (s (ix2 ⟨g.val * 128 + r.val, by omega⟩ j) - rowMax (fun x => s (ix2 ⟨g.val * 128 + r.val, by omega⟩ x)) (pick a b c g)))
        + Ideal.exp (pick a b c g - rowMax (fun x => s (ix2 ⟨g.val * 128 + r.val, by omega⟩ x)) (pick a b c g)) := by
  pointwise [hd, k0_pay36, k0_pay35, k0_pay34, k0_pay33, k0_pay31, k0_pay32, k0_pay9]
  rw [pick_eq]
  rfl

/-- The lanes of one key head. -/
def lane (h : Nat) (l : Fin 256) : EReal := if l.val / 64 = h then 1 else 0

theorem lane_eq (h : Nat) (hh : h < 4) (l : Fin 256) :
    FloatOps.sitofp (F := Ideal) FTy.f32 (BitVec.setWidth 32 (IntOp.cmpi CmpIPredicate.eq (IntOp.shrui ArithUnit.vector (BitVec.ofNat 32 l.val) 6#32) (BitVec.ofNat 32 h)))
      = lane h l := by
  rw [shr6, eq_nat _ _ (by omega) (by omega)]
  unfold lane
  change (((BitVec.setWidth 32 (if l.val / 64 = h then 1#1 else 0#1)).toInt : ℝ) : EReal) = _
  split <;> simp

theorem lm0_apply (l : Fin 256) : k0_pay10 (F := Ideal) (ix2 0 l) = lane 0 l := by
  pointwise [k0_pay10, k0_pay8]
  exact lane_eq 0 (by decide) l
theorem lm1_apply (l : Fin 256) : k0_pay12 (F := Ideal) (ix2 0 l) = lane 1 l := by
  pointwise [k0_pay12, k0_pay8]
  exact lane_eq 1 (by decide) l
theorem lm2_apply (l : Fin 256) : k0_pay14 (F := Ideal) k0_pay8 (ix2 0 l) = lane 2 l := by
  pointwise [k0_pay14, k0_pay8]
  exact lane_eq 2 (by decide) l
theorem lm3_apply (l : Fin 256) : k0_pay16 (F := Ideal) k0_pay8 (ix2 0 l) = lane 3 l := by
  pointwise [k0_pay16, k0_pay8]
  exact lane_eq 3 (by decide) l

theorem q_apply (x1 : FVec Ideal S128x768 .bf16) : k0_pay2 (F := Ideal) x1 = x1 := by
  unfold k0_pay2
  exact shapeCast_self _ _

end Cert.AttnIdeal.Value

end
-- ==== Proof.AttnMath.lean ====
module

public import proofs.«01_k».proof.Proof.AttnPoint

@[expose] public section

set_option maxRecDepth 16384

noncomputable section

namespace Cert.AttnMath

open Idealize.ShloMosaic Cert.AttnIdeal.Value

theorem ninf : Ideal.ofBits FTy.f32 4286578688#32 = ⊥ := by
  simp [Ideal.ofBits, Ideal.ieee, -EReal.coe_mul]

/-- A nonnegative finite factor goes into a sum, whatever the terms are. -/
theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih => rw [Finset.sum_insert ha, Finset.sum_insert ha, EReal.right_distrib_of_nonneg_of_ne_top (by exact_mod_cast hc) (EReal.coe_ne_top c), ih]

theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A sum over 256 lanes of terms that vanish off one key head is the sum over the head's 64 lanes. -/
theorem sum_lane (f : Fin 256 → EReal) (h : Fin 4) (hf : ∀ l, l.val / 64 ≠ h.val → f l = 0) :
    ∑ l : Fin 256, f l = ∑ d : Fin 64, f ⟨64 * h.val + d.val, by omega⟩ := by
  symm
  refine Finset.sum_of_injOn (fun d : Fin 64 => (⟨64 * h.val + d.val, by omega⟩ : Fin 256)) ?_ ?_ ?_ ?_
  · intro a _ b _ hab
    have := congrArg Fin.val hab
    dsimp only at this
    exact Fin.ext (by omega)
  · intro a _; simp
  · intro l _ hl
    refine hf l fun e => hl ?_
    refine ⟨⟨l.val - 64 * h.val, by omega⟩, by simp, Fin.ext ?_⟩
    dsimp only
    omega
  · intro a _; rfl

theorem fold_max_ne_top {n : ℕ} (s : Fin n → EReal) (hs : ∀ j, s j ≠ ⊤) : Finset.fold max ⊥ s Finset.univ ≠ ⊤ := by
  have : Finset.fold max ⊥ s Finset.univ < ⊤ := by
    rw [Finset.fold_max_lt]
    exact ⟨bot_lt_top, fun x _ => lt_top_iff_ne_top.mpr (hs x)⟩
  exact this.ne

theorem fold_max_castSucc {n : ℕ} (z : Fin (n + 1) → EReal) :
    Finset.fold max ⊥ z Finset.univ = max (Finset.fold max ⊥ (fun j : Fin n => z j.castSucc) Finset.univ) (z (Fin.last n)) := by
  rw [Fin.univ_castSuccEmb, Finset.fold_cons, Finset.fold_map, max_comm]
  rfl

variable (s : Fin 640 → EReal) (σ : ℝ) (hs : ∀ j, s j ≠ ⊤)

include hs in
theorem rowMax_real : ∃ μ : ℝ, rowMax s σ = μ := by
  unfold rowMax
  rw [ninf]
  have h1 := fold_max_ne_top s hs
  set M := max (Finset.fold max ⊥ s Finset.univ) (σ : EReal) with hM
  have hb : M ≠ ⊥ := fun e => by
    have : (σ : EReal) ≤ ⊥ := e ▸ le_max_right _ _
    exact EReal.coe_ne_bot σ (le_bot_iff.mp this)
  have ht : M ≠ ⊤ := by
    rw [hM]
    rcases max_choice (Finset.fold max ⊥ s Finset.univ) (σ : EReal) with h | h <;> rw [h]
    · exact h1
    · exact EReal.coe_ne_top σ
  exact ⟨M.toReal, (EReal.coe_toReal ht hb).symm⟩

/-- A weight is a nonnegative real number. -/
theorem exp_real (x : EReal) (hx : x ≠ ⊤) (μ : ℝ) : ∃ e : ℝ, 0 ≤ e ∧ Ideal.exp (x - (μ : EReal)) = e ∧ (x = ⊥ → e = 0) := by
  induction x using EReal.rec with
  | bot => exact ⟨0, le_refl _, by rw [EReal.bot_sub]; simp, fun _ => rfl⟩
  | top => exact absurd rfl hx
  | coe a => exact ⟨Real.exp (a - μ), (Real.exp_pos _).le, by rw [← EReal.coe_sub]; exact Ideal.exp_coe _, fun e => absurd e (EReal.coe_ne_bot a)⟩

/-- The sum of a row's weights. -/
def den (s : Fin 640 → EReal) (σ : EReal) : EReal := (∑ j : Fin 640, Ideal.exp (s j - rowMax s σ)) + Ideal.exp (σ - rowMax s σ)

include hs in
/-- Dividing the weighted sum is dividing each weight; a value whose key is masked does not count. -/
theorem soft (V W : Fin 640 → EReal) (hV : ∀ j, s j = ⊥ ∨ V j = W j) :
    Ideal.div (∑ j : Fin 640, Ideal.exp (s j - rowMax s σ) * V j) (den s σ) = ∑ j : Fin 640, W j * Ideal.div (Ideal.exp (s j - rowMax s σ)) (den s σ) := by
  unfold den
  obtain ⟨μ, hμ⟩ := rowMax_real s σ hs
  rw [hμ]
  choose e he hes heb using fun j => exp_real (s j) (hs j) μ
  simp only [hes]
  rw [← EReal.coe_sub, Ideal.exp_coe, coe_sum, ← EReal.coe_add]
  have hp : 0 < (∑ j : Fin 640, e j) + Real.exp (σ - μ) := add_pos_of_nonneg_of_pos (Finset.sum_nonneg fun j _ => he j) (Real.exp_pos _)
  rw [Ideal.div_coe hp.ne', sum_mul_real _ _ _ (by positivity)]
  refine Finset.sum_congr rfl fun j _ => ?_
  rw [Ideal.div_coe hp.ne']
  rcases hV j with h | h
  · rw [heb j h]; simp
  · rw [h, mul_comm ((e j : ℝ) : EReal) (W j), mul_assoc]

/-- The row as the reference lays it out: the sink after the keys. -/
theorem max_row (z : Fin 641 → EReal) (hz : ∀ j : Fin 640, z j.castSucc = s j) (hl : z (Fin.last 640) = σ) :
    Finset.fold max ⊥ z Finset.univ = rowMax s σ := by
  rw [fold_max_castSucc, hl]
  unfold rowMax
  rw [ninf]
  simp only [hz]

theorem sum_row (z : Fin 641 → EReal) (hz : ∀ j : Fin 640, z j.castSucc = s j) (hl : z (Fin.last 640) = σ) :
    ∑ j : Fin 641, Ideal.exp (z j - rowMax s σ) = den s σ := by
  rw [Fin.sum_univ_castSucc, hl]
  simp only [hz]
  rfl

/-- The band's keys, then the context's. -/
theorem sum_split (f : Fin 640 → EReal) : ∑ j : Fin 640, f j = (∑ j : Fin 384, f ⟨j.val, by omega⟩) + ∑ j : Fin 256, f ⟨384 + j.val, by omega⟩ :=
  Fin.sum_univ_add (M := EReal) (a := 384) (b := 256) f

end Cert.AttnMath

end
-- ==== Proof.AttnKernel.lean ====
module

public import proofs.«01_k».proof.Proof.AttnMask
public import proofs.«01_k».proof.Proof.AttnBlocks
public import proofs.«01_k».proof.Proof.AttnMath

@[expose] public section

set_option maxRecDepth 16384

noncomputable section

namespace Cert.AttnIdeal.Value

open Cert.AttnIdeal Cert.AttnIdeal.Gen Idealize.ShloMosaic Idealize.ShloMosaic.TcCoe Idealize.SL.Sem Cert.AttnMath
open Idealize.ShloMosaic.Pipeline (Dat)

variable (m : (ℓ : Loc nD τ sig) → Buf (Elt Ideal) ℓ)

/-- One element of the block: each head's quotient on its own lanes. -/
theorem join_apply (v : FVec Ideal S640x256 .bf16) (l0 l1 l2 l3 : FVec Ideal S1x256 .f32) (p0 : FVec Ideal S384x640 .f32) (d0 : FVec Ideal S384x1 .f32)
    (p1 : FVec Ideal S384x640 .f32) (d1 : FVec Ideal S384x1 .f32) (p2 : FVec Ideal S384x640 .f32) (d2 : FVec Ideal S384x1 .f32)
    (p3 : FVec Ideal S384x640 .f32) (d3 : FVec Ideal S384x1 .f32) (g : Fin 3) (r : Fin 128) (l : Fin 256) :
    join (F := Ideal) v l0 l1 l2 l3 p0 d0 p1 d1 p2 d2 p3 d3 (ix2 r ⟨256 * g.val + l.val, by omega⟩)
      = Ideal.div (∑ x : Fin 640, p0 (ix2 ⟨g.val * 128 + r.val, by omega⟩ x) * v (ix2 x l)) (d0 (ix2 ⟨g.val * 128 + r.val, by omega⟩ 0)) * l0 (ix2 0 l)
        + Ideal.div (∑ x : Fin 640, p1 (ix2 ⟨g.val * 128 + r.val, by omega⟩ x) * v (ix2 x l)) (d1 (ix2 ⟨g.val * 128 + r.val, by omega⟩ 0)) * l1 (ix2 0 l)
        + Ideal.div (∑ x : Fin 640, p2 (ix2 ⟨g.val * 128 + r.val, by omega⟩ x) * v (ix2 x l)) (d2 (ix2 ⟨g.val * 128 + r.val, by omega⟩ 0)) * l2 (ix2 0 l)
        + Ideal.div (∑ x : Fin 640, p3 (ix2 ⟨g.val * 128 + r.val, by omega⟩ x) * v (ix2 x l)) (d3 (ix2 ⟨g.val * 128 + r.val, by omega⟩ 0)) * l3 (ix2 0 l) := by
  fin_cases g
  · pointwise [join, k0_pay42, k0_pay43, k0_pay44, k0_pay45]
  · pointwise [join, k0_pay42, k0_pay43, k0_pay44, k0_pay45]
  · pointwise [join, k0_pay42, k0_pay43, k0_pay44, k0_pay45]
    simp only [dif_neg (show ¬ 512 + l.val < 256 by omega), dif_neg (show ¬ 512 + l.val - 256 < 256 by omega), show 512 + l.val - 256 - 256 = l.val by omega, Fin.eta]

theorem pick_lane (X0 X1 X2 X3 : EReal) (h : Fin 4) (l : Fin 256) (hl : l.val / 64 = h.val) :
    X0 * lane 0 l + X1 * lane 1 l + X2 * lane 2 l + X3 * lane 3 l = (![X0, X1, X2, X3] : Fin 4 → EReal) h := by
  unfold lane
  rw [hl]
  fin_cases h <;> simp

/-- The score of a query against a key of its band: the masked keys are at the bottom. -/
def score (a0 : FVec Ideal S2x4096x12x64 .f32) (a1 : FVec Ideal S2x4096x4x64 .f32) (a3 : FVec Ideal S2x256x4x64 .f32) (b : Fin 2) (n : Nat) (p : Fin 4096) (h : Fin 4) (g : Fin 3) (j : Fin 640) : EReal :=
  if bad n (p.val - n * 128) j.val then ⊥
  else ∑ d : Fin 64, a0 (ix4 b p ⟨3 * h.val + g.val, by omega⟩ d) * Ideal.ofBits FTy.f32 1040187392#32 * band a1 a3 b n h d j

theorem coords_one : ∀ t : Fin cfg0.N, (grid0.coords t 1).val = t.val % 32 :=
  (by decide +kernel : ∀ t : Fin grid0.N, (grid0.coords t 1).val = t.val % 32)

theorem not_bad (n r j : Nat) (hn : n < 32) (h : ¬ bad n r j) (hj : j < 384) : 128 ≤ n * 128 + j ∧ n * 128 + j - 128 < 4096 := by
  unfold bad at h
  omega

theorem pick_sk (c : Dev nD) (h : Fin 4) (g : Fin 3) (k0 k1 k2 : EReal) (e0 : k0 = m ((c : Thread nD τ).loc main_arg5) (ix1 ⟨3 * h.val, by omega⟩)) (e1 : k1 = m ((c : Thread nD τ).loc main_arg5) (ix1 ⟨3 * h.val + 1, by omega⟩))
    (e2 : k2 = m ((c : Thread nD τ).loc main_arg5) (ix1 ⟨3 * h.val + 2, by omega⟩)) :
    pick k0 k1 k2 g = m ((c : Thread nD τ).loc main_arg5) (ix1 ⟨3 * h.val + g.val, by omega⟩) := by
  unfold pick
  rw [e0, e1, e2]
  fin_cases g <;> rfl

section
variable (c : Dev nD) (t : Fin cfg0.N) (b : Fin 2) (p : Fin 4096) (r : Fin 128) (hb : b.val = t.val / 32) (hpp : p.val = t.val % 32 * 128 + r.val)
include hb hpp

theorem hs_score (g : Fin 3) (h : Fin 4) (lm : FVec Ideal S1x256 .f32) (hlm : ∀ l, lm (ix2 0 l) = lane h.val l) (j : Fin 640) :
    hs (F := Ideal) (neg (grid0.coords t)) (k0_pay2 (F := Ideal) (iblk m c 1 t)) (k0_pay3 (F := Ideal) (iblk m c 2 t) (iblk m c 3 t) (iblk m c 4 t) (iblk m c 5 t)) lm (ix2 ⟨g.val * 128 + r.val, by omega⟩ j)
      = score (m ((c : Thread nD τ).loc main_arg0)) (m ((c : Thread nD τ).loc main_arg1)) (m ((c : Thread nD τ).loc main_arg3)) b (t.val % 32) p h g j := by
  have ht := t.isLt
  have hN : cfg0.N = 64 := rfl
  rw [hs_apply, neg_apply, coords_one]
  unfold score
  rw [show p.val - t.val % 32 * 128 = r.val by omega]
  by_cases hbad : bad (t.val % 32) r.val j.val
  · rw [if_pos hbad, if_pos hbad]
    exact EReal.add_bot _
  · rw [if_neg hbad, if_neg hbad, add_zero, sum_lane _ h]
    · refine Finset.sum_congr rfl fun d _ => ?_
      rw [hlm, keys_band m c t b hb h d j (not_bad _ _ _ (by omega) hbad) _ rfl, q_apply,
        blk1 m c t r _ ⟨512 + (b.val * 4096 + p.val), by omega⟩ (by simp only; omega), qArr_apply _ b p g h d _ rfl _ rfl]
      unfold lane
      rw [if_pos (by simp only; omega), mul_one]
    · intro l hl
      rw [hlm]
      unfold lane
      rw [if_neg hl, mul_zero, zero_mul]

/-- One head's quotient. -/
theorem head_out (g : Fin 3) (h : Fin 4) (d : Fin 64) (lm : FVec Ideal S1x256 .f32) (hlm : ∀ l, lm (ix2 0 l) = lane h.val l) (k0 k1 k2 : EReal) (v : FVec Ideal S640x256 .bf16) :
    Ideal.div (∑ x : Fin 640, hp (F := Ideal) (hs (F := Ideal) (neg (grid0.coords t)) (k0_pay2 (F := Ideal) (iblk m c 1 t)) (k0_pay3 (F := Ideal) (iblk m c 2 t) (iblk m c 3 t) (iblk m c 4 t) (iblk m c 5 t)) lm) k0 k1 k2
          (ix2 ⟨g.val * 128 + r.val, by omega⟩ x) * v (ix2 x ⟨64 * h.val + d.val, by omega⟩))
        (hd (F := Ideal) (hs (F := Ideal) (neg (grid0.coords t)) (k0_pay2 (F := Ideal) (iblk m c 1 t)) (k0_pay3 (F := Ideal) (iblk m c 2 t) (iblk m c 3 t) (iblk m c 4 t) (iblk m c 5 t)) lm) k0 k1 k2 (ix2 ⟨g.val * 128 + r.val, by omega⟩ 0))
      = Ideal.div (∑ x : Fin 640, Ideal.exp (score (m ((c : Thread nD τ).loc main_arg0)) (m ((c : Thread nD τ).loc main_arg1)) (m ((c : Thread nD τ).loc main_arg3)) b (t.val % 32) p h g x
            - rowMax (score (m ((c : Thread nD τ).loc main_arg0)) (m ((c : Thread nD τ).loc main_arg1)) (m ((c : Thread nD τ).loc main_arg3)) b (t.val % 32) p h g) (pick k0 k1 k2 g)) * v (ix2 x ⟨64 * h.val + d.val, by omega⟩))
          (den (score (m ((c : Thread nD τ).loc main_arg0)) (m ((c : Thread nD τ).loc main_arg1)) (m ((c : Thread nD τ).loc main_arg3)) b (t.val % 32) p h g) (pick k0 k1 k2 g)) := by
  simp only [hp_apply, hd_apply, hs_score m c t b p r hb hpp g h lm hlm]
  rfl

theorem body_apply (g : Fin 3) (h : Fin 4) (d : Fin 64) :
    body (F := Ideal) (grid0.coords t) (iblk m c 0 t) (iblk m c 1 t) (iblk m c 2 t) (iblk m c 3 t) (iblk m c 4 t) (iblk m c 5 t) (ix2 r ⟨256 * g.val + (64 * h.val + d.val), by omega⟩)
      = Ideal.div (∑ x : Fin 640, Ideal.exp (score (m ((c : Thread nD τ).loc main_arg0)) (m ((c : Thread nD τ).loc main_arg1)) (m ((c : Thread nD τ).loc main_arg3)) b (t.val % 32) p h g x
            - rowMax (score (m ((c : Thread nD τ).loc main_arg0)) (m ((c : Thread nD τ).loc main_arg1)) (m ((c : Thread nD τ).loc main_arg3)) b (t.val % 32) p h g) (m ((c : Thread nD τ).loc main_arg5) (ix1 ⟨3 * h.val + g.val, by omega⟩)))
              * k0_pay4 (F := Ideal) (iblk m c 2 t) (iblk m c 3 t) (iblk m c 4 t) (iblk m c 5 t) (ix2 x ⟨64 * h.val + d.val, by omega⟩))
          (den (score (m ((c : Thread nD τ).loc main_arg0)) (m ((c : Thread nD τ).loc main_arg1)) (m ((c : Thread nD τ).loc main_arg3)) b (t.val % 32) p h g) (m ((c : Thread nD τ).loc main_arg5) (ix1 ⟨3 * h.val + g.val, by omega⟩))) := by
  unfold body
  refine (join_apply _ _ _ _ _ _ _ _ _ _ _ _ _ g r ⟨64 * h.val + d.val, by omega⟩).trans ?_
  rw [lm0_apply, lm1_apply, lm2_apply, lm3_apply, pick_lane _ _ _ _ h _ (by simp only; omega)]
  have e (k : Fin 12) : sk (F := Ideal) (iblk m c 0 t) k = m ((c : Thread nD τ).loc main_arg5) (ix1 k) := blk0 m c t k
  rw [← pick_sk m c h g _ _ _ rfl rfl rfl, ← e, ← e, ← e]
  fin_cases h
  · exact head_out m c t b p r hb hpp g 0 d _ lm0_apply _ _ _ _
  · exact head_out m c t b p r hb hpp g 1 d _ lm1_apply _ _ _ _
  · exact head_out m c t b p r hb hpp g 2 d _ lm2_apply _ _ _ _
  · exact head_out m c t b p r hb hpp g 3 d _ lm3_apply _ _ _ _
end

end Cert.AttnIdeal.Value

end
-- ==== Proof.AttnRef.lean ====
module

public import proofs.«01_k».proof.Proof.Gen.AttnRefIdeal.Read
public import proofs.«01_k».proof.Proof.AttnKernel

@[expose] public section

set_option maxRecDepth 16384

noncomputable section

namespace Cert.AttnRefIdeal.Read

open Cert.AttnIdeal.Value (band score bad rowMax)
open Cert.AttnMath Cert.AttnWords
open Cert.AttnRefIdeal Cert.AttnRefIdeal.Gen Idealize.ShloMosaic Idealize.ShloMosaic.TcCoe Idealize.SL.Sem

variable (x0 : FVec Ideal S2x4096x12x64 .f32) (x1 x2 : FVec Ideal S2x4096x4x64 .f32) (x3 x4 : FVec Ideal S2x256x4x64 .f32) (x5 : FVec Ideal S12 .f32)
variable (b : Fin 2) (n : Fin 32) (r : Fin 128) (h : Fin 4) (g : Fin 3) (d : Fin 64)

theorem eighth : Ideal.ofBits FTy.f32 1040187392#32 = ((1 / 8 : ℝ) : EReal) := by
  simp [Ideal.ofBits, Ideal.ieee, -EReal.coe_mul]
  norm_num

theorem zero_word : FloatOps.sitofp (F := Ideal) FTy.f32 (0#32 : BitVec 32) = (0 : EReal) := by
  show (((0#32 : BitVec 32).toInt : ℝ) : EReal) = 0
  simp

theorem band_of (a : FVec Ideal S2x4096x4x64 .f32) (e : FVec Ideal S2x256x4x64 .f32) (b : Fin 2) (n : Nat) (h : Fin 4) (d : Fin 64) (j : Fin 640) (hj : j.val < 384) (q : Nat) (hq : q = n * 128 + j.val) :
    (if hp : 128 ≤ q ∧ q - 128 < 4096 then a (ix4 b ⟨q - 128, hp.2⟩ h d) else 0) = band a e b n h d j := by
  subst hq
  unfold band
  rw [dif_pos hj]

theorem band_ctx (a : FVec Ideal S2x4096x4x64 .f32) (e : FVec Ideal S2x256x4x64 .f32) (b : Fin 2) (n : Nat) (h : Fin 4) (d : Fin 64) (j : Fin 256) :
    band a e b n h d ⟨384 + j.val, by omega⟩ = e (ix4 b j h d) := by
  unfold band
  simp only [dif_neg (show ¬ 384 + j.val < 384 by omega), show 384 + j.val - 384 = j.val by omega]

theorem row_lt (n : Fin 32) (r : Fin 128) : n.val * 128 + r.val < 4096 := by omega

theorem and3 (p q s : Prop) [Decidable p] [Decidable q] [Decidable s] :
    IntOp.andi (IntOp.andi (if p then 1#1 else 0#1) (if q then 1#1 else 0#1)) (if s then 1#1 else 0#1) = if p ∧ q ∧ s then 1#1 else 0#1 := by
  by_cases hp : p <;> by_cases hq : q <;> by_cases hs : s <;> simp [hp, hq, hs, IntOp.andi]

/-- The padded blocks of keys or values are the band. -/
theorem v6_apply (j : Fin 384) : val_main_v6 (F := Ideal) x1 (ix5 b n j h d) = band x1 x3 b n.val h d ⟨j.val, by omega⟩ := by
  pointwise [val_main_v6, val_main_v5, val_main_v4, val_main_v3, val_main_v2, val_main_v1]
  have hz : ∀ i, val_main_call0_v0 (F := Ideal) i = (0 : EReal) := fun i => zero_word
  simp only [hz]
  by_cases c1 : j.val < 128
  · rw [dif_pos c1]
    exact band_of x1 x3 b n.val h d ⟨j.val, by omega⟩ j.isLt _ rfl
  rw [dif_neg c1]
  by_cases c2 : j.val - 128 < 128
  · rw [dif_pos c2]
    exact band_of x1 x3 b n.val h d ⟨j.val, by omega⟩ j.isLt _ (by simp only; omega)
  · rw [dif_neg c2]
    exact band_of x1 x3 b n.val h d ⟨j.val, by omega⟩ j.isLt _ (by simp only; omega)

theorem v12_eq : val_main_v12 (F := Ideal) x2 = val_main_v6 (F := Ideal) x2 := rfl

theorem v16_apply (j : Fin 384) : val_main_v16 (F := Ideal) x0 x1 (ix6 b n h g r j)
    = ∑ d : Fin 64, x0 (ix4 b ⟨n.val * 128 + r.val, by omega⟩ ⟨3 * h.val + g.val, by omega⟩ d) * Ideal.ofBits FTy.f32 1040187392#32 * band x1 x3 b n.val h d ⟨j.val, by omega⟩ := by
  pointwise [val_main_v16, val_main_v15, val_main_cst, val_main_v14, val_main_v13, val_main_v0]
  rw [eighth, sum_mul_real _ _ _ (by norm_num)]
  refine Finset.sum_congr rfl fun d _ => ?_
  rw [v6_apply x1 x3]
  simp only [show h.val * 3 + g.val = 3 * h.val + g.val by omega]
  rw [mul_comm (band _ _ _ _ _ _ _), mul_assoc, mul_assoc, mul_comm (band _ _ _ _ _ _ _)]

theorem mask_apply (j : Fin 384) : val_main_call2_v1 (F := Ideal) (ix6 b n h g r j) = if bad n.val r.val j.val then 0#1 else 1#1 := by
  pointwise [val_main_call2_v1, val_main_v49, val_main_v48, val_main_v47, val_main_v46, val_main_v45, val_main_c_6, val_main_v44, val_main_v43, val_main_v42, val_main_v41, val_main_v40, val_main_c_5, val_main_v39, val_main_v38, val_main_v37, val_main_c_4, val_main_v36, val_main_v35, val_main_v34, val_main_v33, val_main_v32, val_main_v31, val_main_v30, val_main_c_3, val_main_v29, val_main_v28, val_main_c_2, val_main_v27, val_main_v26, val_main_v25, val_main_v24, val_main_v23, val_main_v22, val_main_v21, val_main_c_1, val_main_v20, val_main_v19, val_main_v18, val_main_v17]
  have hj := j.isLt
  have hn := n.isLt
  have hr := r.isLt
  have e0 := Cert.AttnIdeal.Value.diff j.val r.val (by omega) (by omega)
  have e1 : (IntOp.absi (IntOp.subi (IntOp.subi (BitVec.ofNat 32 j.val) 128#32) (BitVec.ofNat 32 r.val))).toInt = |(j.val : Int) - 128 - r.val| := by
    rw [toInt_absi _ (by rw [e0]; omega), e0]
  have h128 : (128#32 : BitVec 32).toInt = 128 := rfl
  have e2 : (IntOp.muli (BitVec.ofNat 32 n.val) 128#32).toInt = (n.val : Int) * 128 := by
    rw [toInt_muli _ _ (by rw [toInt_ofNat _ (by omega)]; omega) rfl, toInt_ofNat _ (by omega)]
  have e3 : (IntOp.subi (IntOp.muli (BitVec.ofNat 32 n.val) 128#32) 128#32).toInt = (n.val : Int) * 128 - 128 := by
    rw [toInt_subi _ _ (by rw [e2]; omega) (by rw [h128]; omega), e2, h128]
  have e4 : (IntOp.addi (IntOp.subi (IntOp.muli (BitVec.ofNat 32 n.val) 128#32) 128#32) (BitVec.ofNat 32 j.val)).toInt = (n.val : Int) * 128 - 128 + j.val := by
    rw [toInt_addi _ _ (by rw [e3]; omega) (by rw [toInt_ofNat _ (by omega)]; omega), e3, toInt_ofNat _ (by omega)]
  rw [sle, sge, slt, e1, e4, h128, show (0#32 : BitVec 32).toInt = 0 from rfl, show (4096#32 : BitVec 32).toInt = 4096 from rfl]
  have ha : |(j.val : Int) - 128 - r.val| ≤ 128 ↔ -128 ≤ (j.val : Int) - 128 - r.val ∧ (j.val : Int) - 128 - r.val ≤ 128 := abs_le
  rw [and3]
  by_cases hb : bad n.val r.val j.val
  · rw [if_pos hb]
    unfold bad at hb
    exact if_neg fun e => by have := ha.mp e.1; omega
  · rw [if_neg hb]
    unfold bad at hb
    exact if_pos ⟨ha.mpr (by omega), by omega, by omega⟩

theorem v54_apply (j : Fin 256) : val_main_v54 (F := Ideal) x0 x3 (ix6 b n h g r j)
    = ∑ d : Fin 64, x0 (ix4 b ⟨n.val * 128 + r.val, by omega⟩ ⟨3 * h.val + g.val, by omega⟩ d) * Ideal.ofBits FTy.f32 1040187392#32 * x3 (ix4 b j h d) := by
  pointwise [val_main_v54, val_main_v53, val_main_cst_8, val_main_v52, val_main_v51, val_main_v0]
  rw [eighth, sum_mul_real _ _ _ (by norm_num)]
  refine Finset.sum_congr rfl fun d _ => ?_
  simp only [show h.val * 3 + g.val = 3 * h.val + g.val by omega]
  rw [mul_comm (x3 _), mul_assoc, mul_assoc, mul_comm (x3 _)]

theorem v57_apply : val_main_v57 (F := Ideal) x5 (ix6 b n h g r 0) = x5 (ix1 ⟨3 * h.val + g.val, by omega⟩) := by
  pointwise [val_main_v57, val_main_v56, val_main_v55]
  simp only [show h.val * 3 + g.val = 3 * h.val + g.val by omega]

theorem v50_apply (j : Fin 384) : val_main_v50 (F := Ideal) x0 x1 (ix6 b n h g r j)
    = score x0 x1 x3 b n.val ⟨n.val * 128 + r.val, by omega⟩ h g ⟨j.val, by omega⟩ := by
  pointwise [val_main_v50, val_main_call2_v2, val_main_call2_v0, val_main_cst_7]
  rw [mask_apply, v16_apply x0 x1 x3]
  unfold score
  simp only [show n.val * 128 + r.val - n.val * 128 = r.val by omega]
  by_cases hb : bad n.val r.val j.val
  · rw [if_pos hb, if_pos hb]
    exact ninf
  · rw [if_neg hb, if_neg hb]
    rfl

theorem v58_read (j : Fin 641) : val_main_v58 (F := Ideal) x0 x1 x3 x5 (ix6 b n h g r j)
    = if h1 : j.val < 384 then val_main_v50 (F := Ideal) x0 x1 (ix6 b n h g r ⟨j.val, h1⟩)
      else if h2 : j.val - 384 < 256 then val_main_v54 (F := Ideal) x0 x3 (ix6 b n h g r ⟨j.val - 384, h2⟩)
      else val_main_v57 (F := Ideal) x5 (ix6 b n h g r ⟨j.val - 384 - 256, by omega⟩) := by
  pointwise [val_main_v58]

theorem v58_castSucc (j : Fin 640) : val_main_v58 (F := Ideal) x0 x1 x3 x5 (ix6 b n h g r j.castSucc)
    = score x0 x1 x3 b n.val ⟨n.val * 128 + r.val, by omega⟩ h g j := by
  have hv : (j.castSucc : Fin 641).val = j.val := rfl
  rw [v58_read]
  by_cases c1 : j.val < 384
  · rw [dif_pos (hv ▸ c1)]
    exact v50_apply x0 x1 x3 b n r h g ⟨j.val, c1⟩
  · rw [dif_neg (show ¬ (j.castSucc : Fin 641).val < 384 by omega), dif_pos (show (j.castSucc : Fin 641).val - 384 < 256 by omega)]
    refine (v54_apply x0 x3 b n r h g ⟨j.val - 384, by omega⟩).trans ?_
    unfold score band
    rw [if_neg (by unfold bad; omega)]
    simp only [dif_neg c1]

theorem v58_last : val_main_v58 (F := Ideal) x0 x1 x3 x5 (ix6 b n h g r (Fin.last 640)) = x5 (ix1 ⟨3 * h.val + g.val, by omega⟩) := by
  rw [v58_read, dif_neg (show ¬ (Fin.last 640).val < 384 by decide), dif_neg (show ¬ (Fin.last 640).val - 384 < 256 by decide)]
  exact v57_apply x5 b n r h g

theorem max_ninf (y : EReal) : FloatOps.maximumf (F := Ideal) (φ := .f32) (FloatOps.ofBits .f32 0xFF800000#32) y = y := by
  show max (Ideal.ofBits FTy.f32 4286578688#32) y = y
  rw [ninf]
  exact max_eq_right bot_le

theorem v73_apply : val_main_v73 (F := Ideal) x0 x1 x2 x3 x5 (ix6 b n r h g d) = ∑ x : Fin 384, val_main_v12 (F := Ideal) x2 (ix5 b n x h d) * val_main_v70 (F := Ideal) x0 x1 x3 x5 (ix6 b n h g r x) := by
  pointwise [val_main_v73, val_main_v72]

theorem v75_apply : val_main_v75 (F := Ideal) x0 x1 x3 x4 x5 (ix6 b n r h g d) = ∑ x : Fin 256, x4 (ix4 b x h d) * val_main_v71 (F := Ideal) x0 x1 x3 x5 (ix6 b n h g r x) := by
  pointwise [val_main_v75, val_main_v74]

theorem v70_apply (j : Fin 384) : val_main_v70 (F := Ideal) x0 x1 x3 x5 (ix6 b n h g r j) = val_main_v69 (F := Ideal) x0 x1 x3 x5 (ix6 b n h g r ⟨j.val, by omega⟩) := by
  pointwise [val_main_v70]

theorem v71_apply (j : Fin 256) : val_main_v71 (F := Ideal) x0 x1 x3 x5 (ix6 b n h g r j) = val_main_v69 (F := Ideal) x0 x1 x3 x5 (ix6 b n h g r ⟨384 + j.val, by omega⟩) := by
  pointwise [val_main_v71]

theorem lift_eq (H : S2x32x4x3x128x641.Reduces [5] S2x32x4x3x128) (j : Fin 641) : H.lift (ix5 b n h g r) j = ix6 b n h g r j :=
  funext fun a => Fin.ext (by match a with | ⟨0, _⟩ => rfl | ⟨1, _⟩ => rfl | ⟨2, _⟩ => rfl | ⟨3, _⟩ => rfl | ⟨4, _⟩ => rfl | ⟨5, _⟩ => rfl)

theorem v59_apply : val_main_v59 (F := Ideal) x0 x1 x3 x5 (ix5 b n h g r) = Finset.fold max ⊥ (fun j : Fin 641 => val_main_v58 (F := Ideal) x0 x1 x3 x5 (ix6 b n h g r j)) Finset.univ := by
  unfold val_main_v59
  generalize val_main_v58 (F := Ideal) x0 x1 x3 x5 = y
  have H : S2x32x4x3x128x641.Reduces [5] S2x32x4x3x128 := by decide
  refine (Host.reduce_eq_fold_single (FloatOps.maximumf (F := Ideal) (φ := .f32)) y _ reducesTo_S2x32x4x3x128x641_S2x32x4x3x128_d5 H h_S_ (ix5 b n h g r)).trans ?_
  show Finset.fold max (Ideal.ofBits FTy.f32 4286578688#32) (y ∘ H.lift (ix5 b n h g r)) (Finset.univ : Finset (Fin 641)) = _
  rw [ninf]
  exact congrArg (fun f : Fin 641 → EReal => Finset.fold max ⊥ f Finset.univ) (funext fun j => congrArg y (lift_eq b n r h g H j))

variable (σ : ℝ) (hσ : x5 (ix1 ⟨3 * h.val + g.val, by omega⟩) = (σ : EReal))
include hσ

theorem v61_apply : val_main_v61 (F := Ideal) x0 x1 x3 x5 (ix5 b n h g r) = rowMax (score x0 x1 x3 b n.val ⟨n.val * 128 + r.val, by omega⟩ h g) σ := by
  have k1 := v58_castSucc x0 x1 x3 x5 b n r h g
  have k2 := (v58_last x0 x1 x3 x5 b n r h g).trans hσ
  rw [val_main_v61_apply, val_main_v60_apply, val_main_cst_10_apply, v59_apply]
  generalize val_main_v58 (F := Ideal) x0 x1 x3 x5 = y at k1 k2 ⊢
  rw [max_row _ σ (fun j => y (ix6 b n h g r j)) k1 k2]
  exact max_ninf _

theorem v65_apply (j : Fin 641) : val_main_v65 (F := Ideal) x0 x1 x3 x5 (ix6 b n h g r j)
    = Ideal.exp (val_main_v58 (F := Ideal) x0 x1 x3 x5 (ix6 b n h g r j) - rowMax (score x0 x1 x3 b n.val ⟨n.val * 128 + r.val, by omega⟩ h g) σ) := by
  rw [← v61_apply x0 x1 x3 x5 b n r h g σ hσ]
  pointwise [val_main_v65, val_main_v64, val_main_v63, val_main_v62]

theorem v66_apply : val_main_v66 (F := Ideal) x0 x1 x3 x5 (ix5 b n h g r) = den (score x0 x1 x3 b n.val ⟨n.val * 128 + r.val, by omega⟩ h g) σ := by
  rw [val_main_v66_apply, ← sum_row _ σ (fun j => val_main_v58 (F := Ideal) x0 x1 x3 x5 (ix6 b n h g r j)) (v58_castSucc x0 x1 x3 x5 b n r h g) ((v58_last x0 x1 x3 x5 b n r h g).trans hσ)]
  have z : val_main_cst_11 (F := Ideal) (Shape.Idx.first h_S_) = (0 : EReal) := by
    pointwise [val_main_cst_11]
  rw [z, zero_add]
  refine Finset.sum_congr rfl fun j _ => ?_
  rw [← v65_apply x0 x1 x3 x5 b n r h g σ hσ]
  refine congrArg _ (funext fun a => Fin.ext (by match a with | ⟨0, _⟩ => rfl | ⟨1, _⟩ => rfl | ⟨2, _⟩ => rfl | ⟨3, _⟩ => rfl | ⟨4, _⟩ => rfl | ⟨5, _⟩ => rfl))

theorem v69_apply (j : Fin 640) : val_main_v69 (F := Ideal) x0 x1 x3 x5 (ix6 b n h g r j.castSucc)
    = Ideal.div (Ideal.exp (score x0 x1 x3 b n.val ⟨n.val * 128 + r.val, by omega⟩ h g j - rowMax (score x0 x1 x3 b n.val ⟨n.val * 128 + r.val, by omega⟩ h g) σ))
        (den (score x0 x1 x3 b n.val ⟨n.val * 128 + r.val, by omega⟩ h g) σ) := by
  rw [← v66_apply x0 x1 x3 x5 b n r h g σ hσ, ← v58_castSucc x0 x1 x3 x5 b n r h g j, ← v65_apply x0 x1 x3 x5 b n r h g σ hσ]
  pointwise [val_main_v69, val_main_v68, val_main_v67]

/-- The reference at an element: the values of the band, each with its weight. -/
theorem v76_apply : val_main_v76 (F := Ideal) x0 x1 x2 x3 x4 x5 (ix6 b n r h g d)
    = ∑ j : Fin 640, band x2 x4 b n.val h d j * Ideal.div (Ideal.exp (score x0 x1 x3 b n.val ⟨n.val * 128 + r.val, by omega⟩ h g j - rowMax (score x0 x1 x3 b n.val ⟨n.val * 128 + r.val, by omega⟩ h g) σ))
        (den (score x0 x1 x3 b n.val ⟨n.val * 128 + r.val, by omega⟩ h g) σ) := by
  rw [val_main_v76_apply, v73_apply, v75_apply, sum_split, v12_eq]
  refine congrArg₂ (fun x y : EReal => x + y) (Finset.sum_congr rfl fun j _ => ?_) (Finset.sum_congr rfl fun j _ => ?_)
  · rw [v70_apply, v6_apply x2 x4]
    refine congrArg (fun z : EReal => band x2 x4 b n.val h d ⟨j.val, by omega⟩ * z) ?_
    exact v69_apply x0 x1 x3 x5 b n r h g σ hσ ⟨j.val, by omega⟩
  · rw [v71_apply, band_ctx]
    refine congrArg (fun z : EReal => x4 (ix4 b j h d) * z) ?_
    exact v69_apply x0 x1 x3 x5 b n r h g σ hσ ⟨384 + j.val, by omega⟩

theorem v78_apply (p : Fin 4096) (hp : p.val = n.val * 128 + r.val) (l : Fin 768) (hl : l.val = 192 * h.val + (64 * g.val + d.val)) : val_main_v78 (F := Ideal) x0 x1 x2 x3 x4 x5 (ix3 b p l)
    = ∑ j : Fin 640, band x2 x4 b n.val h d j * Ideal.div (Ideal.exp (score x0 x1 x3 b n.val p h g j - rowMax (score x0 x1 x3 b n.val p h g) σ))
        (den (score x0 x1 x3 b n.val p h g) σ) := by
  obtain rfl : p = ⟨n.val * 128 + r.val, row_lt n r⟩ := Fin.ext hp
  rw [← v76_apply x0 x1 x2 x3 x4 x5 b n r h g d σ hσ]
  pointwise [val_main_v78, val_main_v77]
  blk_ext

end Cert.AttnRefIdeal.Read

end
-- ==== Proof.AttnValue.lean ====
module

public import proofs.«01_k».proof.Proof.AttnRef
public import proofs.«01_k».proof.Proof.Gen.AttnIdeal.Frame

@[expose] public section

set_option maxRecDepth 16384

noncomputable section

namespace Cert.AttnIdeal.Value

open Cert.AttnMath Cert.AttnWords
open Cert.AttnIdeal Cert.AttnIdeal.Gen Idealize.ShloMosaic Idealize.ShloMosaic.TcCoe Idealize.SL.Sem

/-- Every element is a real number. -/
def AllReal {s : Shape} (a : FVec Ideal s .f32) : Prop := ∀ i, ∃ x : ℝ, a i = (x : EReal)

theorem band_real (a1 : FVec Ideal S2x4096x4x64 .f32) (a3 : FVec Ideal S2x256x4x64 .f32) (h1 : AllReal a1) (h3 : AllReal a3) (b : Fin 2) (n : Nat) (h : Fin 4) (d : Fin 64) (j : Fin 640) :
    ∃ x : ℝ, band a1 a3 b n h d j = (x : EReal) := by
  unfold band
  split
  · split
    · exact h1 _
    · exact ⟨0, rfl⟩
  · exact h3 _

/-- A score is the bottom or a real number. -/
theorem score_ne_top (a0 : FVec Ideal S2x4096x12x64 .f32) (a1 : FVec Ideal S2x4096x4x64 .f32) (a3 : FVec Ideal S2x256x4x64 .f32) (h0 : AllReal a0) (h1 : AllReal a1) (h3 : AllReal a3)
    (b : Fin 2) (n : Nat) (p : Fin 4096) (h : Fin 4) (g : Fin 3) (j : Fin 640) : score a0 a1 a3 b n p h g j ≠ ⊤ := by
  unfold score
  split
  · exact bot_ne_top
  · choose x hx using fun d : Fin 64 => h0 (ix4 b p ⟨3 * h.val + g.val, by omega⟩ d)
    choose y hy using fun d : Fin 64 => band_real a1 a3 h1 h3 b n h d j
    have e (d : Fin 64) : a0 (ix4 b p ⟨3 * h.val + g.val, by omega⟩ d) * Ideal.ofBits FTy.f32 1040187392#32 * band a1 a3 b n h d j = ((x d * (1 / 8) * y d : ℝ) : EReal) := by
      rw [hx, hy, Cert.AttnRefIdeal.Read.eighth, ← EReal.coe_mul, ← EReal.coe_mul]
    rw [Finset.sum_congr rfl fun d _ => e d, coe_sum]
    exact EReal.coe_ne_top _

variable (m : (ℓ : Loc nD τ sig) → Buf (Elt Ideal) ℓ)

/-- The reference's result of the arguments. -/
abbrev ref (c : Dev nD) : FVec Ideal S2x4096x768 .bf16 :=
  Cert.AttnRefIdeal.Read.val_main_v78 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The arguments the scores are made of hold real numbers. -/
def Finite (c : Dev nD) : Prop :=
  AllReal (s := S2x4096x12x64) (m ((c : Thread nD τ).loc main_arg0)) ∧ AllReal (s := S2x4096x4x64) (m ((c : Thread nD τ).loc main_arg1))
    ∧ AllReal (s := S2x256x4x64) (m ((c : Thread nD τ).loc main_arg3)) ∧ AllReal (s := S12) (m ((c : Thread nD τ).loc main_arg5))

/-- What a point writes. -/
theorem point (c : Dev nD) (hf : Finite m c) (t : Fin cfg0.N) (b : Fin 2) (p : Fin 4096) (r : Fin 128) (hb : b.val = t.val / 32) (hpp : p.val = t.val % 32 * 128 + r.val)
    (g : Fin 3) (h : Fin 4) (d : Fin 64) :
    outsAt0 m c t (ix2 r ⟨256 * g.val + (64 * h.val + d.val), by omega⟩) = ref m c (ix3 b p ⟨192 * h.val + (64 * g.val + d.val), by omega⟩) := by
  unfold outsAt0
  rw [out0_A_6_eq, body_apply m c t b p r hb hpp g h d]
  obtain ⟨h0, h1, h3, h5⟩ := hf
  obtain ⟨σ, hσ⟩ := h5 (ix1 ⟨3 * h.val + g.val, by omega⟩)
  have hn : t.val % 32 < 32 := Nat.mod_lt _ (by decide)
  refine Eq.trans ?_ (Cert.AttnRefIdeal.Read.v78_apply _ _ _ _ _ _ b ⟨t.val % 32, hn⟩ r h g d σ hσ p hpp _ rfl).symm
  rw [hσ]
  refine soft _ σ (fun j => score_ne_top _ _ _ h0 h1 h3 b _ p h g j) _ _ fun j => ?_
  by_cases hbad : bad (t.val % 32) (p.val - t.val % 32 * 128) j.val
  · exact .inl (if_pos hbad)
  · exact .inr (vals_band m c t b hb h d j (not_bad _ _ _ hn hbad) _ rfl)

/-- The launch's result array: a row of a batch element, the heads of a group side by side. -/
def flat (x : FVec Ideal S2x4096x768 .bf16) : FVec Ideal S8192x768 .bf16 := fun y =>
  x (ix3 ⟨(y 0).val / 4096, by have : (y 0).val < 8192 := (y 0).isLt; omega⟩ ⟨(y 0).val % 4096, Nat.mod_lt _ (by decide)⟩
    ⟨192 * ((y 1).val % 256 / 64) + (64 * ((y 1).val / 256) + (y 1).val % 64), by have : (y 1).val < 768 := (y 1).isLt; omega⟩)

theorem final (c : Dev nD) (hfin : Finite m c) : (dats m 0 c).arrAt 6 (cfgs 0).N = flat (ref m c) := by
  refine (dats m 0 c).arrAt_eq_of_covers 6 _ (by decide +kernel) fun t hf y => ?_
  blk_simp
  rw [after0_6]
  have ht : t.val < 64 := lt_of_lt_of_eq t.isLt N_0
  obtain ⟨r, l, rfl⟩ : ∃ (r : Fin 128) (l : Fin 768), y = ix2 r l := ⟨y 0, y 1, eq_ix2 y⟩
  obtain ⟨g, h, d, rfl⟩ : ∃ (g : Fin 3) (h : Fin 4) (d : Fin 64), l = ⟨256 * g.val + (64 * h.val + d.val), by omega⟩ :=
    ⟨⟨l.val / 256, by omega⟩, ⟨l.val % 256 / 64, by omega⟩, ⟨l.val % 64, by omega⟩, Fin.ext (by simp only; omega)⟩
  rw [point m c hfin t ⟨t.val / 32, by omega⟩ ⟨t.val % 32 * 128 + r.val, by omega⟩ r rfl rfl g h d]
  unfold flat
  blk_ext [idx_val t]

/-- The lines after the launch put the heads in their order. -/
theorem tail (c : Dev nD) (hfin : Finite m c) : Pipeline.afterTail₀ cfgs (dats m) 0 (V0 m) [hostOps1] c main_v19 = ref m c := by
  have e : Pipeline.afterTail₀ cfgs (dats m) 0 (V0 m) [hostOps1] c main_v19
      = shapeCast S2x4096x768 (transpose S2x4096x4x3x64 [0, 1, 3, 2, 4] (shapeCast S2x4096x3x4x64 (flat (ref m c)) shapeCasts_S8192x768_S2x4096x3x4x64)
          transposes_S2x4096x3x4x64_S2x4096x4x3x64_0_1_3_2_4) shapeCasts_S2x4096x4x3x64_S2x4096x768 := by
    unfold Pipeline.afterTail₀
    simp only [hostOps1, List.flatten_cons, List.flatten_nil, List.append_nil]
    after_results
    erw [Pipeline.withArrays_arr_shared spec0 c (V0 m c) _ ((dats m 0 c).arrAt_sharedIn sharedIn0 (V0 m c) (A_eq m c) _) 6]
    rw [final m c hfin]
    rfl
  rw [e]
  generalize ref m c = x
  funext y
  obtain ⟨b, p, l, rfl⟩ : ∃ (b : Fin 2) (p : Fin 4096) (l : Fin 768), y = ix3 b p l := ⟨y 0, y 1, y 2, eq_ix3 y⟩
  have e1 : (l.val / 64 % 3 * 256 + l.val / 192 * 64 + l.val % 64) % 256 = l.val / 192 * 64 + l.val % 64 := by omega
  have e2 : (l.val / 64 % 3 * 256 + l.val / 192 * 64 + l.val % 64) / 256 = l.val / 64 % 3 := by omega
  pointwise [flat]
  blk_ext

/-- The kernel's run: the result ends at the reference's term of the arguments, the arguments unchanged. -/
theorem run (hfin : ∀ c, Finite m c) (ρ : Dev nD → PrngReg) : θ_run defs (onTc (τ := τ) (main (F := Ideal))) ⟨m, fun _ => 0, ρ⟩ fun r => ∀ c : Dev nD,
    r.2.mem ((c : Thread nD τ).loc main_v19) = ref m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).2 main_v19 (Pipeline.mem_restRefs_of main_v19 (by decide) (by decide))).trans (tail m c (hfin c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 0).trans (((dats m 0 c).arrAt_in 0 rfl _).trans ((A_eq m c 0).trans (V_main_arg5 m c)))⟩)
    (run_main m ρ)

end Cert.AttnIdeal.Value

end
-- ==== Proof.AttnClaims.lean ====
module

public import proofs.«01_k».proof.Defs
public import proofs.«01_k».proof.Proof.Gen.Attn.Frame
public import proofs.«01_k».proof.Proof.AttnValue
public import proofs.«01_k».proof.Proof.Gen.AttnRefIdeal.Run
public import Idealize.ShloMosaic.Adequacy
public import Idealize.ShloMosaic.Init

@[expose] public section

set_option maxRecDepth 16384

noncomputable section

namespace Cert.AttnClaims

open Idealize.ShloMosaic Idealize.SL.Sem

instance pre_facts : Cert.Pre_finite_scores.Facts where
  bcast_S_S2x4096x12x64 := by decide
  bcast_S_S2x4096x4x64 := by decide
  bcast_S_S2x256x4x64 := by decide
  bcast_S_S12 := by decide

theorem frame : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_finite_scores := fun m ρ _ => Cert.AttnIdeal.Gen.frame m ρ

theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_ref_pre : Cert.quiescent_AttnRefIdeal_pre_finite_scores := fun m ρ _ => frame_ref m ρ trivial

theorem preserves : Cert.preserves_Attn_AttnIdeal := ⟨rfl, fun _ => rfl, rfl⟩

/-- A number whose magnitude is below the top is real. -/
theorem real_of_lt (x : EReal) (h : Ideal.cmp .olt (max x (-x)) (Ideal.ofBits .f32 0x7F800000#32) = 1#1) : ∃ y : ℝ, x = (y : EReal) := by
  have e : Ideal.ofBits .f32 0x7F800000#32 = ⊤ := by simp [Ideal.ofBits, Ideal.ieee]
  rw [e] at h
  induction x using EReal.rec with
  | bot => simp [Ideal.cmp] at h
  | coe y => exact ⟨y, rfl⟩
  | top => simp [Ideal.cmp] at h

theorem finite (m : (ℓ : Loc Cert.AttnIdeal.nD Cert.AttnIdeal.τ Cert.AttnIdeal.sig) → Buf (Elt Ideal) ℓ) (h : Cert.Pre_AttnIdeal_finite_scores m) (c : Dev Cert.AttnIdeal.nD) :
    Cert.AttnIdeal.Value.Finite m c :=
  ⟨fun i => real_of_lt _ (congrFun (h c).1 i), fun i => real_of_lt _ (congrFun (h c).2.1 i), fun i => real_of_lt _ (congrFun (h c).2.2.1 i),
    fun i => real_of_lt _ (congrFun (h c).2.2.2 i)⟩

/-- Both programs end at the reference's term of the arguments. -/
theorem algebraic : Cert.algebraic_AttnIdeal_AttnRefIdeal_pre_finite_scores := fun m ρ m' ρ' hpre hag =>
  ⟨fun c => Cert.AttnRefIdeal.Value.res_main_v78 (F := Ideal) m' c,
    (θ_run Cert.AttnIdeal.defs _ _).mono (fun r h c => ⟨(h c).1.trans (by
        show _ = Cert.AttnRefIdeal.Value.res_main_v78 (F := Ideal) m' c
        rw [Cert.AttnRefIdeal.Read.val_main_v78_eq, (hag c).1, (hag c).2.1, (hag c).2.2.1, (hag c).2.2.2.1, (hag c).2.2.2.2.1, (hag c).2.2.2.2.2]), (h c).2⟩)
      (Cert.AttnIdeal.Value.run m (finite m hpre) ρ),
    Cert.AttnRefIdeal.Value.run (F := Ideal) m' ρ'⟩

end Cert.AttnClaims

end
-- ==== Proof.FfnIdealFrame.lean ====
module

public import proofs.«01_k».proof.Proof.Gen.FfnIdeal.Frame.RunC
public import Idealize.ShloMosaic.Lib.Claim

@[expose] public section

-- membership in a rectangle of production extents (`View.cover_of_tiled`)
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) : Vec F S512x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- Case A's pieces for scratch `arg10`, which the kernel carries between points, cover it: 2 pieces of `S512x2048` tiling it (Lib/Ring.lean `Piece.tiledL`). -/
theorem scover0_A_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S512x2048.size (by sl_kernel_rfl) y

/-- What case A leaves in scratch `arg10`: its pieces read back over junk. -/
def sout0_A_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) : Vec F S512x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) : Vec F S512x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case B's pieces for scratch `arg10`, which the kernel carries between points, cover it: 1 piece of `S512x2048` tiling it (Lib/Ring.lean `Piece.tiledL`). -/
theorem scover0_B_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S512x2048.size (by sl_kernel_rfl) y

/-- What case B leaves in scratch `arg10`: its pieces read back over junk. -/
def sout0_B_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C's pieces for output 7 tile its block (1 store of `S512x2048`, checked by the kernel's evaluation: Lib/Ring.lean `Piece.tiledL`, linear in the pieces, through a loop's `@[irreducible]` trip theorem too), so they cover it. -/
theorem cover0_C_7 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S512x2048.size (by sl_kernel_rfl) y

/-- What case C leaves in output 7's staging buffer: its pieces read back over junk. -/
def out0_C_7 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) : Vec F S512x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C's pieces for scratch `arg10`, which the kernel carries between points, cover it: 1 piece of `S512x2048` tiling it (Lib/Ring.lean `Piece.tiledL`). -/
theorem scover0_C_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S512x2048.size (by sl_kernel_rfl) y

/-- What case C leaves in scratch `arg10`: its pieces read back over junk. -/
def sout0_C_0 (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .f32 × Vec F S512x2048 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 11 = 0 then
      if h1 : (n + 1) % 11 = 10 then
        False.elim (by have hN : n + 1 < 176 := lt_of_lt_of_eq hn (show cfg0.N = 176 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 11 = 10 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

/-- `outsAt0` at a point of case A: that case's contents. -/
theorem outsAt0_A (c : Dev nD) (t : Fin cfg0.N) (h0 : t.val % 11 = 0) (h1 : ¬t.val % 11 = 10) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => rw [outsAt0, dif_pos h0, dif_neg h1]

/-- `outsAt0` at a point of case B: that case's contents, over what the point before left. -/
theorem outsAt0_B (c : Dev nD) (t : Fin cfg0.N) (h0 : ¬t.val % 11 = 0) (h1 : ¬t.val % 11 = 10) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n =>
    have e : outsAt0 m c ((⟨n + 1, hn⟩ : Fin cfg0.N).val - 1) (Nat.lt_of_le_of_lt (Nat.sub_le _ _) hn) = outsAt0 m c n (Nat.lt_of_succ_lt hn) := rfl
    rw [e, outsAt0, dif_neg h0, dif_neg h1]

/-- `outsAt0` at a point of case C: that case's contents, over what the point before left. -/
theorem outsAt0_C (c : Dev nD) (t : Fin cfg0.N) (h0 : ¬t.val % 11 = 0) (h1 : t.val % 11 = 10) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n =>
    have e : outsAt0 m c ((⟨n + 1, hn⟩ : Fin cfg0.N).val - 1) (Nat.lt_of_le_of_lt (Nat.sub_le _ _) hn) = outsAt0 m c n (Nat.lt_of_succ_lt hn) := rfl
    rw [e, outsAt0, dif_neg h0, dif_pos h1]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 11 = 10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 176 := lt_of_lt_of_eq t.isLt (show cfg0.N = 176 from N_0); omega
      · rw [PhiS_castSucc m c t, PhiS_pos m c _ _ hz]
        rw [outsAt0_C m c t h0 h1]
        unfold out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 176 := lt_of_lt_of_eq t.isLt (show cfg0.N = 176 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 176 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Gen

end
-- ==== Proof.FfnBody.lean ====
module

public import proofs.«01_k».proof.Proof.FfnIdealFrame
public import Idealize.ShloMosaic.Lib.Pipeline.Value
public import Idealize.ShloMosaic.Lib.ValueIdx

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves in the accumulator over what it held: the activation of the point's 512 hidden units, as two
    slabs of 256, times their rows of the down projection. -/
def step (x0 : Vec F S512x2048 .bf16) (x2 x3 : Vec F S1x2048x512 .bf16) (x4 : Vec F S1x512x2048 .bf16) (acc : Vec F S512x2048 .f32) : Vec F S512x2048 .f32 :=
  k0_pay1
    (k0_pay5 x0 (View.ld x2 (Rect.unit ![0, 0, 0] ![1, 2048, 256] inb_S1x2048x512_S1x2048x256_0_0_0))
      (View.ld x3 (Rect.unit ![0, 0, 0] ![1, 2048, 256] inb_S1x2048x512_S1x2048x256_0_0_0))
      (View.ld x4 (Rect.unit ![0, 0, 0] ![1, 256, 2048] inb_S1x512x2048_S1x256x2048_0_0_0)))
    (k0_pay6 x0 (View.ld x2 (Rect.unit ![0, 0, 256] ![1, 2048, 256] inb_S1x2048x512_S1x2048x256_0_0_256))
      (View.ld x3 (Rect.unit ![0, 0, 256] ![1, 2048, 256] inb_S1x2048x512_S1x2048x256_0_0_256)))
    (k0_pay7 (View.ld x4 (Rect.unit ![0, 256, 0] ![1, 256, 2048] inb_S1x512x2048_S1x256x2048_0_256_0))) acc

theorem sout0_A_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) :
    sout0_A_0 c i arg2 harg2 arg3 harg3 arg4 harg4 arg5 harg5 arg6 harg6 arg7 harg7 arg8 harg8 arg9 harg9 arg10 harg10 hc0 hc1 x0 x1 x2 x3 x4 x5 x6 = step x0 x2 x3 x4 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem sout0_B_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step x0 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem sout0_C_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step x0 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem out0_C_7_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x1 x5 (step x0 x2 x3 x4 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

end Cert.FfnIdeal.Value

end
-- ==== Proof.FfnPoint.lean ====
module

public import proofs.«01_k».proof.Proof.FfnBody
public import proofs.«01_k».proof.Proof.Gen.FfnRefIdeal.Read
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![t.val / 11, 0] ∧ win0_1.index t = ![t.val / 11, 0]
    ∧ win0_2.index t = ![0, 0, t.val % 11] ∧ win0_3.index t = ![0, 0, 11 + t.val % 11] ∧ win0_4.index t = ![0, t.val % 11, 0]
    ∧ win0_5.index t = ![59 + 6 * (t.val / 88), 0, 0] ∧ win0_6.index t = ![0, 0] ∧ win0_7.index t = ![t.val / 11, 0] :=
  (by decide +kernel : ∀ t : Fin grid0.N, _)

/-- The activation of one hidden unit of a block: `silu (h·wg) * (h·wu)`. -/
def act (x0 : FVec Ideal S512x2048 .bf16) (x2 x3 : FVec Ideal S1x2048x512 .bf16) (r : Fin 512) (k : Fin 512) : EReal :=
  (∑ l : Fin 2048, x0 (ix2 r l) * x2 (ix3 0 l k)) * Ideal.logistic (∑ l : Fin 2048, x0 (ix2 r l) * x2 (ix3 0 l k))
    * ∑ l : Fin 2048, x0 (ix2 r l) * x3 (ix3 0 l k)

theorem step_apply (x0 : FVec Ideal S512x2048 .bf16) (x2 x3 : FVec Ideal S1x2048x512 .bf16) (x4 : FVec Ideal S1x512x2048 .bf16)
    (acc : FVec Ideal S512x2048 .f32) (r : Fin 512) (d : Fin 2048) :
    step (F := Ideal) x0 x2 x3 x4 acc (ix2 r d) = acc (ix2 r d) + ∑ k : Fin 512, act x0 x2 x3 r k * x4 (ix3 0 k d) := by
  pointwise [step, k0_pay1, k0_pay4, k0_pay5, k0_pay6, k0_pay7]
  rw [Fin.sum_univ_two_halves (N := 512) 256 256 rfl]
  rfl

theorem zero_apply (j : S512x2048.Idx) : k0_pay3 (F := Ideal) j = 0 := by pointwise [k0_pay3]

theorem pay2_apply (x1 : FVec Ideal S512x2048 .f32) (x5 : FVec Ideal S1x1x2048 .f32) (a : FVec Ideal S512x2048 .f32) (x6 : FVec Ideal S1x2048 .f32)
    (r : Fin 512) (d : Fin 2048) :
    k0_pay2 (F := Ideal) x1 x5 a x6 (ix2 r d) = (x1 (ix2 r d) + x5 (ix3 0 0 d) * a (ix2 r d))
        * Ideal.rsqrt (Ideal.div (∑ l : Fin 2048, (x1 (ix2 r l) + x5 (ix3 0 0 l) * a (ix2 r l)) * (x1 (ix2 r l) + x5 (ix3 0 0 l) * a (ix2 r l)))
              (Ideal.ofBits FTy.f32 1157627904#32) + Ideal.ofBits FTy.f32 897988541#32) * x6 (ix2 0 d) := by
  pointwise [k0_pay2]

/-! ## The input blocks, read as elements of the arguments -/

theorem blk0 (c : Dev nD) (t : Fin cfg0.N) (r : Fin 512) (k : Fin 2048) (b : Fin 2) (p : Fin 4096) (h : b.val * 4096 + p.val = t.val / 11 * 512 + r.val) :
    iblk m c 0 t (ix2 r k) = m ((c : Thread nD τ).loc main_arg0) (ix3 b p k) := by
  blk_point [iblk, V, idx_val t]
theorem blk1 (c : Dev nD) (t : Fin cfg0.N) (r : Fin 512) (k : Fin 2048) (b : Fin 2) (p : Fin 4096) (h : b.val * 4096 + p.val = t.val / 11 * 512 + r.val) :
    iblk m c 1 t (ix2 r k) = m ((c : Thread nD τ).loc main_arg1) (ix3 b p k) := by
  blk_point [iblk, V, idx_val t]
theorem blk2 (c : Dev nD) (t : Fin cfg0.N) (k : Fin 2048) (q : Fin 512) (l : Fin 11264) (h : l.val = t.val % 11 * 512 + q.val) :
    iblk m c 2 t (ix3 0 k q) = m ((c : Thread nD τ).loc main_arg2) (ix2 k l) := by
  blk_point [iblk, V, idx_val t]
theorem blk3 (c : Dev nD) (t : Fin cfg0.N) (k : Fin 2048) (q : Fin 512) (l : Fin 11264) (h : l.val = 5632 + (t.val % 11 * 512 + q.val)) :
    iblk m c 3 t (ix3 0 k q) = m ((c : Thread nD τ).loc main_arg2) (ix2 k l) := by
  blk_point [iblk, V, idx_val t]
theorem blk4 (c : Dev nD) (t : Fin cfg0.N) (q : Fin 512) (k : Fin 2048) (l : Fin 5632) (h : l.val = t.val % 11 * 512 + q.val) :
    iblk m c 4 t (ix3 0 q k) = m ((c : Thread nD τ).loc main_arg3) (ix2 l k) := by
  blk_point [iblk, V, idx_val t]
theorem blk5 (c : Dev nD) (t : Fin cfg0.N) (k : Fin 2048) (g : Fin 8) (q : Fin 12288) (hg : g.val = 1 + t.val / 88) (hq : q.val = 10240 + k.val) :
    iblk m c 5 t (ix3 0 0 k) = m ((c : Thread nD τ).loc main_arg4) (ix3 1 g q) := by
  blk_point [iblk, V, idx_val t]
theorem blk6 (c : Dev nD) (t : Fin cfg0.N) (k : Fin 2048) :
    iblk m c 6 t (ix2 0 k) = m ((c : Thread nD τ).loc main_arg5) (ix1 k) := by
  blk_point [iblk, V, idx_val t]

/-! ## The reference, read at an index -/

/-- One hidden unit's addend in the reference's down projection. -/
def term (h2 : FVec Ideal S2x4096x2048 .f32) (wgu : FVec Ideal Cert.FfnRefIdeal.S2048x11264 .f32) (wd : FVec Ideal Cert.FfnRefIdeal.S5632x2048 .f32)
    (b : Fin 2) (p : Fin 4096) (d : Fin 2048) (k : Fin 5632) : EReal :=
  (∑ l : Fin 2048, h2 (ix3 b p l) * wgu (ix2 l ⟨k.val, by omega⟩)) * Ideal.logistic (∑ l : Fin 2048, h2 (ix3 b p l) * wgu (ix2 l ⟨k.val, by omega⟩))
    * (∑ l : Fin 2048, h2 (ix3 b p l) * wgu (ix2 l ⟨5632 + k.val, by omega⟩)) * wd (ix2 k d)

open Cert.FfnRefIdeal.Read in
theorem ref_sum (h2 : FVec Ideal S2x4096x2048 .f32) (wgu : FVec Ideal Cert.FfnRefIdeal.S2048x11264 .f32) (wd : FVec Ideal Cert.FfnRefIdeal.S5632x2048 .f32) (b : Fin 2) (p : Fin 4096) (d : Fin 2048) :
    val_main_v14 (F := Ideal) h2 wgu wd (ix3 b p d) = ∑ k : Fin 5632, term h2 wgu wd b p d k := by
  pointwise [val_main_v14, val_main_v13, val_main_v12, val_main_v11, val_main_v10, val_main_v9, val_main_call0_v5, val_main_call0_v4, val_main_call0_v3, val_main_call0_v2, val_main_call0_v1, val_main_call0_v0, val_main_call0_cst, val_main_call0_cst_0]
  rfl

/-- The last row's formula: the residual plus the gated projection, divided by its root mean square, times the gain. -/
def outVal (x1 : FVec Ideal S2x4096x2048 .f32) (x4 : FVec Ideal Cert.FfnRefIdeal.S2x8x12288 .f32) (x5 : FVec Ideal Cert.FfnRefIdeal.S2048 .f32)
    (a : FVec Ideal S2x4096x2048 .f32) (b : Fin 2) (p : Fin 4096) (d : Fin 2048) : EReal :=
  (x1 (ix3 b p d) + x4 (ix3 1 ⟨1 + b.val, by omega⟩ ⟨10240 + d.val, by omega⟩) * a (ix3 b p d))
    * Ideal.rsqrt (Ideal.div (∑ l : Fin 2048, (x1 (ix3 b p l) + x4 (ix3 1 ⟨1 + b.val, by omega⟩ ⟨10240 + l.val, by omega⟩) * a (ix3 b p l))
          * (x1 (ix3 b p l) + x4 (ix3 1 ⟨1 + b.val, by omega⟩ ⟨10240 + l.val, by omega⟩) * a (ix3 b p l)))
        (Ideal.ofBits FTy.f32 1157627904#32) + Ideal.ofBits FTy.f32 897988541#32) * x5 (ix1 d)

open Cert.FfnRefIdeal.Read in
theorem ref_out (x0 x1 : FVec Ideal S2x4096x2048 .f32) (x2 : FVec Ideal Cert.FfnRefIdeal.S2048x11264 .f32) (x3 : FVec Ideal Cert.FfnRefIdeal.S5632x2048 .f32)
    (x4 : FVec Ideal Cert.FfnRefIdeal.S2x8x12288 .f32) (x5 : FVec Ideal Cert.FfnRefIdeal.S2048 .f32) (R : Fin 8192) (d : Fin 2048) :
    val_main_v31 (F := Ideal) x0 x1 x2 x3 x4 x5 (ix2 R d)
      = outVal x1 x4 x5 (val_main_v14 (F := Ideal) x0 x2 x3) ⟨R.val / 4096, by omega⟩ ⟨R.val % 4096, by omega⟩ d := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v8, val_main_v2, val_main_v1, val_main_v0, val_main_cst, val_main_cst_0, val_main_cst_1]
  rfl

end Cert.FfnIdeal.Value

end
-- ==== Proof.FfnValue.lean ====
module

public import proofs.«01_k».proof.Proof.FfnPoint

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The accumulator after the point `n`. -/
def sc (c : Dev nD) (n : ℕ) (h : n < cfg0.N) : FVec Ideal S512x2048 .f32 := (outsAt0 m c n h).2

attribute [local irreducible] outsAt0

theorem sc_reset (c : Dev nD) (t : Fin cfg0.N) (h0 : t.val % 11 = 0) :
    sc m c t.val t.isLt = step (F := Ideal) (iblk m c 0 t) (iblk m c 2 t) (iblk m c 3 t) (iblk m c 4 t) (k0_pay3 (F := Ideal)) := by
  refine (congrArg Prod.snd (outsAt0_A m c t h0 (by omega))).trans ?_
  dsimp only
  rw [sout0_A_0_eq]

theorem sc_step (c : Dev nD) (t : Fin cfg0.N) (h0 : ¬ t.val % 11 = 0) :
    sc m c t.val t.isLt = step (F := Ideal) (iblk m c 0 t) (iblk m c 2 t) (iblk m c 3 t) (iblk m c 4 t)
      (sc m c (t.val - 1) (Nat.lt_of_le_of_lt (Nat.sub_le _ _) t.isLt)) := by
  by_cases h1 : t.val % 11 = 10
  · refine (congrArg Prod.snd (outsAt0_C m c t h0 h1)).trans ?_
    dsimp only
    rw [sout0_C_0_eq]; rfl
  · refine (congrArg Prod.snd (outsAt0_B m c t h0 h1)).trans ?_
    dsimp only
    rw [sout0_B_0_eq]; rfl

theorem out_last (c : Dev nD) (t : Fin cfg0.N) (h1 : t.val % 11 = 10) :
    (outsAt0 m c t.val t.isLt).1 = k0_pay2 (F := Ideal) (iblk m c 1 t) (iblk m c 5 t) (sc m c t.val t.isLt) (iblk m c 6 t) := by
  rw [sc_step m c t (by omega)]
  refine (congrArg Prod.fst (outsAt0_C m c t (by omega) h1)).trans ?_
  dsimp only
  rw [out0_C_7_eq]; rfl

/-- What the point `t` adds at an element of the accumulator. -/
def part (c : Dev nD) (t : Fin cfg0.N) (j : S512x2048.Idx) : EReal :=
  ∑ k : Fin 512, act (iblk m c 0 t) (iblk m c 2 t) (iblk m c 3 t) (j 0) k * (show FVec Ideal S1x512x2048 .bf16 from iblk m c 4 t) (ix3 0 k (j 1))

theorem step_part (c : Dev nD) (t : Fin cfg0.N) (acc : FVec Ideal S512x2048 .f32) (j : S512x2048.Idx) :
    step (F := Ideal) (iblk m c 0 t) (iblk m c 2 t) (iblk m c 3 t) (iblk m c 4 t) acc j = acc j + part m c t j := by
  idx_vars j
  exact step_apply ..

theorem sc_sum (c : Dev nD) (t : Fin cfg0.N) (h1 : t.val % 11 = 10) (j : S512x2048.Idx) :
    sc m c t.val t.isLt j = ∑ s : Fin 11, part m c ⟨11 * (t.val / 11) + s.val, Pipeline.run_point_lt_of_flush t h1 s⟩ j := by
  rw [Pipeline.eq_sum_fin_of_reset_step_apply_of_flush (fun n h => sc m c n h) 11 (fun _ => 0) (part m c)
    (fun t h j => by rw [sc_reset m c t h, step_part, zero_apply])
    (fun t h j => by rw [sc_step m c t h, step_part]) t h1 j, zero_add]

/-- The accumulator after a row block's last point: the reference's down projection at the block's rows. -/
theorem sc_eq (c : Dev nD) (t : Fin cfg0.N) (h1 : t.val % 11 = 10) (r : Fin 512) (d : Fin 2048) (b : Fin 2) (p : Fin 4096)
    (h : b.val * 4096 + p.val = t.val / 11 * 512 + r.val) :
    sc m c t.val t.isLt (ix2 r d) = Cert.FfnRefIdeal.Read.val_main_v14 (F := Ideal) (m ((c : Thread nD τ).loc main_arg0)) (m ((c : Thread nD τ).loc main_arg2))
      (m ((c : Thread nD τ).loc main_arg3)) (ix3 b p d) := by
  rw [sc_sum m c t h1, ref_sum]
  refine Fin.sum_mul_add_congr fun s k hl => ?_
  have hs := s.isLt
  have hq : (11 * (t.val / 11) + s.val) / 11 = t.val / 11 := by omega
  have hr : (11 * (t.val / 11) + s.val) % 11 = s.val := by omega
  have e0 (l : Fin 2048) := blk0 m c ⟨11 * (t.val / 11) + s.val, Pipeline.run_point_lt_of_flush t h1 s⟩ r l b p (by simp only [hq]; exact h)
  have e2 (l : Fin 2048) := blk2 m c ⟨11 * (t.val / 11) + s.val, Pipeline.run_point_lt_of_flush t h1 s⟩ l k ⟨s.val * 512 + k.val, by omega⟩ (by simp only [hr])
  have e3 (l : Fin 2048) := blk3 m c ⟨11 * (t.val / 11) + s.val, Pipeline.run_point_lt_of_flush t h1 s⟩ l k ⟨5632 + (s.val * 512 + k.val), by omega⟩ (by simp only [hr])
  have e4 := blk4 m c ⟨11 * (t.val / 11) + s.val, Pipeline.run_point_lt_of_flush t h1 s⟩ k d ⟨s.val * 512 + k.val, hl⟩ (by simp only [hr])
  simp only [act, term]
  refine congrArg₂ (· * ·) (congrArg₂ (· * ·) (congrArg₂ (· * ·) ?_ (congrArg Ideal.logistic ?_)) ?_) e4
  · exact Finset.sum_congr rfl fun l _ => congrArg₂ (· * ·) (e0 l) (e2 l)
  · exact Finset.sum_congr rfl fun l _ => congrArg₂ (· * ·) (e0 l) (e2 l)
  · exact Finset.sum_congr rfl fun l _ => congrArg₂ (· * ·) (e0 l) (e3 l)

/-- A written-back block's element is the reference's. -/
theorem point (c : Dev nD) (t : Fin cfg0.N) (h1 : t.val % 11 = 10) (r : Fin 512) (d : Fin 2048) (R : Fin 8192) (h : R.val = t.val / 11 * 512 + r.val) :
    (outsAt0 m c t.val t.isLt).1 (ix2 r d) = Cert.FfnRefIdeal.Read.val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (ix2 R d) := by
  rw [out_last m c t h1, ref_out]
  refine (pay2_apply ..).trans ?_
  have hR := R.isLt
  have hr := r.isLt
  have e1 (l : Fin 2048) := blk1 m c t r l ⟨R.val / 4096, by omega⟩ ⟨R.val % 4096, by omega⟩ (by dsimp only; omega)
  have e5 (l : Fin 2048) := blk5 m c t l ⟨1 + R.val / 4096, by omega⟩ ⟨10240 + l.val, by omega⟩ (by dsimp only; omega) rfl
  have es (l : Fin 2048) := sc_eq m c t h1 r l ⟨R.val / 4096, by omega⟩ ⟨R.val % 4096, by omega⟩ (by dsimp only; omega)
  have ev (l : Fin 2048) : (show FVec Ideal S512x2048 .f32 from iblk m c 1 t) (ix2 r l) + (show FVec Ideal S1x1x2048 .f32 from iblk m c 5 t) (ix3 0 0 l) * sc m c t.val t.isLt (ix2 r l) = _ :=
    congrArg₂ (fun x y : EReal => x + y) (e1 l) (congrArg₂ (fun x y : EReal => x * y) (e5 l) (es l))
  exact congrArg₂ (· * ·) (congrArg₂ (· * ·) (ev d) (congrArg Ideal.rsqrt (congrArg₂ (· + ·) (congrArg₂ Ideal.div
    (Finset.sum_congr rfl fun l _ => congrArg₂ (· * ·) (ev l) (ev l)) rfl) rfl))) (blk6 m c t d)

/-- The result array after the run. -/
theorem final (c : Dev nD) :
    (dats m 0 c).arrAt 7 (cfgs 0).N = Cert.FfnRefIdeal.Read.val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  have h1 := (flush0_7 t).mp hf
  have hy0 := (y 0).isLt
  have ht : t.val < 176 := lt_of_lt_of_eq t.isLt N_0
  obtain ⟨r, d, rfl⟩ : ∃ (r : Fin 512) (d : Fin 2048), y = ix2 r d := ⟨y 0, y 1, eq_ix2 y⟩
  rw [point m c t h1 r d ⟨t.val / 11 * 512 + r.val, by omega⟩ rfl]
  blk_ext [idx_val t]

/-- The kernel's run: the result array ends at the reference's term of the arguments, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v9) = Cert.FfnRefIdeal.Read.val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).1 7).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩)
    (run_main m ρ)

end Cert.FfnIdeal.Value

end
-- ==== Proof.FfnClaims.lean ====
module

public import proofs.«01_k».proof.Defs
public import proofs.«01_k».proof.Proof.Gen.Ffn
public import proofs.«01_k».proof.Proof.FfnValue
public import proofs.«01_k».proof.Proof.Gen.FfnRefIdeal.Run
public import Idealize.ShloMosaic.Adequacy
public import Idealize.ShloMosaic.Init

@[expose] public section

set_option maxRecDepth 16384

noncomputable section

namespace Cert.FfnClaims

open Idealize.ShloMosaic Idealize.SL.Sem

theorem defs₀_eq : Cert.Ffn.defs₀ (F := Bits) = Cert.FfnIdeal.defs₀ (F := Bits) := by
  refine congrArg Defs.onTc (funext fun l => ?_)
  obtain ⟨n, h⟩ := l
  cases n with
  | zero => rfl
  | succ n => exact absurd h (by omega)
theorem defs_eq : Cert.Ffn.defs (F := Bits) = Cert.FfnIdeal.defs (F := Bits) := congrArg (Pipeline.defs _) defs₀_eq
theorem main_eq : Cert.Ffn.main (F := Bits) = Cert.FfnIdeal.main (F := Bits) := rfl
/-- The program before idealizing is the same program: the frame is the idealized one's, at the bits. -/
theorem frame : Cert.quiescent_Ffn := fun m ρ _ => by
  rw [defs_eq, main_eq]
  exact Cert.FfnIdeal.Gen.frame (F := Bits) m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem preserves : Cert.preserves_Ffn_FfnIdeal := trivial

/-- Both programs end at the reference's term of the arguments. -/
theorem algebraic : Cert.algebraic_FfnIdeal_FfnRefIdeal := fun m ρ m' ρ' _ hag =>
  ⟨fun c => Cert.FfnRefIdeal.Value.res_main_v31 (F := Ideal) m' c,
    (θ_run Cert.FfnIdeal.defs _ _).mono (fun r h c => ⟨(h c).1.trans (by
        show _ = Cert.FfnRefIdeal.Value.res_main_v31 (F := Ideal) m' c
        rw [Cert.FfnRefIdeal.Read.val_main_v31_eq, (hag c).1, (hag c).2.1, (hag c).2.2.1, (hag c).2.2.2.1, (hag c).2.2.2.2.1, (hag c).2.2.2.2.2]), (h c).2⟩)
      (Cert.FfnIdeal.Value.run m ρ),
    Cert.FfnRefIdeal.Value.run (F := Ideal) m' ρ'⟩

end Cert.FfnClaims

end
-- ==== Proof.Ffn0Body.lean ====
module

public import proofs.«01_k».proof.Proof.Gen.Ffn0Ideal.Frame
public import proofs.«01_k».proof.Proof.FfnPoint
public import Idealize.ShloMosaic.Lib.Pipeline.Value
public import Idealize.ShloMosaic.Lib.ValueIdx

@[expose] public section

set_option maxRecDepth 16384

noncomputable section

namespace Cert.Ffn0Ideal.Value

open Cert.Ffn0Ideal Cert.Ffn0Ideal.Gen Idealize.ShloMosaic Idealize.ShloMosaic.TcCoe Idealize.SL.Sem
open Idealize.ShloMosaic.Pipeline (Dat)

variable {F : FTy → Type} [FloatOps F]

open Cert.FfnIdeal.Value (hz2 hz3 step)

theorem sout0_A_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) :
    sout0_A_0 c i arg2 harg2 arg3 harg3 arg4 harg4 arg5 harg5 arg6 harg6 arg7 harg7 arg8 harg8 arg9 harg9 arg10 harg10 hc0 hc1 x0 x1 x2 x3 x4 x5 x6 = step x0 x2 x3 x4 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem sout0_B_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step x0 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem sout0_C_0_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step x0 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

theorem out0_C_7_eq (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .f32) (x2 : Vec F S1x2048x512 .bf16) (x3 : Vec F S1x2048x512 .bf16) (x4 : Vec F S1x512x2048 .bf16) (x5 : Vec F S1x1x2048 .f32) (x6 : Vec F S1x2048 .f32) (xs0 : Vec F S512x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x1 x5 (step x0 x2 x3 x4 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  first | rw [View.canon_cons_unit_zero (S := S512x2048) hz2] | rw [View.canon_unit_zero hz2]
  try rw [View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x2048) hz2, View.ld_unit_zero (S := S1x1x2048) hz3, shapeCast_self]
  rfl

end Cert.Ffn0Ideal.Value

end
-- ==== Proof.Ffn0Point.lean ====
module

public import proofs.«01_k».proof.Proof.Ffn0Body
public import proofs.«01_k».proof.Proof.Gen.Ffn0RefIdeal.Read
public import Idealize.ShloMosaic.Lib.Pipeline.ValueKit

@[expose] public section

set_option maxRecDepth 16384

noncomputable section

namespace Cert.Ffn0Ideal.Value

open Cert.Ffn0Ideal Cert.Ffn0Ideal.Gen Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![t.val / 11, 0] ∧ win0_1.index t = ![t.val / 11, 0]
    ∧ win0_2.index t = ![0, 0, t.val % 11] ∧ win0_3.index t = ![0, 0, 11 + t.val % 11] ∧ win0_4.index t = ![0, t.val % 11, 0]
    ∧ win0_5.index t = ![5 + 6 * ((t.val / 11 + 7) / 8), 0, 0] ∧ win0_6.index t = ![0, 0] ∧ win0_7.index t = ![t.val / 11, 0] :=
  (by decide +kernel : ∀ t : Fin grid0.N, _)

theorem pay2_apply (x1 : FVec Ideal S512x2048 .f32) (x5 : FVec Ideal S1x1x2048 .f32) (a : FVec Ideal S512x2048 .f32) (r : Fin 512) (d : Fin 2048) :
    k0_pay2 (F := Ideal) x1 x5 a (ix2 r d) = x1 (ix2 r d) + x5 (ix3 0 0 d) * a (ix2 r d) := by
  pointwise [k0_pay2]

/-! ## The rows of both token sets, one after the other -/

/-- The context's rows, then the sequence's. -/
def rowsArr (a : FVec Ideal S2x256x2048 .f32) (e : FVec Ideal S2x4096x2048 .f32) : FVec Ideal S8704x2048 .f32 :=
  concatenate S8704x2048 0 [⟨S512x2048, shapeCast S512x2048 a shapeCasts_S2x256x2048_S512x2048⟩, ⟨S8192x2048, shapeCast S8192x2048 e shapeCasts_S2x4096x2048_S8192x2048⟩] concatenates_S512x2048_S8192x2048_S8704x2048_d0

theorem rowsArr_ctx (a : FVec Ideal S2x256x2048 .f32) (e : FVec Ideal S2x4096x2048 .f32) (R : Fin 8704) (l : Fin 2048) (b : Fin 2) (p : Fin 256) (h : R.val = b.val * 256 + p.val) :
    rowsArr a e (ix2 R l) = a (ix3 b p l) := by
  pointwise [rowsArr]
  rw [dif_pos (by omega)]
  blk_ext

theorem rowsArr_seq (a : FVec Ideal S2x256x2048 .f32) (e : FVec Ideal S2x4096x2048 .f32) (R : Fin 8704) (l : Fin 2048) (b : Fin 2) (p : Fin 4096) (h : R.val = 512 + (b.val * 4096 + p.val)) :
    rowsArr a e (ix2 R l) = e (ix3 b p l) := by
  pointwise [rowsArr]
  rw [dif_neg (by omega)]
  blk_ext

theorem V4 (c : Dev nD) : V m c main_v4 = truncf .bf16 (rowsArr (m ((c : Thread nD τ).loc main_arg1)) (m ((c : Thread nD τ).loc main_arg0))) bitsLt_bf16_f32 := by
  show StableHlo.after [hostOps0].flatten (fun b => m (c, b)) (Proc.devRef .tc main_v4) = _
  simp only [hostOps0, List.flatten_cons, List.flatten_nil, List.append_nil]
  after_results
  rfl

theorem V7 (c : Dev nD) : V m c main_v7 = rowsArr (m ((c : Thread nD τ).loc main_arg3)) (m ((c : Thread nD τ).loc main_arg2)) := by
  show StableHlo.after [hostOps0].flatten (fun b => m (c, b)) (Proc.devRef .tc main_v7) = _
  simp only [hostOps0, List.flatten_cons, List.flatten_nil, List.append_nil]
  after_results
  rfl

/-- The gate and up weights as the launch takes them. -/
def guArr (a : FVec Ideal S2048x11264 .f32) : FVec Ideal S1x2048x11264 .bf16 :=
  broadcastInDim S1x2048x11264 ![1, 2] bcast_S2048x11264_S1x2048x11264_1_2 (truncf .bf16 a bitsLt_bf16_f32 : FVec Ideal S2048x11264 .bf16)

/-- The down weights as the launch takes them. -/
def dnArr (a : FVec Ideal S5632x2048 .f32) : FVec Ideal S1x5632x2048 .bf16 :=
  broadcastInDim S1x5632x2048 ![1, 2] bcast_S5632x2048_S1x5632x2048_1_2 (truncf .bf16 a bitsLt_bf16_f32 : FVec Ideal S5632x2048 .bf16)

/-- The modulation's rows, six to a group. -/
def modArr (a : FVec Ideal S2x8x12288 .f32) : FVec Ideal S96x1x2048 .f32 := shapeCast S96x1x2048 a shapeCasts_S2x8x12288_S96x1x2048

theorem guArr_apply (a : FVec Ideal S2048x11264 .f32) (k : Fin 2048) (l : Fin 11264) : guArr a (ix3 0 k l) = a (ix2 k l) := by
  pointwise [guArr]
theorem dnArr_apply (a : FVec Ideal S5632x2048 .f32) (l : Fin 5632) (k : Fin 2048) : dnArr a (ix3 0 l k) = a (ix2 l k) := by
  pointwise [dnArr]
theorem modArr_apply (a : FVec Ideal S2x8x12288 .f32) (g : Fin 8) (k : Fin 2048) (q : Fin 12288) (hq : q.val = 10240 + k.val) :
    modArr a (ix3 ⟨6 * g.val + 5, by omega⟩ 0 k) = a (ix3 0 g q) := by
  pointwise [modArr]
  blk_ext

theorem V9 (c : Dev nD) : V m c main_v9 = guArr (m ((c : Thread nD τ).loc main_arg4)) := by
  show StableHlo.after [hostOps0].flatten (fun b => m (c, b)) (Proc.devRef .tc main_v9) = _
  simp only [hostOps0, List.flatten_cons, List.flatten_nil, List.append_nil]
  after_results
  rfl

theorem V11 (c : Dev nD) : V m c main_v11 = dnArr (m ((c : Thread nD τ).loc main_arg5)) := by
  show StableHlo.after [hostOps0].flatten (fun b => m (c, b)) (Proc.devRef .tc main_v11) = _
  simp only [hostOps0, List.flatten_cons, List.flatten_nil, List.append_nil]
  after_results
  rfl

theorem Vmod (c : Dev nD) : V m c main_v0 = modArr (m ((c : Thread nD τ).loc main_arg6)) := by
  show StableHlo.after [hostOps0].flatten (fun b => m (c, b)) (Proc.devRef .tc main_v0) = _
  simp only [hostOps0, List.flatten_cons, List.flatten_nil, List.append_nil]
  after_results
  rfl

/-! ## The input blocks, read as elements of the arguments -/

theorem blk0 (c : Dev nD) (t : Fin cfg0.N) (r : Fin 512) (k : Fin 2048) (R : Fin 8704) (h : R.val = t.val / 11 * 512 + r.val) :
    iblk m c 0 t (ix2 r k) = rowsArr (m ((c : Thread nD τ).loc main_arg1)) (m ((c : Thread nD τ).loc main_arg0)) (ix2 R k) := by
  refine Eq.trans ?_ (congrFun (V4 m c) (ix2 R k))
  blk_point [iblk, idx_val t]
theorem blk1 (c : Dev nD) (t : Fin cfg0.N) (r : Fin 512) (k : Fin 2048) (R : Fin 8704) (h : R.val = t.val / 11 * 512 + r.val) :
    iblk m c 1 t (ix2 r k) = rowsArr (m ((c : Thread nD τ).loc main_arg3)) (m ((c : Thread nD τ).loc main_arg2)) (ix2 R k) := by
  rw [← V7 m c]
  blk_point [iblk, idx_val t]
theorem blk2 (c : Dev nD) (t : Fin cfg0.N) (k : Fin 2048) (q : Fin 512) (l : Fin 11264) (h : l.val = t.val % 11 * 512 + q.val) :
    iblk m c 2 t (ix3 0 k q) = m ((c : Thread nD τ).loc main_arg4) (ix2 k l) := by
  refine Eq.trans (b := V m c main_v9 (ix3 0 k l)) ?_ ?_
  · blk_point [iblk, idx_val t]
  · rw [V9]
    exact guArr_apply ..
theorem blk3 (c : Dev nD) (t : Fin cfg0.N) (k : Fin 2048) (q : Fin 512) (l : Fin 11264) (h : l.val = 5632 + (t.val % 11 * 512 + q.val)) :
    iblk m c 3 t (ix3 0 k q) = m ((c : Thread nD τ).loc main_arg4) (ix2 k l) := by
  refine Eq.trans (b := V m c main_v9 (ix3 0 k l)) ?_ ?_
  · blk_point [iblk, idx_val t]
  · rw [V9]
    exact guArr_apply ..
theorem blk4 (c : Dev nD) (t : Fin cfg0.N) (q : Fin 512) (k : Fin 2048) (l : Fin 5632) (h : l.val = t.val % 11 * 512 + q.val) :
    iblk m c 4 t (ix3 0 q k) = m ((c : Thread nD τ).loc main_arg5) (ix2 l k) := by
  refine Eq.trans (b := V m c main_v11 (ix3 0 l k)) ?_ ?_
  · blk_point [iblk, idx_val t]
  · rw [V11]
    exact dnArr_apply ..
theorem blk5 (c : Dev nD) (t : Fin cfg0.N) (k : Fin 2048) (g : Fin 8) (q : Fin 12288) (hg : g.val = (t.val / 11 + 7) / 8) (hq : q.val = 10240 + k.val) :
    iblk m c 5 t (ix3 0 0 k) = m ((c : Thread nD τ).loc main_arg6) (ix3 0 g q) := by
  refine Eq.trans (b := V m c main_v0 (ix3 ⟨6 * g.val + 5, by omega⟩ 0 k)) ?_ ?_
  · blk_point [iblk, idx_val t]
  · rw [Vmod]
    exact modArr_apply _ g k q hq

/-! ## The reference, read at an index -/

/-- The down projection of one row's gated hidden units. -/
def down (h : Fin 2048 → EReal) (wgu : FVec Ideal S2048x11264 .f32) (wd : FVec Ideal S5632x2048 .f32) (d : Fin 2048) : EReal :=
  ∑ k : Fin 5632, (∑ l : Fin 2048, h l * wgu (ix2 l ⟨k.val, by omega⟩)) * Ideal.logistic (∑ l : Fin 2048, h l * wgu (ix2 l ⟨k.val, by omega⟩))
    * (∑ l : Fin 2048, h l * wgu (ix2 l ⟨5632 + k.val, by omega⟩)) * wd (ix2 k d)

open Cert.Ffn0RefIdeal.Read in
theorem ref_seq (x0 x2 : FVec Ideal S2x4096x2048 .f32) (x4 : FVec Ideal S2048x11264 .f32) (x5 : FVec Ideal S5632x2048 .f32) (x6 : FVec Ideal S2x8x12288 .f32)
    (b : Fin 2) (p : Fin 4096) (d : Fin 2048) :
    val_main_v25 (F := Ideal) x0 x2 x4 x5 x6 (ix3 b p d)
      = x2 (ix3 b p d) + x6 (ix3 0 ⟨1 + b.val, by omega⟩ ⟨10240 + d.val, by omega⟩) * down (fun l => x0 (ix3 b p l)) x4 x5 d := by
  unfold down
  pointwise [val_main_v25, val_main_v24, val_main_v23, val_main_v22, val_main_v21, val_main_v20, val_main_v19, val_main_v18, val_main_v17, val_main_v10, val_main_v2, val_main_v1, val_main_v0, val_main_call0_v5, val_main_call0_v4, val_main_call0_v3, val_main_call0_v2, val_main_call0_v1, val_main_call0_v0, val_main_call0_cst, val_main_call0_cst_0]
  rfl

open Cert.Ffn0RefIdeal.Read in
theorem ref_ctx (x1 x3 : FVec Ideal S2x256x2048 .f32) (x4 : FVec Ideal S2048x11264 .f32) (x5 : FVec Ideal S5632x2048 .f32) (x6 : FVec Ideal S2x8x12288 .f32)
    (b : Fin 2) (p : Fin 256) (d : Fin 2048) :
    val_main_v35 (F := Ideal) x1 x3 x4 x5 x6 (ix3 b p d)
      = x3 (ix3 b p d) + x6 (ix3 0 0 ⟨10240 + d.val, by omega⟩) * down (fun l => x1 (ix3 b p l)) x4 x5 d := by
  unfold down
  pointwise [val_main_v35, val_main_v34, val_main_v33, val_main_v32, val_main_v31, val_main_v30, val_main_v29, val_main_v28, val_main_v27, val_main_v26, val_main_v16, val_main_v4, val_main_v3, val_main_call1_v5, val_main_call1_v4, val_main_call1_v3, val_main_call1_v2, val_main_call1_v1, val_main_call1_v0, val_main_call1_cst, val_main_call1_cst_0]
  rfl

end Cert.Ffn0Ideal.Value

end
-- ==== Proof.Ffn0Value.lean ====
module

public import proofs.«01_k».proof.Proof.Ffn0Point

@[expose] public section

set_option maxRecDepth 16384

noncomputable section

namespace Cert.Ffn0Ideal.Value

open Cert.Ffn0Ideal Cert.Ffn0Ideal.Gen Idealize.ShloMosaic Idealize.ShloMosaic.TcCoe Idealize.SL.Sem
open Idealize.ShloMosaic.Pipeline (Dat)
open Cert.FfnIdeal.Value (step step_apply act)

variable (m : (ℓ : Loc nD τ sig) → Buf (Elt Ideal) ℓ)

/-- The accumulator after the point `n`. -/
def sc (c : Dev nD) (n : ℕ) (h : n < cfg0.N) : FVec Ideal S512x2048 .f32 := (outsAt0 m c n h).2

attribute [local irreducible] outsAt0

theorem sc_reset (c : Dev nD) (t : Fin cfg0.N) (h0 : t.val % 11 = 0) :
    sc m c t.val t.isLt = step (F := Ideal) (iblk m c 0 t) (iblk m c 2 t) (iblk m c 3 t) (iblk m c 4 t) (k0_pay3 (F := Ideal)) := by
  refine (congrArg Prod.snd (outsAt0_A m c t h0 (by omega))).trans ?_
  dsimp only
  rw [sout0_A_0_eq]

theorem sc_step (c : Dev nD) (t : Fin cfg0.N) (h0 : ¬ t.val % 11 = 0) :
    sc m c t.val t.isLt = step (F := Ideal) (iblk m c 0 t) (iblk m c 2 t) (iblk m c 3 t) (iblk m c 4 t)
      (sc m c (t.val - 1) (Nat.lt_of_le_of_lt (Nat.sub_le _ _) t.isLt)) := by
  by_cases h1 : t.val % 11 = 10
  · refine (congrArg Prod.snd (outsAt0_C m c t h0 h1)).trans ?_
    dsimp only
    rw [sout0_C_0_eq]; rfl
  · refine (congrArg Prod.snd (outsAt0_B m c t h0 h1)).trans ?_
    dsimp only
    rw [sout0_B_0_eq]; rfl

theorem out_last (c : Dev nD) (t : Fin cfg0.N) (h1 : t.val % 11 = 10) :
    (outsAt0 m c t.val t.isLt).1 = k0_pay2 (F := Ideal) (iblk m c 1 t) (iblk m c 5 t) (sc m c t.val t.isLt) := by
  rw [sc_step m c t (by omega)]
  refine (congrArg Prod.fst (outsAt0_C m c t (by omega) h1)).trans ?_
  dsimp only
  rw [out0_C_7_eq]; rfl

/-- What the point `t` adds at an element of the accumulator. -/
def part (c : Dev nD) (t : Fin cfg0.N) (j : S512x2048.Idx) : EReal :=
  ∑ k : Fin 512, act (iblk m c 0 t) (iblk m c 2 t) (iblk m c 3 t) (j 0) k * (show FVec Ideal S1x512x2048 .bf16 from iblk m c 4 t) (ix3 0 k (j 1))

theorem step_part (c : Dev nD) (t : Fin cfg0.N) (acc : FVec Ideal S512x2048 .f32) (j : S512x2048.Idx) :
    step (F := Ideal) (iblk m c 0 t) (iblk m c 2 t) (iblk m c 3 t) (iblk m c 4 t) acc j = acc j + part m c t j := by
  idx_vars j
  exact step_apply ..

theorem sc_sum (c : Dev nD) (t : Fin cfg0.N) (h1 : t.val % 11 = 10) (j : S512x2048.Idx) :
    sc m c t.val t.isLt j = ∑ s : Fin 11, part m c ⟨11 * (t.val / 11) + s.val, Pipeline.run_point_lt_of_flush t h1 s⟩ j := by
  rw [Pipeline.eq_sum_fin_of_reset_step_apply_of_flush (fun n h => sc m c n h) 11 (fun _ => 0) (part m c)
    (fun t h j => by rw [sc_reset m c t h, step_part, show k0_pay3 (F := Ideal) j = 0 from Cert.FfnIdeal.Value.zero_apply j])
    (fun t h j => by rw [sc_step m c t h, step_part]) t h1 j, zero_add]

/-- The accumulator after a row block's last point: the down projection of the block's rows. -/
theorem sc_eq (c : Dev nD) (t : Fin cfg0.N) (h1 : t.val % 11 = 10) (r : Fin 512) (d : Fin 2048) (R : Fin 8704) (h : R.val = t.val / 11 * 512 + r.val) :
    sc m c t.val t.isLt (ix2 r d) = down (fun l => rowsArr (m ((c : Thread nD τ).loc main_arg1)) (m ((c : Thread nD τ).loc main_arg0)) (ix2 R l)) (m ((c : Thread nD τ).loc main_arg4)) (m ((c : Thread nD τ).loc main_arg5)) d := by
  rw [sc_sum m c t h1, down]
  refine Fin.sum_mul_add_congr fun s k hl => ?_
  have hs := s.isLt
  have hq : (11 * (t.val / 11) + s.val) / 11 = t.val / 11 := by omega
  have hr : (11 * (t.val / 11) + s.val) % 11 = s.val := by omega
  have e0 (l : Fin 2048) := blk0 m c ⟨11 * (t.val / 11) + s.val, Pipeline.run_point_lt_of_flush t h1 s⟩ r l R (by simp only [hq]; exact h)
  have e2 (l : Fin 2048) := blk2 m c ⟨11 * (t.val / 11) + s.val, Pipeline.run_point_lt_of_flush t h1 s⟩ l k ⟨s.val * 512 + k.val, by omega⟩ (by simp only [hr])
  have e3 (l : Fin 2048) := blk3 m c ⟨11 * (t.val / 11) + s.val, Pipeline.run_point_lt_of_flush t h1 s⟩ l k ⟨5632 + (s.val * 512 + k.val), by omega⟩ (by simp only [hr])
  have e4 := blk4 m c ⟨11 * (t.val / 11) + s.val, Pipeline.run_point_lt_of_flush t h1 s⟩ k d ⟨s.val * 512 + k.val, hl⟩ (by simp only [hr])
  simp only [act]
  refine congrArg₂ (· * ·) (congrArg₂ (· * ·) (congrArg₂ (· * ·) ?_ (congrArg Ideal.logistic ?_)) ?_) e4
  · exact Finset.sum_congr rfl fun l _ => congrArg₂ (· * ·) (e0 l) (e2 l)
  · exact Finset.sum_congr rfl fun l _ => congrArg₂ (· * ·) (e0 l) (e2 l)
  · exact Finset.sum_congr rfl fun l _ => congrArg₂ (· * ·) (e0 l) (e3 l)

/-- The launch's result array of the arguments: a row plus its group's gate times the row's down projection. -/
def outOf (x0 x2 : FVec Ideal S2x4096x2048 .f32) (x1 x3 : FVec Ideal S2x256x2048 .f32) (x4 : FVec Ideal S2048x11264 .f32) (x5 : FVec Ideal S5632x2048 .f32) (x6 : FVec Ideal S2x8x12288 .f32) :
    FVec Ideal S8704x2048 .f32 := fun y =>
  rowsArr x3 x2 y
    + x6 (ix3 0 ⟨((y 0).val / 512 + 7) / 8, by have : (y 0).val < 8704 := (y 0).isLt; omega⟩ ⟨10240 + (y 1).val, by have : (y 1).val < 2048 := (y 1).isLt; omega⟩)
      * down (fun l => rowsArr x1 x0 (ix2 (y 0) l)) x4 x5 (y 1)

/-- The launch's result array. -/
def out (c : Dev nD) : FVec Ideal S8704x2048 .f32 := outOf (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg5)) (m ((c : Thread nD τ).loc main_arg6))

/-- What a row block's last point writes. -/
theorem point (c : Dev nD) (t : Fin cfg0.N) (h1 : t.val % 11 = 10) (r : Fin 512) (d : Fin 2048) (R : Fin 8704) (h : R.val = t.val / 11 * 512 + r.val) :
    (outsAt0 m c t.val t.isLt).1 (ix2 r d) = out m c (ix2 R d) := by
  rw [out_last m c t h1]
  refine (pay2_apply ..).trans ?_
  have hR := R.isLt
  have hr := r.isLt
  exact congrArg₂ (fun x y : EReal => x + y) (blk1 m c t r d R h) (congrArg₂ (fun x y : EReal => x * y)
    (blk5 m c t d ⟨(R.val / 512 + 7) / 8, by omega⟩ ⟨10240 + d.val, by omega⟩ (by dsimp only; omega) rfl) (sc_eq m c t h1 r d R h))

theorem final (c : Dev nD) : (dats m 0 c).arrAt 7 (cfgs 0).N = out m c := by
  refine (dats m 0 c).arrAt_eq_of_covers 7 _ (by decide +kernel) fun t hf y => ?_
  blk_simp
  rw [after0_7]
  have h1 := (flush0_7 t).mp hf
  have hy0 := (y 0).isLt
  have ht : t.val < 187 := lt_of_lt_of_eq t.isLt N_0
  obtain ⟨r, d, rfl⟩ : ∃ (r : Fin 512) (d : Fin 2048), y = ix2 r d := ⟨y 0, y 1, eq_ix2 y⟩
  rw [point m c t h1 r d ⟨t.val / 11 * 512 + r.val, by omega⟩ rfl]
  blk_ext [idx_val t]

theorem out_seq (c : Dev nD) (b : Fin 2) (p : Fin 4096) (d : Fin 2048) (R : Fin 8704) (h : R.val = 512 + (b.val * 4096 + p.val)) :
    out m c (ix2 R d) = Cert.Ffn0RefIdeal.Read.val_main_v25 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (ix3 b p d) := by
  have hp := p.isLt
  have hg : (⟨(R.val / 512 + 7) / 8, by omega⟩ : Fin 8) = ⟨1 + b.val, by omega⟩ := Fin.ext (by dsimp only; omega)
  rw [ref_seq]
  exact congrArg₂ (fun x y : EReal => x + y) (rowsArr_seq _ _ R d b p h) (congrArg₂ (fun x y : EReal => x * y)
    (congrArg (fun g => (show FVec Ideal S2x8x12288 .f32 from (m ((c : Thread nD τ).loc main_arg6))) (ix3 0 g ⟨10240 + d.val, by omega⟩)) hg)
    (congrArg (fun f => down f (m ((c : Thread nD τ).loc main_arg4)) (m ((c : Thread nD τ).loc main_arg5)) d) (funext fun l => rowsArr_seq _ _ R l b p h)))

theorem out_ctx (c : Dev nD) (b : Fin 2) (p : Fin 256) (d : Fin 2048) (R : Fin 8704) (h : R.val = b.val * 256 + p.val) :
    out m c (ix2 R d) = Cert.Ffn0RefIdeal.Read.val_main_v35 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (ix3 b p d) := by
  have hp := p.isLt
  have hg : (⟨(R.val / 512 + 7) / 8, by omega⟩ : Fin 8) = 0 := Fin.ext (by show (R.val / 512 + 7) / 8 = 0; omega)
  rw [ref_ctx]
  exact congrArg₂ (fun x y : EReal => x + y) (rowsArr_ctx _ _ R d b p h) (congrArg₂ (fun x y : EReal => x * y)
    (congrArg (fun g => (show FVec Ideal S2x8x12288 .f32 from (m ((c : Thread nD τ).loc main_arg6))) (ix3 0 g ⟨10240 + d.val, by omega⟩)) hg)
    (congrArg (fun f => down f (m ((c : Thread nD τ).loc main_arg4)) (m ((c : Thread nD τ).loc main_arg5)) d) (funext fun l => rowsArr_ctx _ _ R l b p h)))

/-- The lines after the launch cut the sequence's rows out of its result. -/
theorem tail_seq (c : Dev nD) : Pipeline.afterTail₀ cfgs (dats m) 0 (V0 m) [hostOps1] c main_v15
    = Cert.Ffn0RefIdeal.Read.val_main_v25 (F := Ideal) (m ((c : Thread nD τ).loc main_arg0)) (m ((c : Thread nD τ).loc main_arg2)) (m ((c : Thread nD τ).loc main_arg4)) (m ((c : Thread nD τ).loc main_arg5)) (m ((c : Thread nD τ).loc main_arg6)) := by
  have e : Pipeline.afterTail₀ cfgs (dats m) 0 (V0 m) [hostOps1] c main_v15
      = shapeCast S2x4096x2048 (extractStridedSlice S8192x2048 ![512, 0] (out m c) slices_S8704x2048_S8192x2048_512_0) shapeCasts_S8192x2048_S2x4096x2048 := by
    unfold Pipeline.afterTail₀
    simp only [hostOps1, List.flatten_cons, List.flatten_nil, List.append_nil]
    after_results
    erw [Pipeline.withArrays_arr_shared spec0 c (V0 m c) _ ((dats m 0 c).arrAt_sharedIn sharedIn0 (V0 m c) (A_eq m c) _) 7]
    rw [final m c]
    rfl
  rw [e]
  funext y
  obtain ⟨b, p, d, rfl⟩ : ∃ (b : Fin 2) (p : Fin 4096) (d : Fin 2048), y = ix3 b p d := ⟨y 0, y 1, y 2, eq_ix3 y⟩
  rw [← out_seq m c b p d ⟨512 + (b.val * 4096 + p.val), by omega⟩ rfl]
  generalize out m c = x
  pointwise
  blk_ext

/-- And the context's. -/
theorem tail_ctx (c : Dev nD) : Pipeline.afterTail₀ cfgs (dats m) 0 (V0 m) [hostOps1] c main_v17
    = Cert.Ffn0RefIdeal.Read.val_main_v35 (F := Ideal) (m ((c : Thread nD τ).loc main_arg1)) (m ((c : Thread nD τ).loc main_arg3)) (m ((c : Thread nD τ).loc main_arg4)) (m ((c : Thread nD τ).loc main_arg5)) (m ((c : Thread nD τ).loc main_arg6)) := by
  have e : Pipeline.afterTail₀ cfgs (dats m) 0 (V0 m) [hostOps1] c main_v17
      = shapeCast S2x256x2048 (extractStridedSlice S512x2048 ![0, 0] (out m c) slices_S8704x2048_S512x2048_0_0) shapeCasts_S512x2048_S2x256x2048 := by
    unfold Pipeline.afterTail₀
    simp only [hostOps1, List.flatten_cons, List.flatten_nil, List.append_nil]
    after_results
    erw [Pipeline.withArrays_arr_shared spec0 c (V0 m c) _ ((dats m 0 c).arrAt_sharedIn sharedIn0 (V0 m c) (A_eq m c) _) 7]
    rw [final m c]
    rfl
  rw [e]
  funext y
  obtain ⟨b, p, d, rfl⟩ : ∃ (b : Fin 2) (p : Fin 256) (d : Fin 2048), y = ix3 b p d := ⟨y 0, y 1, y 2, eq_ix3 y⟩
  rw [← out_ctx m c b p d ⟨b.val * 256 + p.val, by omega⟩ rfl]
  generalize out m c = x
  pointwise
  blk_ext

/-- The kernel's run: the results end at the reference's terms of the arguments, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v15) = Cert.Ffn0RefIdeal.Read.val_main_v25 (F := Ideal) (m ((c : Thread nD τ).loc main_arg0)) (m ((c : Thread nD τ).loc main_arg2)) (m ((c : Thread nD τ).loc main_arg4)) (m ((c : Thread nD τ).loc main_arg5)) (m ((c : Thread nD τ).loc main_arg6))
    ∧ r.2.mem ((c : Thread nD τ).loc main_v17) = Cert.Ffn0RefIdeal.Read.val_main_v35 (F := Ideal) (m ((c : Thread nD τ).loc main_arg1)) (m ((c : Thread nD τ).loc main_arg3)) (m ((c : Thread nD τ).loc main_arg4)) (m ((c : Thread nD τ).loc main_arg5)) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun r h c => ⟨((h c).2 main_v15 (Pipeline.mem_restRefs_of main_v15 (by decide) (by decide))).trans (tail_seq m c),
    ((h c).2 main_v17 (Pipeline.mem_restRefs_of main_v17 (by decide) (by decide))).trans (tail_ctx m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩)
    (run_main m ρ)

end Cert.Ffn0Ideal.Value

end
-- ==== Proof.Ffn0Claims.lean ====
module

public import proofs.«01_k».proof.Defs
public import proofs.«01_k».proof.Proof.Gen.Ffn0
public import proofs.«01_k».proof.Proof.Ffn0Value
public import proofs.«01_k».proof.Proof.Gen.Ffn0RefIdeal.Run
public import Idealize.ShloMosaic.Adequacy
public import Idealize.ShloMosaic.Init

@[expose] public section

set_option maxRecDepth 16384

noncomputable section

namespace Cert.Ffn0Claims

open Idealize.ShloMosaic Idealize.SL.Sem

theorem defs₀_eq : Cert.Ffn0.defs₀ (F := Bits) = Cert.Ffn0Ideal.defs₀ (F := Bits) := by
  refine congrArg Defs.onTc (funext fun l => ?_)
  obtain ⟨n, h⟩ := l
  cases n with
  | zero => rfl
  | succ n => exact absurd h (by omega)
theorem defs_eq : Cert.Ffn0.defs (F := Bits) = Cert.Ffn0Ideal.defs (F := Bits) := congrArg (Pipeline.defs _) defs₀_eq
theorem main_eq : Cert.Ffn0.main (F := Bits) = Cert.Ffn0Ideal.main (F := Bits) := rfl
/-- The program before idealizing is the same program: the frame is the idealized one's, at the bits. -/
theorem frame : Cert.quiescent_Ffn0 := fun m ρ _ => by
  rw [defs_eq, main_eq]
  exact Cert.Ffn0Ideal.Gen.frame (F := Bits) m ρ

theorem frame_ideal : Cert.quiescent_Ffn0Ideal := fun m ρ _ => Cert.Ffn0Ideal.Gen.frame m ρ

theorem frame_ref : Cert.quiescent_Ffn0RefIdeal := fun m ρ _ =>
  (θ_run Cert.Ffn0RefIdeal.defs _ _).mono (fun r h => ⟨fun c => (h c).2.2, sem_eq_zero_of_no_sems (by decide) r.2⟩)
    (Cert.Ffn0RefIdeal.Value.run (F := Ideal) m ρ)

theorem preserves : Cert.preserves_Ffn0_Ffn0Ideal := trivial

/-- Both programs end at the reference's terms of the arguments. -/
theorem algebraic : Cert.algebraic_Ffn0Ideal_Ffn0RefIdeal := fun m ρ m' ρ' _ hag =>
  ⟨fun c => Cert.Ffn0RefIdeal.Read.val_main_v25 (F := Ideal) (m' ((c.tc : Thread Cert.Ffn0RefIdeal.nD Cert.Ffn0RefIdeal.τ).loc Cert.Ffn0RefIdeal.main_arg0)) (m' ((c.tc : Thread Cert.Ffn0RefIdeal.nD Cert.Ffn0RefIdeal.τ).loc Cert.Ffn0RefIdeal.main_arg2)) (m' ((c.tc : Thread Cert.Ffn0RefIdeal.nD Cert.Ffn0RefIdeal.τ).loc Cert.Ffn0RefIdeal.main_arg4)) (m' ((c.tc : Thread Cert.Ffn0RefIdeal.nD Cert.Ffn0RefIdeal.τ).loc Cert.Ffn0RefIdeal.main_arg5)) (m' ((c.tc : Thread Cert.Ffn0RefIdeal.nD Cert.Ffn0RefIdeal.τ).loc Cert.Ffn0RefIdeal.main_arg6)),
    fun c => Cert.Ffn0RefIdeal.Read.val_main_v35 (F := Ideal) (m' ((c.tc : Thread Cert.Ffn0RefIdeal.nD Cert.Ffn0RefIdeal.τ).loc Cert.Ffn0RefIdeal.main_arg1)) (m' ((c.tc : Thread Cert.Ffn0RefIdeal.nD Cert.Ffn0RefIdeal.τ).loc Cert.Ffn0RefIdeal.main_arg3)) (m' ((c.tc : Thread Cert.Ffn0RefIdeal.nD Cert.Ffn0RefIdeal.τ).loc Cert.Ffn0RefIdeal.main_arg4)) (m' ((c.tc : Thread Cert.Ffn0RefIdeal.nD Cert.Ffn0RefIdeal.τ).loc Cert.Ffn0RefIdeal.main_arg5)) (m' ((c.tc : Thread Cert.Ffn0RefIdeal.nD Cert.Ffn0RefIdeal.τ).loc Cert.Ffn0RefIdeal.main_arg6)),
    (θ_run Cert.Ffn0Ideal.defs _ _).mono (fun r h c => ⟨(h c).1.trans (by
        dsimp only
        rw [(hag c).1, (hag c).2.2.1, (hag c).2.2.2.2.1, (hag c).2.2.2.2.2.1, (hag c).2.2.2.2.2.2.1]), (h c).2.1.trans (by
        dsimp only
        rw [(hag c).2.1, (hag c).2.2.2.1, (hag c).2.2.2.2.1, (hag c).2.2.2.2.2.1, (hag c).2.2.2.2.2.2.1]), (h c).2.2⟩)
      (Cert.Ffn0Ideal.Value.run m ρ),
    (θ_run Cert.Ffn0RefIdeal.defs _ _).mono (fun r h c => ⟨(h c).1.trans (Cert.Ffn0RefIdeal.Read.val_main_v25_eq (F := Ideal) ..),
        (h c).2.1.trans (Cert.Ffn0RefIdeal.Read.val_main_v35_eq (F := Ideal) ..), (h c).2.2⟩)
      (Cert.Ffn0RefIdeal.Value.run (F := Ideal) m' ρ')⟩

end Cert.Ffn0Claims

end
-- ==== Proof.In0Ref.lean ====
module

public import proofs.«01_k».proof.Proof.Ffn0Point
public import proofs.«01_k».proof.Proof.Gen.In0RefIdeal.Read
public import Idealize.ShloMosaic.Lib.Pipeline.ValueKit

@[expose] public section

set_option maxRecDepth 16384

noncomputable section

namespace Cert.In0RefIdeal.Point

open Cert.In0RefIdeal Cert.In0RefIdeal.Read Idealize.ShloMosaic Idealize.ShloMosaic.TcCoe Idealize.SL.Sem

/-- A row divided by its root mean square, times the gain, modulated. -/
def normed (x g sc sh : Fin 2048 → EReal) (l : Fin 2048) : EReal :=
  x l * Ideal.rsqrt (Ideal.div (∑ k : Fin 2048, x k * x k) (Ideal.ofBits .f32 0x45000000#32) + Ideal.ofBits .f32 0x358637BD#32) * g l
    * (1 + sc l) + sh l

/-- A row times one column of the layer's weights. -/
def proj (h : Fin 2048 → EReal) (w : FVec Ideal S2x2048x4480 .f32) (q : Fin 4480) : EReal := ∑ l : Fin 2048, h l * w (ix3 0 l q)

theorem v87 (x0 : FVec Ideal S2x4096x2048 .f32) (x2 : FVec Ideal S2x8x12288 .f32) (x3 : FVec Ideal S2048 .f32) (x4 : FVec Ideal S2x2048x4480 .f32)
    (b : Fin 2) (p : Fin 4096) (q : Fin 4480) :
    val_main_v87 (F := Ideal) x0 x2 x3 x4 (ix3 b p q)
      = proj (normed (fun l => x0 (ix3 b p l)) (fun l => x3 (ix1 l)) (fun l => x2 (ix3 0 ⟨1 + b.val, by omega⟩ ⟨2048 + l.val, by omega⟩)) (fun l => x2 (ix3 0 ⟨1 + b.val, by omega⟩ ⟨l.val, by omega⟩))) x4 q := by
  unfold proj normed
  pointwise [val_main_v87, val_main_v86, val_main_v85, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v34, val_main_v33, val_main_v30, val_main_v29, val_main_v28, val_main_cst_1, val_main_cst_2, val_main_cst_3, val_main_cst_4]

theorem v90 (x1 : FVec Ideal S2x256x2048 .f32) (x2 : FVec Ideal S2x8x12288 .f32) (x3 : FVec Ideal S2048 .f32) (x4 : FVec Ideal S2x2048x4480 .f32)
    (b : Fin 2) (p : Fin 256) (q : Fin 4480) :
    val_main_v90 (F := Ideal) x1 x2 x3 x4 (ix3 b p q)
      = proj (normed (fun l => x1 (ix3 b p l)) (fun l => x3 (ix1 l)) (fun l => x2 (ix3 0 0 ⟨2048 + l.val, by omega⟩)) (fun l => x2 (ix3 0 0 ⟨l.val, by omega⟩))) x4 q := by
  unfold proj normed
  pointwise [val_main_v90, val_main_v89, val_main_v88, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v40, val_main_v39, val_main_v32, val_main_v31, val_main_cst_5, val_main_cst_6, val_main_cst_7, val_main_cst_8]

/-- What a head's lane takes from its partner: the lane sixteen above, negated, or the one sixteen below. -/
def rot (z : Fin 64 → EReal) (d : Fin 64) : EReal :=
  if h : d.val % 32 < 16 then - z ⟨d.val + 16, by omega⟩ else z ⟨d.val - 16, by omega⟩

section
variable (x0 : FVec Ideal S2x4096x2048 .f32) (x1 : FVec Ideal S2x256x2048 .f32) (x2 : FVec Ideal S2x8x12288 .f32) (x3 : FVec Ideal S2048 .f32) (x4 : FVec Ideal S2x2048x4480 .f32)

theorem v92 (b : Fin 2) (p : Fin 4096) (n : Fin 12) (d : Fin 64) (q : Fin 4480) (h : q.val = 3200 + (64 * n.val + d.val)) :
    val_main_v92 (F := Ideal) x0 x2 x3 x4 (ix4 b p n d) = val_main_v87 (F := Ideal) x0 x2 x3 x4 (ix3 b p q) := by
  pointwise [val_main_v92, val_main_v91]
  blk_ext

theorem v110 (b : Fin 2) (p : Fin 4096) (n : Fin 4) (d : Fin 64) (q : Fin 4480) (h : q.val = 3968 + (64 * n.val + d.val)) :
    val_main_v110 (F := Ideal) x0 x2 x3 x4 (ix4 b p n d) = val_main_v87 (F := Ideal) x0 x2 x3 x4 (ix3 b p q) := by
  pointwise [val_main_v110, val_main_v109]
  blk_ext

theorem v99 (b : Fin 2) (p : Fin 4096) (n : Fin 12) (d : Fin 64) :
    val_main_v99 (F := Ideal) x0 x2 x3 x4 (ix4 b p n d) = rot (fun d => val_main_v92 (F := Ideal) x0 x2 x3 x4 (ix4 b p n d)) d := by
  pointwise [val_main_v99, val_main_v98, val_main_v97, val_main_v96, val_main_v95, val_main_v94, val_main_v93]
  unfold rot
  dsimp only
  by_cases h1 : d.val < 16
  · rw [dif_pos h1, dif_pos (by omega)]
    refine congrArg (fun x : EReal => -x) ?_
    blk_ext
  by_cases h2 : d.val - 16 < 16
  · rw [dif_neg h1, dif_pos h2, dif_neg (by omega)]
  by_cases h3 : d.val - 16 - 16 < 16
  · rw [dif_neg h1, dif_neg h2, dif_pos h3, dif_pos (by omega)]
    refine congrArg (fun x : EReal => -x) ?_
    blk_ext
  · rw [dif_neg h1, dif_neg h2, dif_neg h3, dif_neg (by omega)]
    blk_ext

theorem v117 (b : Fin 2) (p : Fin 4096) (n : Fin 4) (d : Fin 64) :
    val_main_v117 (F := Ideal) x0 x2 x3 x4 (ix4 b p n d) = rot (fun d => val_main_v110 (F := Ideal) x0 x2 x3 x4 (ix4 b p n d)) d := by
  pointwise [val_main_v117, val_main_v116, val_main_v115, val_main_v114, val_main_v113, val_main_v112, val_main_v111]
  unfold rot
  dsimp only
  by_cases h1 : d.val < 16
  · rw [dif_pos h1, dif_pos (by omega)]
    refine congrArg (fun x : EReal => -x) ?_
    blk_ext
  by_cases h2 : d.val - 16 < 16
  · rw [dif_neg h1, dif_pos h2, dif_neg (by omega)]
  by_cases h3 : d.val - 16 - 16 < 16
  · rw [dif_neg h1, dif_neg h2, dif_pos h3, dif_pos (by omega)]
    refine congrArg (fun x : EReal => -x) ?_
    blk_ext
  · rw [dif_neg h1, dif_neg h2, dif_neg h3, dif_neg (by omega)]
    blk_ext

theorem v140 (b : Fin 2) (p : Fin 4096) (n : Fin 12) (d : Fin 64) :
    val_main_v140 (F := Ideal) x0 x2 x3 x4 (ix4 b p n d)
      = (val_main_v92 (F := Ideal) x0 x2 x3 x4 (ix4 b p n d) * val_main_v26 (F := Ideal) (ix2 p d)
        + val_main_v99 (F := Ideal) x0 x2 x3 x4 (ix4 b p n d) * val_main_v27 (F := Ideal) (ix2 p d)) * Ideal.ofBits .f32 0x3E000000#32 := by
  pointwise [val_main_v140, val_main_v139, val_main_v138, val_main_cst_9, val_main_v108, val_main_v107, val_main_v106, val_main_v105, val_main_v104, val_main_v103, val_main_v102, val_main_v101, val_main_v100]

theorem v144 (b : Fin 2) (p : Fin 4096) (n : Fin 4) (d : Fin 64) :
    val_main_v144 (F := Ideal) x0 x2 x3 x4 (ix4 b p n d)
      = val_main_v110 (F := Ideal) x0 x2 x3 x4 (ix4 b p n d) * val_main_v26 (F := Ideal) (ix2 p d)
        + val_main_v117 (F := Ideal) x0 x2 x3 x4 (ix4 b p n d) * val_main_v27 (F := Ideal) (ix2 p d) := by
  pointwise [val_main_v144, val_main_v126, val_main_v125, val_main_v124, val_main_v123, val_main_v122, val_main_v121, val_main_v120, val_main_v119, val_main_v118]

theorem v145 (b : Fin 2) (p : Fin 4096) (n : Fin 4) (d : Fin 64) (q : Fin 4480) (h : q.val = 4224 + (64 * n.val + d.val)) :
    val_main_v145 (F := Ideal) x0 x2 x3 x4 (ix4 b p n d) = val_main_v87 (F := Ideal) x0 x2 x3 x4 (ix3 b p q) := by
  pointwise [val_main_v145, val_main_v128, val_main_v127]
  blk_ext
theorem v135 (b : Fin 2) (p : Fin 4096) (d : Fin 2688) (q : Fin 4480) (h : q.val = d.val) :
    val_main_v135 (F := Ideal) x0 x2 x3 x4 (ix3 b p d) = val_main_v87 (F := Ideal) x0 x2 x3 x4 (ix3 b p q) := by
  pointwise [val_main_v135]
  blk_ext
theorem v137 (b : Fin 2) (p : Fin 4096) (d : Fin 512) (q : Fin 4480) (h : q.val = 2688 + d.val) :
    val_main_v137 (F := Ideal) x0 x2 x3 x4 (ix3 b p d) = val_main_v87 (F := Ideal) x0 x2 x3 x4 (ix3 b p q) := by
  pointwise [val_main_v137]
  blk_ext
theorem v136 (b : Fin 2) (p : Fin 256) (d : Fin 2688) (q : Fin 4480) (h : q.val = d.val) :
    val_main_v136 (F := Ideal) x1 x2 x3 x4 (ix3 b p d) = val_main_v90 (F := Ideal) x1 x2 x3 x4 (ix3 b p q) := by
  pointwise [val_main_v136]
  blk_ext
theorem v143 (b : Fin 2) (p : Fin 256) (n : Fin 12) (d : Fin 64) (q : Fin 4480) (h : q.val = 3200 + (64 * n.val + d.val)) :
    val_main_v143 (F := Ideal) x1 x2 x3 x4 (ix4 b p n d) = val_main_v90 (F := Ideal) x1 x2 x3 x4 (ix3 b p q) * Ideal.ofBits .f32 0x3E000000#32 := by
  pointwise [val_main_v143, val_main_v142, val_main_v141, val_main_cst_10, val_main_v130, val_main_v129]
  refine congrArg (fun x : EReal => x * _) ?_
  blk_ext
theorem v146 (b : Fin 2) (p : Fin 256) (n : Fin 4) (d : Fin 64) (q : Fin 4480) (h : q.val = 3968 + (64 * n.val + d.val)) :
    val_main_v146 (F := Ideal) x1 x2 x3 x4 (ix4 b p n d) = val_main_v90 (F := Ideal) x1 x2 x3 x4 (ix3 b p q) := by
  pointwise [val_main_v146, val_main_v132, val_main_v131]
  blk_ext
theorem v147 (b : Fin 2) (p : Fin 256) (n : Fin 4) (d : Fin 64) (q : Fin 4480) (h : q.val = 4224 + (64 * n.val + d.val)) :
    val_main_v147 (F := Ideal) x1 x2 x3 x4 (ix4 b p n d) = val_main_v90 (F := Ideal) x1 x2 x3 x4 (ix3 b p q) := by
  pointwise [val_main_v147, val_main_v134, val_main_v133]
  blk_ext
end

end Cert.In0RefIdeal.Point

end
-- ==== Proof.In0Body.lean ====
module

public import proofs.«01_k».proof.Proof.Gen.In0Ideal.Frame
public import proofs.«01_k».proof.Proof.In0Ref
public import Idealize.ShloMosaic.Lib.Pipeline.ValueKit

@[expose] public section

set_option maxRecDepth 16384

noncomputable section

namespace Cert.In0Ideal.Value

open Cert.In0Ideal Cert.In0Ideal.Gen Idealize.ShloMosaic Idealize.ShloMosaic.TcCoe Idealize.SL.Sem
open Cert.In0RefIdeal.Point (normed)

theorem hz2 : (![0, 0] : Fin 2 → Nat) = fun _ => 0 := funext fun a => by fin_cases a <;> rfl
theorem hz3 : (![0, 0, 0] : Fin 3 → Nat) = fun _ => 0 := funext fun a => by fin_cases a <;> rfl

/-- A block of columns of the weights. -/
theorem ld_w (x5 : Vec Ideal S1x2048x4480 .bf16) (o n : Nat) (h : ∀ a, (![0, 0, o] : Fin 3 → Nat) a + (![1, 2048, n] : Fin 3 → Nat) a ≤ S1x2048x4480.size a)
    (l : Fin 2048) (j : Fin n) (q : Fin 4480) (hq : q.val = o + j.val) :
    (show FVec Ideal ⟨3, ![1, 2048, n]⟩ .bf16 from View.ld x5 (Rect.unit (s := S1x2048x4480) ![0, 0, o] ![1, 2048, n] h)) (ix3 0 l j) = x5 (ix3 0 l q) := by
  refine congrArg x5 (funext fun a => Fin.ext ?_)
  fin_cases a <;> simp [Rect.unit, ix3, hq]

/-- The rows a point reads: the context's or the sequence's. -/
def rows (i : grid0.Coords) (x0 x1 : FVec Ideal S256x2048 .f32) : FVec Ideal S256x2048 .f32 :=
  Scalar.select (Scalar.cmpi .slt (Scalar.addi (BitVec.ofNat 32 (i 0).val) 0#32) 2#32) x0 x1

theorem pay2_apply (i : grid0.Coords) (x0 x1 : FVec Ideal S256x2048 .f32) (x2 : FVec Ideal S1x2048 .f32) (x3 x4 : FVec Ideal S1x1x2048 .f32) (r : Fin 256) (l : Fin 2048) :
    k0_pay2 (F := Ideal) i x0 x1 x2 x3 x4 (ix2 r l)
      = normed (fun l => rows i x0 x1 (ix2 r l)) (fun l => x2 (ix2 0 l)) (fun l => x3 (ix3 0 0 l)) (fun l => x4 (ix3 0 0 l)) l := by
  unfold normed rows
  pointwise [k0_pay2]

theorem pay3_apply (i : grid0.Coords) (x0 x1 : FVec Ideal S256x2048 .f32) (x2 : FVec Ideal S1x2048 .f32) (x3 x4 : FVec Ideal S1x1x2048 .f32) (w : FVec Ideal S1x2048x2688 .bf16) (r : Fin 256) (j : Fin 2688) :
    k0_pay3 (F := Ideal) i x0 x1 x2 x3 x4 w (ix2 r j) = ∑ l : Fin 2048, k0_pay2 (F := Ideal) i x0 x1 x2 x3 x4 (ix2 r l) * w (ix3 0 l j) := by
  pointwise [k0_pay3]
theorem pay4_apply (h : FVec Ideal S256x2048 .bf16) (w : FVec Ideal S1x2048x512 .bf16) (r : Fin 256) (j : Fin 512) :
    k0_pay4 (F := Ideal) h w (ix2 r j) = ∑ l : Fin 2048, h (ix2 r l) * w (ix3 0 l j) := by
  pointwise [k0_pay4]
theorem pay8_apply (h : FVec Ideal S256x2048 .bf16) (w : FVec Ideal S1x2048x768 .bf16) (r : Fin 256) (j : Fin 768) :
    k0_pay8 (F := Ideal) h w (ix2 r j) = ∑ l : Fin 2048, h (ix2 r l) * w (ix3 0 l j) := by
  pointwise [k0_pay8]
theorem pay15_apply (h : FVec Ideal S256x2048 .bf16) (w : FVec Ideal S1x2048x256 .bf16) (r : Fin 256) (j : Fin 256) :
    k0_pay15 (F := Ideal) h w (ix2 r j) = ∑ l : Fin 2048, h (ix2 r l) * w (ix3 0 l j) := by
  pointwise [k0_pay15]
theorem pay16_apply (h : FVec Ideal S256x2048 .bf16) (w : FVec Ideal S1x2048x256 .bf16) (r : Fin 256) (j : Fin 256) :
    k0_pay16 (F := Ideal) h w (ix2 r j) = ∑ l : Fin 2048, h (ix2 r l) * w (ix3 0 l j) := by
  pointwise [k0_pay16]

/-- A lane turned by the tables: itself, the lane sixteen above and the lane sixteen below in its block of 128. -/
def turn (z : Fin 128 → EReal) (c a b : FVec Ideal S256x128 .f32) (r : Fin 256) (j : Fin 128) : EReal :=
  z j * c (ix2 r j) + z ⟨(j.val + 128 - 112) % 128, Nat.mod_lt _ (by decide)⟩ * a (ix2 r j) + z ⟨(j.val + 128 - 16) % 128, Nat.mod_lt _ (by decide)⟩ * b (ix2 r j)

/-- The queries' block. -/
def qblk (h : FVec Ideal S256x2048 .bf16) (w : FVec Ideal S1x2048x768 .bf16) (c a b : FVec Ideal S256x128 .f32) : FVec Ideal S256x768 .bf16 :=
  k0_pay14 (k0_pay5 c) (k0_pay6 a) (k0_pay7 b) (k0_pay8 h w) (k0_pay9 h c a b w) (k0_pay10 h c a b w) (k0_pay12 h c a w) (k0_pay13 h w)

/-- The keys' block, the values' after it. -/
def kvblk (h : FVec Ideal S256x2048 .bf16) (wk wv : FVec Ideal S1x2048x256 .bf16) (c a b : FVec Ideal S256x128 .f32) : FVec Ideal S256x512 .bf16 :=
  k0_pay1 (k0_pay5 c) (k0_pay6 a) (k0_pay7 b) (k0_pay15 h wk) (k0_pay16 h wv) (k0_pay17 h wk) (k0_pay18 h (k0_pay5 c) wk) (k0_pay19 h (k0_pay6 a) wk)

theorem qblk_apply (h : FVec Ideal S256x2048 .bf16) (w : FVec Ideal S1x2048x768 .bf16) (c a b : FVec Ideal S256x128 .f32) (r : Fin 256) (g : Fin 6) (j : Fin 128) :
    qblk h w c a b (ix2 r ⟨128 * g.val + j.val, by omega⟩)
      = turn (fun j => k0_pay8 (F := Ideal) h w (ix2 r ⟨128 * g.val + j.val, by omega⟩)) c a b r j * Ideal.ofBits .f32 0x3E000000#32 := by
  unfold turn qblk
  have e2 : 256 + j.val - 128 - 128 = j.val := by omega
  have e3 : 384 + j.val - 128 - 128 - 128 = j.val := by omega
  have e4 : 512 + j.val - 128 - 128 - 128 - 128 = j.val := by omega
  have e5 : 640 + j.val - 128 - 128 - 128 - 128 - 128 = j.val := by omega
  fin_cases g <;> pointwise [k0_pay14, k0_pay5, k0_pay6, k0_pay7, k0_pay9, k0_pay10, k0_pay12, k0_pay13, k0_pay11]
  · rw [dif_neg (by omega), dif_neg (by omega), dif_pos (by omega)]
    simp only [e2, Fin.eta]
  · rw [dif_neg (by omega), dif_neg (by omega), dif_neg (by omega), dif_pos (by omega)]
    simp only [e3, Fin.eta]
  · rw [dif_neg (by omega), dif_neg (by omega), dif_neg (by omega), dif_neg (by omega), dif_pos (by omega)]
    simp only [e4, Fin.eta]
  · rw [dif_neg (by omega), dif_neg (by omega), dif_neg (by omega), dif_neg (by omega), dif_neg (by omega)]
    simp only [e5, Fin.eta]

theorem kblk_apply (h : FVec Ideal S256x2048 .bf16) (wk wv : FVec Ideal S1x2048x256 .bf16) (c a b : FVec Ideal S256x128 .f32) (r : Fin 256) (g : Fin 2) (j : Fin 128) :
    kvblk h wk wv c a b (ix2 r ⟨128 * g.val + j.val, by omega⟩)
      = turn (fun j => k0_pay15 (F := Ideal) h wk (ix2 r ⟨128 * g.val + j.val, by omega⟩)) c a b r j := by
  unfold turn kvblk
  fin_cases g
  · pointwise [k0_pay1, k0_pay5, k0_pay6, k0_pay7, k0_pay17, k0_pay18, k0_pay19]
    rw [dif_pos (by omega)]
  · pointwise [k0_pay1, k0_pay5, k0_pay6, k0_pay7, k0_pay17, k0_pay18, k0_pay19]
    rw [dif_pos (by omega)]
theorem vblk_apply (h : FVec Ideal S256x2048 .bf16) (wk wv : FVec Ideal S1x2048x256 .bf16) (c a b : FVec Ideal S256x128 .f32) (r : Fin 256) (j : Fin 256) :
    kvblk h wk wv c a b (ix2 r ⟨256 + j.val, by omega⟩) = k0_pay16 (F := Ideal) h wv (ix2 r j) := by
  unfold kvblk
  pointwise [k0_pay1]

section
variable (i : grid0.Coords) (x0 x1 : Vec Ideal S256x2048 .f32) (x2 : Vec Ideal S1x2048 .f32) (x3 x4 : Vec Ideal S1x1x2048 .f32) (x5 : Vec Ideal S1x2048x4480 .bf16) (x6 : Vec Ideal S1x2048x768 .bf16) (x7 x8 x9 : Vec Ideal S256x128 .f32)

theorem out10_eq : out0_10 (F := Ideal) i x0 x1 x2 x3 x4 x5 x6 x7 x8 x9 = k0_pay3 i x0 x1 x2 x3 x4 (View.ld x5 r0_3) := by
  unfold_out out0_10
  rw [View.canon_unit_zero hz2]
  simp only [View.ld_unit_zero (S := S256x2048) hz2, View.ld_unit_zero (S := S1x2048) hz2, View.ld_unit_zero (S := S1x1x2048) hz3]
theorem out11_eq : out0_11 (F := Ideal) i x0 x1 x2 x3 x4 x5 x6 x7 x8 x9 = k0_pay4 (k0_pay2 i x0 x1 x2 x3 x4) (View.ld x5 r0_5) := by
  unfold_out out0_11
  rw [View.canon_unit_zero hz2]
  simp only [View.ld_unit_zero (S := S256x2048) hz2, View.ld_unit_zero (S := S1x2048) hz2, View.ld_unit_zero (S := S1x1x2048) hz3]
theorem out12_eq : out0_12 (F := Ideal) i x0 x1 x2 x3 x4 x5 x6 x7 x8 x9 = qblk (k0_pay2 i x0 x1 x2 x3 x4) x6 x7 x8 x9 := by
  unfold_out out0_12
  rw [View.canon_unit_zero hz2]
  simp only [View.ld_unit_zero (S := S256x2048) hz2, View.ld_unit_zero (S := S1x2048) hz2, View.ld_unit_zero (S := S1x1x2048) hz3, View.ld_unit_zero (S := S256x128) hz2, View.ld_unit_zero (S := S1x2048x768) hz3]
  rfl
theorem out13_eq : out0_13 (F := Ideal) i x0 x1 x2 x3 x4 x5 x6 x7 x8 x9 = kvblk (k0_pay2 i x0 x1 x2 x3 x4) (View.ld x5 r0_10) (View.ld x5 r0_11) x7 x8 x9 := by
  unfold_out out0_13
  rw [View.canon_unit_zero hz2]
  simp only [View.ld_unit_zero (S := S256x2048) hz2, View.ld_unit_zero (S := S1x2048) hz2, View.ld_unit_zero (S := S1x1x2048) hz3, View.ld_unit_zero (S := S256x128) hz2]
  rfl
end

end Cert.In0Ideal.Value

end
-- ==== Proof.In0Arrays.lean ====
module

public import proofs.«01_k».proof.Proof.In0Body

@[expose] public section

set_option maxRecDepth 16384

noncomputable section

namespace Cert.In0Ideal.Value

open Cert.In0Ideal Cert.In0Ideal.Gen Idealize.ShloMosaic Idealize.ShloMosaic.TcCoe Idealize.SL.Sem

/-! ## The arrays the launch takes, as the lines before it leave them -/

/-- The modulation's rows, six to a group. -/
def modArr (a : FVec Ideal S2x8x12288 .f32) : FVec Ideal S96x1x2048 .f32 := shapeCast S96x1x2048 a shapeCasts_S2x8x12288_S96x1x2048
def wArr (a : FVec Ideal S2x2048x4480 .f32) : FVec Ideal S2x2048x4480 .bf16 := truncf .bf16 a bitsLt_bf16_f32
/-- The queries' columns, the group's number ahead of the key head's. -/
def wqArr (a : FVec Ideal S2x2048x4480 .f32) : FVec Ideal S2x2048x768 .bf16 :=
  shapeCast S2x2048x768 (transpose S2x2048x3x4x64 [0, 1, 3, 2, 4] (shapeCast S2x2048x4x3x64
    (extractStridedSlice S2x2048x768 ![0, 0, 3200] (wArr a) slices_S2x2048x4480_S2x2048x768_0_0_3200) shapeCasts_S2x2048x768_S2x2048x4x3x64)
    transposes_S2x2048x4x3x64_S2x2048x3x4x64_0_1_3_2_4) shapeCasts_S2x2048x3x4x64_S2x2048x768
def ctxArr (a : FVec Ideal S2x256x2048 .f32) : FVec Ideal S512x2048 .f32 := shapeCast S512x2048 a shapeCasts_S2x256x2048_S512x2048
def seqArr (a : FVec Ideal S2x4096x2048 .f32) : FVec Ideal S8192x2048 .f32 := shapeCast S8192x2048 a shapeCasts_S2x4096x2048_S8192x2048
def gArr (a : FVec Ideal S2048 .f32) : FVec Ideal S1x2048 .f32 := shapeCast S1x2048 a shapeCasts_S2048_S1x2048

theorem modArr_apply (a : FVec Ideal S2x8x12288 .f32) (g : Fin 8) (s : Fin 6) (k : Fin 2048) (q : Fin 12288) (hq : q.val = 2048 * s.val + k.val) :
    modArr a (ix3 ⟨6 * g.val + s.val, by omega⟩ 0 k) = a (ix3 0 g q) := by
  pointwise [modArr]
  blk_ext
theorem wArr_apply (a : FVec Ideal S2x2048x4480 .f32) (l : Fin 2048) (q : Fin 4480) : wArr a (ix3 0 l q) = a (ix3 0 l q) := by
  pointwise [wArr]
theorem wqArr_apply (a : FVec Ideal S2x2048x4480 .f32) (l : Fin 2048) (g : Fin 3) (h : Fin 4) (d : Fin 64) (n : Fin 768) (hn : n.val = 256 * g.val + 64 * h.val + d.val)
    (q : Fin 4480) (hq : q.val = 3200 + 192 * h.val + 64 * g.val + d.val) :
    wqArr a (ix3 0 l n) = a (ix3 0 l q) := by
  have e1 : n.val / 64 = 4 * g.val + h.val := by omega
  have e2 : n.val % 64 = d.val := by omega
  have e3 : n.val / 256 = g.val := by omega
  have e4 : n.val / 64 % 4 = h.val := by omega
  pointwise [wqArr, wArr]
  refine congrArg a (congrArg (ix3 0 l) (Fin.ext ?_))
  dsimp only
  omega
theorem gArr_apply (a : FVec Ideal S2048 .f32) (l : Fin 2048) : gArr a (ix2 0 l) = a (ix1 l) := by
  pointwise [gArr]

/-! ## The rotation tables -/

def freq : FVec Ideal S16 .f32 :=
  Host.powf (broadcastInDim S16 ![] bcast_S_S16 (constant S_ .f32 0x461C4000#32 : FVec Ideal S_ .f32) : FVec Ideal S16 .f32)
    (Host.divf (Host.negf (sitofp .f32 (iotaInDim S16 32 0) : FVec Ideal S16 .f32)) (broadcastInDim S16 ![] bcast_S_S16 (constant S_ .f32 0x41800000#32 : FVec Ideal S_ .f32)))
/-- A position's angles. -/
def ang : FVec Ideal S64x16 .f32 :=
  mulf (broadcastInDim S64x16 ![0, 1] bcast_S64x1_S64x16_0_1 (broadcastInDim S64x1 ![0] bcast_S64_S64x1_0 (sitofp .f32 (iotaInDim S64 32 0) : FVec Ideal S64 .f32) : FVec Ideal S64x1 .f32))
    (broadcastInDim S64x16 ![0, 1] bcast_S1x16_S64x16_0_1 (broadcastInDim S1x16 ![1] bcast_S16_S1x16_1 freq : FVec Ideal S1x16 .f32))
/-- A head's table of a function of the angles, the image's row in its first half and the column in its second, twice over. -/
def tab (a : FVec Ideal S64x16 .f32) : FVec Ideal S4096x128 .f32 :=
  let r : FVec Ideal S4096x16 .f32 := shapeCast S4096x16 (broadcastInDim S64x64x16 ![0, 2] bcast_S64x16_S64x64x16_0_2 a : FVec Ideal S64x64x16 .f32) shapeCasts_S64x64x16_S4096x16
  let k : FVec Ideal S4096x16 .f32 := shapeCast S4096x16 (broadcastInDim S64x64x1x16 ![0, 1, 2, 3] bcast_S1x64x1x16_S64x64x1x16_0_1_2_3 (shapeCast S1x64x1x16 a shapeCasts_S64x16_S1x64x1x16 : FVec Ideal S1x64x1x16 .f32) : FVec Ideal S64x64x1x16 .f32) shapeCasts_S64x64x1x16_S4096x16
  shapeCast S4096x128 (broadcastInDim S1x4096x2x64 ![0, 1, 2, 3] bcast_S1x4096x1x64_S1x4096x2x64_0_1_2_3 (shapeCast S1x4096x1x64
    (concatenate S4096x64 1 [⟨S4096x16, r⟩, ⟨S4096x16, r⟩, ⟨S4096x16, k⟩, ⟨S4096x16, k⟩] concatenates_S4096x16_S4096x16_S4096x16_S4096x16_S4096x64_d1 : FVec Ideal S4096x64 .f32) shapeCasts_S4096x64_S1x4096x1x64 : FVec Ideal S1x4096x1x64 .f32) : FVec Ideal S1x4096x2x64 .f32) shapeCasts_S1x4096x2x64_S4096x128
/-- The context's rows of a table, then both sequences'. -/
def full (u : BitVec 32) (a : FVec Ideal S4096x128 .f32) : FVec Ideal S8704x128 .f32 :=
  concatenate S8704x128 0 [⟨S512x128, (broadcastInDim S512x128 ![] bcast_S_S512x128 (constant S_ .f32 u : FVec Ideal S_ .f32) : FVec Ideal S512x128 .f32)⟩,
    ⟨S8192x128, (shapeCast S8192x128 (broadcastInDim S2x4096x1x128 ![0, 1, 2, 3] bcast_S1x4096x1x128_S2x4096x1x128_0_1_2_3 (shapeCast S1x4096x1x128 a shapeCasts_S4096x128_S1x4096x1x128 : FVec Ideal S1x4096x1x128 .f32) : FVec Ideal S2x4096x1x128 .f32) shapeCasts_S2x4096x1x128_S8192x128 : FVec Ideal S8192x128 .f32)⟩] concatenates_S512x128_S8192x128_S8704x128_d0

/-- The divisor of the lanes' numbers. -/
def dvs : IVec S_ 32 := select (cmpi .eq (constantI S_ 32 32#32) (constantI S_ 32 0#32)) (constantI S_ 32 1#32) (constantI S_ 32 32#32)
def rem0 : IVec S128 32 := Host.remsi (iotaInDim S128 32 0) (broadcastInDim S128 ![] bcast_S_S128 dvs)
def rem1 : IVec S128 32 :=
  select (andi (cmpi .ne (cmpi .slt rem0 (broadcastInDim S128 ![] bcast_S_S128 (constantI S_ 32 0#32))) (broadcastInDim S128 ![] bcast_S_S128 (cmpi .slt dvs (constantI S_ 32 0#32))))
    (cmpi .ne rem0 (broadcastInDim S128 ![] bcast_S_S128 (constantI S_ 32 0#32)))) (addi rem0 (broadcastInDim S128 ![] bcast_S_S128 dvs)) rem0
/-- Whether a lane is in the first half of its thirty-two. -/
def low : IVec S128 1 := cmpi .slt rem1 (broadcastInDim S128 ![] bcast_S_S128 (constantI S_ 32 16#32))
def lowB : IVec S4096x128 1 := broadcastInDim S4096x128 ![1] bcast_S128_S4096x128_1 low
def zeroB : FVec Ideal S4096x128 .f32 := broadcastInDim S4096x128 ![] bcast_S_S4096x128 (constant S_ .f32 0x00000000#32 : FVec Ideal S_ .f32)

def cosArr : FVec Ideal S8704x128 .f32 := full 0x3F800000#32 (tab (Host.cos ang))
def sinA : FVec Ideal S8704x128 .f32 := full 0x00000000#32 (select lowB (Host.negf (tab (Host.sin ang))) zeroB)
def sinB : FVec Ideal S8704x128 .f32 := full 0x00000000#32 (select lowB zeroB (tab (Host.sin ang)))

theorem low_apply (j : Fin 128) : low (ix1 j) = if j.val % 32 < 16 then 1#1 else 0#1 := by
  pointwise [low, rem1, rem0, dvs]
  revert j
  decide +kernel

theorem full_ctx (u : BitVec 32) (a : FVec Ideal S4096x128 .f32) (R : Fin 8704) (j : Fin 128) (h : R.val < 512) :
    full u a (ix2 R j) = Ideal.ofBits .f32 u := by
  pointwise [full]
  rw [dif_pos h]
theorem full_seq (u : BitVec 32) (a : FVec Ideal S4096x128 .f32) (R : Fin 8704) (j : Fin 128) (b : Fin 2) (p : Fin 4096) (h : R.val = 512 + (b.val * 4096 + p.val)) :
    full u a (ix2 R j) = a (ix2 p j) := by
  pointwise [full]
  rw [dif_neg (by omega)]
  blk_ext

/-- The coordinate a head's lane turns by: the image's row in the first half, its column in the second. -/
def pos (p : Fin 4096) (d : Fin 64) : Fin 64 := if d.val < 32 then ⟨p.val / 64, by omega⟩ else ⟨p.val % 64, by omega⟩

theorem pos_row (p : Fin 4096) (d : Fin 64) (h : d.val < 32) : pos p d = ⟨p.val / 64, by omega⟩ := if_pos h
theorem pos_col (p : Fin 4096) (d : Fin 64) (h : ¬ d.val < 32) : pos p d = ⟨p.val % 64, by omega⟩ := if_neg h

theorem tab_apply (a : FVec Ideal S64x16 .f32) (p : Fin 4096) (j : Fin 128) (d : Fin 64) (h : d.val = j.val % 64) :
    tab a (ix2 p j) = a (ix2 (pos p d) ⟨d.val % 16, by omega⟩) := by
  pointwise [tab]
  by_cases h1 : j.val % 64 < 16
  · rw [dif_pos h1, pos_row p d (by omega)]
    exact congrArg a (congrArg (ix2 _) (Fin.ext (by dsimp only; omega)))
  by_cases h2 : j.val % 64 - 16 < 16
  · rw [dif_neg h1, dif_pos h2, pos_row p d (by omega)]
    exact congrArg a (congrArg (ix2 _) (Fin.ext (by dsimp only; omega)))
  by_cases h3 : j.val % 64 - 16 - 16 < 16
  · rw [dif_neg h1, dif_neg h2, dif_pos h3, pos_col p d (by omega)]
    exact congrArg a (congrArg (ix2 _) (Fin.ext (by dsimp only; omega)))
  · rw [dif_neg h1, dif_neg h2, dif_neg h3, pos_col p d (by omega)]
    exact congrArg a (congrArg (ix2 _) (Fin.ext (by dsimp only; omega)))

theorem ang_apply (a : Fin 64) (f : Fin 16) : ang (ix2 a f) = FloatOps.sitofp (F := Ideal) .f32 (BitVec.ofNat 32 a.val)
    * Ideal.pow (Ideal.ofBits .f32 0x461C4000#32) (Ideal.div (-FloatOps.sitofp (F := Ideal) .f32 (BitVec.ofNat 32 f.val)) (Ideal.ofBits .f32 0x41800000#32)) := by
  pointwise [ang, freq]

open Cert.In0RefIdeal.Read in
theorem ref_ang (p : Fin 4096) (d : Fin 64) : val_main_v25 (F := Ideal) (ix2 p d) = ang (ix2 (pos p d) ⟨d.val % 16, by omega⟩) := by
  rw [ang_apply]
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  by_cases h1 : d.val < 16
  · rw [dif_pos h1, pos_row p d (by omega), show d.val % 16 = d.val by omega]
  by_cases h2 : d.val - 16 < 16
  · rw [dif_neg h1, dif_pos h2, pos_row p d (by omega), show d.val % 16 = d.val - 16 by omega]
  by_cases h3 : d.val - 16 - 16 < 16
  · rw [dif_neg h1, dif_neg h2, dif_pos h3, pos_col p d (by omega), show d.val % 16 = d.val - 16 - 16 by omega]
  · rw [dif_neg h1, dif_neg h2, dif_neg h3, pos_col p d (by omega), show d.val % 16 = d.val - 16 - 16 - 16 by omega]

open Cert.In0RefIdeal.Read in
theorem tab_cos (p : Fin 4096) (j : Fin 128) (d : Fin 64) (h : d.val = j.val % 64) : tab (Host.cos ang) (ix2 p j) = val_main_v26 (F := Ideal) (ix2 p d) := by
  rw [tab_apply _ p j d h]
  pointwise [val_main_v26]
  rw [ref_ang]
open Cert.In0RefIdeal.Read in
theorem tab_sin (p : Fin 4096) (j : Fin 128) (d : Fin 64) (h : d.val = j.val % 64) : tab (Host.sin ang) (ix2 p j) = val_main_v27 (F := Ideal) (ix2 p d) := by
  rw [tab_apply _ p j d h]
  pointwise [val_main_v27]
  rw [ref_ang]

theorem cos_ctx (R : Fin 8704) (j : Fin 128) (h : R.val < 512) : cosArr (ix2 R j) = 1 := by
  unfold cosArr
  rw [full_ctx _ _ R j h]
  pointwise
theorem sinA_ctx (R : Fin 8704) (j : Fin 128) (h : R.val < 512) : sinA (ix2 R j) = 0 := by
  unfold sinA
  rw [full_ctx _ _ R j h]
  pointwise
theorem sinB_ctx (R : Fin 8704) (j : Fin 128) (h : R.val < 512) : sinB (ix2 R j) = 0 := by
  unfold sinB
  rw [full_ctx _ _ R j h]
  pointwise

section
variable (R : Fin 8704) (j : Fin 128) (d : Fin 64) (b : Fin 2) (p : Fin 4096) (h : R.val = 512 + (b.val * 4096 + p.val)) (hd : d.val = j.val % 64)
include h hd
open Cert.In0RefIdeal.Read

theorem cos_seq : cosArr (ix2 R j) = val_main_v26 (F := Ideal) (ix2 p d) := by
  unfold cosArr
  rw [full_seq _ _ R j b p h, tab_cos p j d hd]
theorem sinA_lo (hl : d.val % 32 < 16) : sinA (ix2 R j) = - val_main_v27 (F := Ideal) (ix2 p d) := by
  unfold sinA
  rw [full_seq _ _ R j b p h, ← tab_sin p j d hd]
  generalize tab (Host.sin ang) = t
  pointwise [lowB]
  rw [low_apply, if_pos (by omega)]
  rfl
theorem sinA_hi (hl : ¬ d.val % 32 < 16) : sinA (ix2 R j) = 0 := by
  unfold sinA
  rw [full_seq _ _ R j b p h]
  generalize tab (Host.sin ang) = t
  pointwise [lowB, zeroB]
  rw [low_apply, if_neg (by omega)]
  rfl
theorem sinB_lo (hl : d.val % 32 < 16) : sinB (ix2 R j) = 0 := by
  unfold sinB
  rw [full_seq _ _ R j b p h]
  generalize tab (Host.sin ang) = t
  pointwise [lowB, zeroB]
  rw [low_apply, if_pos (by omega)]
  rfl
theorem sinB_hi (hl : ¬ d.val % 32 < 16) : sinB (ix2 R j) = val_main_v27 (F := Ideal) (ix2 p d) := by
  unfold sinB
  rw [full_seq _ _ R j b p h, ← tab_sin p j d hd]
  generalize tab (Host.sin ang) = t
  pointwise [lowB]
  rw [low_apply, if_neg (by omega)]
  rfl
end

end Cert.In0Ideal.Value

end
-- ==== Proof.In0Host.lean ====
module

public import proofs.«01_k».proof.Proof.In0Arrays

@[expose] public section

set_option maxRecDepth 16384

noncomputable section

namespace Cert.In0Ideal.Value

open Cert.In0Ideal Cert.In0Ideal.Gen Idealize.ShloMosaic Idealize.ShloMosaic.TcCoe Idealize.SL.Sem
open Cert.Ffn0Ideal.Value (rowsArr rowsArr_ctx rowsArr_seq)

variable (m : (ℓ : Loc nD τ sig) → Buf (Elt Ideal) ℓ)

theorem idx_val : ∀ t : Fin cfg0.N, win0_0.index t = ![min t.val 1, 0] ∧ win0_1.index t = ![t.val - 2, 0]
    ∧ win0_2.index t = ![0, 0] ∧ win0_3.index t = ![6 * ((t.val + 14) / 16) + 1, 0, 0] ∧ win0_4.index t = ![6 * ((t.val + 14) / 16), 0, 0]
    ∧ win0_5.index t = ![0, 0, 0] ∧ win0_6.index t = ![0, 0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

theorem ctx_bit : ∀ t : Fin cfg0.N, Scalar.cmpi .slt (Scalar.addi (BitVec.ofNat 32 (grid0.coords t 0).val) 0#32) 2#32 = if t.val < 2 then 1#1 else 0#1 :=
  (by decide +kernel : ∀ t : Fin grid0.N, _)

theorem Vmod (c : Dev nD) : V m c main_v0 = modArr (m ((c : Thread nD τ).loc main_arg2)) := by
  show StableHlo.after [hostOps0, hostOps0_1, hostOps0_2, hostOps0_3, hostOps0_4, hostOps0_5, hostOps0_6].flatten (fun b => m (c, b)) (Proc.devRef .tc main_v0) = _
  simp only [hostOps0, hostOps0_1, hostOps0_2, hostOps0_3, hostOps0_4, hostOps0_5, hostOps0_6, List.flatten_cons, List.flatten_nil, List.append_nil, List.cons_append, List.nil_append]
  after_results
  rfl

theorem Vw (c : Dev nD) : V m c main_v1 = wArr (m ((c : Thread nD τ).loc main_arg4)) := by
  show StableHlo.after [hostOps0, hostOps0_1, hostOps0_2, hostOps0_3, hostOps0_4, hostOps0_5, hostOps0_6].flatten (fun b => m (c, b)) (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl

theorem Vwq (c : Dev nD) : V m c main_v5 = wqArr (m ((c : Thread nD τ).loc main_arg4)) := by
  show StableHlo.after [hostOps0, hostOps0_1, hostOps0_2, hostOps0_3, hostOps0_4, hostOps0_5, hostOps0_6].flatten (fun b => m (c, b)) (Proc.devRef .tc main_v5) = _
  simp only [hostOps0, hostOps0_1, hostOps0_2, hostOps0_3, hostOps0_4, hostOps0_5, hostOps0_6, List.flatten_cons, List.flatten_nil, List.append_nil, List.cons_append, List.nil_append]
  after_results
  rfl

theorem Vctx (c : Dev nD) : V m c main_v6 = ctxArr (m ((c : Thread nD τ).loc main_arg1)) := by
  show StableHlo.after [hostOps0, hostOps0_1, hostOps0_2, hostOps0_3, hostOps0_4, hostOps0_5, hostOps0_6].flatten (fun b => m (c, b)) (Proc.devRef .tc main_v6) = _
  simp only [hostOps0, hostOps0_1, hostOps0_2, hostOps0_3, hostOps0_4, hostOps0_5, hostOps0_6, List.flatten_cons, List.flatten_nil, List.append_nil, List.cons_append, List.nil_append]
  after_results
  rfl

theorem Vseq (c : Dev nD) : V m c main_v7 = seqArr (m ((c : Thread nD τ).loc main_arg0)) := by
  show StableHlo.after [hostOps0, hostOps0_1, hostOps0_2, hostOps0_3, hostOps0_4, hostOps0_5, hostOps0_6].flatten (fun b => m (c, b)) (Proc.devRef .tc main_v7) = _
  simp only [hostOps0, hostOps0_1, hostOps0_2, hostOps0_3, hostOps0_4, hostOps0_5, hostOps0_6, List.flatten_cons, List.flatten_nil, List.append_nil, List.cons_append, List.nil_append]
  after_results
  rfl

theorem Vg (c : Dev nD) : V m c main_v72 = gArr (m ((c : Thread nD τ).loc main_arg3)) := by
  show StableHlo.after [hostOps0, hostOps0_1, hostOps0_2, hostOps0_3, hostOps0_4, hostOps0_5, hostOps0_6].flatten (fun b => m (c, b)) (Proc.devRef .tc main_v72) = _
  simp only [hostOps0, hostOps0_1, hostOps0_2, hostOps0_3, hostOps0_4, hostOps0_5, hostOps0_6, List.flatten_cons, List.flatten_nil, List.append_nil, List.cons_append, List.nil_append]
  after_results
  rfl

theorem Vcos (c : Dev nD) : V m c main_v61 = cosArr := by
  show StableHlo.after [hostOps0, hostOps0_1, hostOps0_2, hostOps0_3, hostOps0_4, hostOps0_5, hostOps0_6].flatten (fun b => m (c, b)) (Proc.devRef .tc main_v61) = _
  simp only [hostOps0, hostOps0_1, hostOps0_2, hostOps0_3, hostOps0_4, hostOps0_5, hostOps0_6, List.flatten_cons, List.flatten_nil, List.append_nil, List.cons_append, List.nil_append]
  after_results
  rfl

theorem Vsa (c : Dev nD) : V m c main_v66 = sinA := by
  show StableHlo.after [hostOps0, hostOps0_1, hostOps0_2, hostOps0_3, hostOps0_4, hostOps0_5, hostOps0_6].flatten (fun b => m (c, b)) (Proc.devRef .tc main_v66) = _
  simp only [hostOps0, hostOps0_1, hostOps0_2, hostOps0_3, hostOps0_4, hostOps0_5, hostOps0_6, List.flatten_cons, List.flatten_nil, List.append_nil, List.cons_append, List.nil_append]
  after_results
  rfl

theorem Vsb (c : Dev nD) : V m c main_v71 = sinB := by
  show StableHlo.after [hostOps0, hostOps0_1, hostOps0_2, hostOps0_3, hostOps0_4, hostOps0_5, hostOps0_6].flatten (fun b => m (c, b)) (Proc.devRef .tc main_v71) = _
  simp only [hostOps0, hostOps0_1, hostOps0_2, hostOps0_3, hostOps0_4, hostOps0_5, hostOps0_6, List.flatten_cons, List.flatten_nil, List.append_nil, List.cons_append, List.nil_append]
  after_results
  rfl

end Cert.In0Ideal.Value

end
-- ==== Proof.In0Point.lean ====
module

public import proofs.«01_k».proof.Proof.In0Host

@[expose] public section

set_option maxRecDepth 16384

noncomputable section

namespace Cert.In0Ideal.Value

open Cert.In0Ideal Cert.In0Ideal.Gen Idealize.ShloMosaic Idealize.ShloMosaic.TcCoe Idealize.SL.Sem
open Idealize.ShloMosaic.Pipeline (Dat)
open Cert.Ffn0Ideal.Value (rowsArr rowsArr_ctx rowsArr_seq)
open Cert.In0RefIdeal.Point (normed proj rot)

variable (m : (ℓ : Loc nD τ sig) → Buf (Elt Ideal) ℓ)

/-! ## The launch's results, as functions of the arguments -/

/-- The modulation's group of a row: the context's, or one of the sequences'. -/
def grp (R : Fin 8704) : Fin 8 := ⟨(R.val / 512 + 7) / 8, by omega⟩

section
variable (x0 : FVec Ideal S2x4096x2048 .f32) (x1 : FVec Ideal S2x256x2048 .f32) (x2 : FVec Ideal S2x8x12288 .f32) (x3 : FVec Ideal S2048 .f32) (x4 : FVec Ideal S2x2048x4480 .f32)

/-- A row, normed and modulated. -/
def hid (R : Fin 8704) : Fin 2048 → EReal :=
  normed (fun l => rowsArr x1 x0 (ix2 R l)) (fun l => x3 (ix1 l)) (fun l => x2 (ix3 0 (grp R) ⟨2048 + l.val, by omega⟩)) (fun l => x2 (ix3 0 (grp R) ⟨l.val, by omega⟩))

/-- One column of a row's projection. -/
def zz (R : Fin 8704) (q : Fin 4480) : EReal := proj (hid x0 x1 x2 x3 R) x4 q

/-- A lane turned by the tables' entries. -/
def turnAt (z : Fin 128 → EReal) (c a b : EReal) (j : Fin 128) : EReal :=
  z j * c + z ⟨(j.val + 128 - 112) % 128, Nat.mod_lt _ (by decide)⟩ * a + z ⟨(j.val + 128 - 16) % 128, Nat.mod_lt _ (by decide)⟩ * b

/-- The weights' column of a column of the queries. -/
def perm (n : Fin 768) : Fin 4480 := ⟨3200 + 192 * (n.val / 64 % 4) + 64 * (n.val / 256) + n.val % 64, by omega⟩

def zrOf : FVec Ideal S8704x2688 .f32 := fun y => zz x0 x1 x2 x3 x4 (y 0) ⟨(y 1).val, by have : (y 1).val < 2688 := (y 1).isLt; omega⟩
def zpOf : FVec Ideal S8704x512 .f32 := fun y => zz x0 x1 x2 x3 x4 (y 0) ⟨2688 + (y 1).val, by have : (y 1).val < 512 := (y 1).isLt; omega⟩

def qAt (R : Fin 8704) (g : Fin 6) (j : Fin 128) : EReal :=
  turnAt (fun j => zz x0 x1 x2 x3 x4 R (perm ⟨128 * g.val + j.val, by omega⟩)) (cosArr (ix2 R j)) (sinA (ix2 R j)) (sinB (ix2 R j)) j * Ideal.ofBits .f32 0x3E000000#32
def kAt (R : Fin 8704) (g : Fin 2) (j : Fin 128) : EReal :=
  turnAt (fun j => zz x0 x1 x2 x3 x4 R ⟨3968 + (128 * g.val + j.val), by omega⟩) (cosArr (ix2 R j)) (sinA (ix2 R j)) (sinB (ix2 R j)) j
def vAt (R : Fin 8704) (j : Fin 256) : EReal := zz x0 x1 x2 x3 x4 R ⟨4224 + j.val, by omega⟩

def qOf : FVec Ideal S8704x768 .bf16 := fun y => qAt x0 x1 x2 x3 x4 (y 0) ⟨(y 1).val / 128, by have : (y 1).val < 768 := (y 1).isLt; omega⟩ ⟨(y 1).val % 128, by omega⟩
def kvOf : FVec Ideal S8704x512 .bf16 := fun y =>
  if h : (y 1).val < 256 then kAt x0 x1 x2 x3 x4 (y 0) ⟨(y 1).val / 128, by omega⟩ ⟨(y 1).val % 128, by omega⟩
  else vAt x0 x1 x2 x3 x4 (y 0) ⟨(y 1).val - 256, by have : (y 1).val < 512 := (y 1).isLt; omega⟩
end

abbrev A0 (c : Dev nD) : FVec Ideal S2x4096x2048 .f32 := m ((c : Thread nD τ).loc main_arg0)
abbrev A1 (c : Dev nD) : FVec Ideal S2x256x2048 .f32 := m ((c : Thread nD τ).loc main_arg1)
abbrev A2 (c : Dev nD) : FVec Ideal S2x8x12288 .f32 := m ((c : Thread nD τ).loc main_arg2)
abbrev A3 (c : Dev nD) : FVec Ideal S2048 .f32 := m ((c : Thread nD τ).loc main_arg3)
abbrev A4 (c : Dev nD) : FVec Ideal S2x2048x4480 .f32 := m ((c : Thread nD τ).loc main_arg4)

/-! ## The input blocks, read as elements of the arguments -/

theorem rows_ctx (x0 : FVec Ideal S2x4096x2048 .f32) (x1 : FVec Ideal S2x256x2048 .f32) (R : Fin 8704) (k : Fin 2048) (R' : Fin 512) (h : R'.val = R.val) :
    ctxArr x1 (ix2 R' k) = rowsArr x1 x0 (ix2 R k) := by
  pointwise [rowsArr, ctxArr]
  rw [dif_pos (by omega)]
  blk_ext
theorem rows_seq (x0 : FVec Ideal S2x4096x2048 .f32) (x1 : FVec Ideal S2x256x2048 .f32) (R : Fin 8704) (k : Fin 2048) (R' : Fin 8192) (h : R.val = 512 + R'.val) :
    seqArr x0 (ix2 R' k) = rowsArr x1 x0 (ix2 R k) := by
  pointwise [rowsArr, seqArr]
  rw [dif_neg (by omega)]
  blk_ext

theorem blkx (c : Dev nD) (t : Fin cfg0.N) (r : Fin 256) (k : Fin 2048) (R : Fin 8704) (h : R.val = t.val * 256 + r.val) :
    rows (grid0.coords t) (iblk m c 0 t) (iblk m c 1 t) (ix2 r k) = rowsArr (A1 m c) (A0 m c) (ix2 R k) := by
  have ht : t.val < 34 := lt_of_lt_of_eq t.isLt N_0
  unfold rows
  rw [ctx_bit t]
  by_cases h2 : t.val < 2
  · rw [if_pos h2]
    refine Eq.trans (b := V m c main_v6 (ix2 (⟨R.val, by omega⟩ : Fin 512) k)) ?_ ?_
    · show iblk m c 0 t (ix2 r k) = _
      have hm : min t.val 1 = t.val := by omega
      blk_point [iblk, idx_val t]
    · rw [Vctx]
      exact rows_ctx _ _ R k _ rfl
  · rw [if_neg h2]
    refine Eq.trans (b := V m c main_v7 (ix2 (⟨R.val - 512, by omega⟩ : Fin 8192) k)) ?_ ?_
    · show iblk m c 1 t (ix2 r k) = _
      blk_point [iblk, idx_val t]
    · rw [Vseq]
      exact rows_seq _ _ R k _ (by dsimp only; omega)

theorem blk2 (c : Dev nD) (t : Fin cfg0.N) (k : Fin 2048) : iblk m c 2 t (ix2 0 k) = A3 m c (ix1 k) := by
  refine Eq.trans (b := V m c main_v72 (ix2 0 k)) ?_ ?_
  · blk_point [iblk, idx_val t]
  · rw [Vg]
    exact gArr_apply ..
theorem blk3 (c : Dev nD) (t : Fin cfg0.N) (k : Fin 2048) (g : Fin 8) (hg : g.val = (t.val + 14) / 16) :
    iblk m c 3 t (ix3 0 0 k) = A2 m c (ix3 0 g ⟨2048 + k.val, by omega⟩) := by
  refine Eq.trans (b := V m c main_v0 (ix3 ⟨6 * g.val + (1 : Fin 6).val, by have := (1 : Fin 6).isLt; omega⟩ 0 k)) ?_ ?_
  · have h1 : (1 : Fin 6).val = 1 := rfl
    blk_point [iblk, idx_val t]
  · rw [Vmod]
    exact modArr_apply _ g 1 k _ rfl
theorem blk4 (c : Dev nD) (t : Fin cfg0.N) (k : Fin 2048) (g : Fin 8) (hg : g.val = (t.val + 14) / 16) :
    iblk m c 4 t (ix3 0 0 k) = A2 m c (ix3 0 g ⟨k.val, by omega⟩) := by
  refine Eq.trans (b := V m c main_v0 (ix3 ⟨6 * g.val + (0 : Fin 6).val, by have := (0 : Fin 6).isLt; omega⟩ 0 k)) ?_ ?_
  · have h1 : (0 : Fin 6).val = 0 := rfl
    blk_point [iblk, idx_val t]
  · rw [Vmod]
    exact modArr_apply _ g 0 k _ (by show k.val = 2048 * 0 + k.val; omega)
theorem blk5 (c : Dev nD) (t : Fin cfg0.N) (l : Fin 2048) (q : Fin 4480) : iblk m c 5 t (ix3 0 l q) = A4 m c (ix3 0 l q) := by
  refine Eq.trans (b := V m c main_v1 (ix3 0 l q)) ?_ ?_
  · blk_point [iblk, idx_val t]
  · rw [Vw]
    exact wArr_apply ..
theorem blk6 (c : Dev nD) (t : Fin cfg0.N) (l : Fin 2048) (n : Fin 768) : iblk m c 6 t (ix3 0 l n) = A4 m c (ix3 0 l (perm n)) := by
  refine Eq.trans (b := V m c main_v5 (ix3 0 l n)) ?_ ?_
  · blk_point [iblk, idx_val t]
  · rw [Vwq]
    exact wqArr_apply _ l ⟨n.val / 256, by omega⟩ ⟨n.val / 64 % 4, by omega⟩ ⟨n.val % 64, by omega⟩ n (by dsimp only; omega) _ rfl
theorem blk7 (c : Dev nD) (t : Fin cfg0.N) (r : Fin 256) (j : Fin 128) (R : Fin 8704) (h : R.val = t.val * 256 + r.val) :
    iblk m c 7 t (ix2 r j) = cosArr (ix2 R j) := by
  rw [← Vcos m c]
  blk_point [iblk, idx_val t]
theorem blk8 (c : Dev nD) (t : Fin cfg0.N) (r : Fin 256) (j : Fin 128) (R : Fin 8704) (h : R.val = t.val * 256 + r.val) :
    iblk m c 8 t (ix2 r j) = sinA (ix2 R j) := by
  rw [← Vsa m c]
  blk_point [iblk, idx_val t]
theorem blk9 (c : Dev nD) (t : Fin cfg0.N) (r : Fin 256) (j : Fin 128) (R : Fin 8704) (h : R.val = t.val * 256 + r.val) :
    iblk m c 9 t (ix2 r j) = sinB (ix2 R j) := by
  rw [← Vsb m c]
  blk_point [iblk, idx_val t]

/-! ## What a point stores -/

/-- What the blocks of the point `n` hold, as elements of the arguments. -/
structure Blocks (i : grid0.Coords) (n : ℕ) (b0 b1 : FVec Ideal S256x2048 .f32) (b2 : FVec Ideal S1x2048 .f32) (b3 b4 : FVec Ideal S1x1x2048 .f32)
    (b5 : FVec Ideal S1x2048x4480 .bf16) (b6 : FVec Ideal S1x2048x768 .bf16) (b7 b8 b9 : FVec Ideal S256x128 .f32)
    (x0 : FVec Ideal S2x4096x2048 .f32) (x1 : FVec Ideal S2x256x2048 .f32) (x2 : FVec Ideal S2x8x12288 .f32) (x3 : FVec Ideal S2048 .f32) (x4 : FVec Ideal S2x2048x4480 .f32) : Prop where
  x : ∀ (r : Fin 256) (k : Fin 2048) (R : Fin 8704), R.val = n * 256 + r.val → rows i b0 b1 (ix2 r k) = rowsArr x1 x0 (ix2 R k)
  g : ∀ k : Fin 2048, b2 (ix2 0 k) = x3 (ix1 k)
  sc : ∀ (k : Fin 2048) (g : Fin 8), g.val = (n + 14) / 16 → b3 (ix3 0 0 k) = x2 (ix3 0 g ⟨2048 + k.val, by omega⟩)
  sh : ∀ (k : Fin 2048) (g : Fin 8), g.val = (n + 14) / 16 → b4 (ix3 0 0 k) = x2 (ix3 0 g ⟨k.val, by omega⟩)
  w : ∀ (l : Fin 2048) (q : Fin 4480), b5 (ix3 0 l q) = x4 (ix3 0 l q)
  wq : ∀ (l : Fin 2048) (k : Fin 768), b6 (ix3 0 l k) = x4 (ix3 0 l (perm k))
  cos : ∀ (r : Fin 256) (j : Fin 128) (R : Fin 8704), R.val = n * 256 + r.val → b7 (ix2 r j) = cosArr (ix2 R j)
  sa : ∀ (r : Fin 256) (j : Fin 128) (R : Fin 8704), R.val = n * 256 + r.val → b8 (ix2 r j) = sinA (ix2 R j)
  sb : ∀ (r : Fin 256) (j : Fin 128) (R : Fin 8704), R.val = n * 256 + r.val → b9 (ix2 r j) = sinB (ix2 R j)

theorem blocks (c : Dev nD) (t : Fin cfg0.N) : Blocks (grid0.coords t) t.val (iblk m c 0 t) (iblk m c 1 t) (iblk m c 2 t) (iblk m c 3 t) (iblk m c 4 t) (iblk m c 5 t) (iblk m c 6 t) (iblk m c 7 t) (iblk m c 8 t) (iblk m c 9 t)
    (A0 m c) (A1 m c) (A2 m c) (A3 m c) (A4 m c) :=
  ⟨blkx m c t, blk2 m c t, blk3 m c t, blk4 m c t, blk5 m c t, blk6 m c t, blk7 m c t, blk8 m c t, blk9 m c t⟩

section
variable {i : grid0.Coords} {n : ℕ} {b0 b1 : FVec Ideal S256x2048 .f32} {b2 : FVec Ideal S1x2048 .f32} {b3 b4 : FVec Ideal S1x1x2048 .f32}
  {b5 : FVec Ideal S1x2048x4480 .bf16} {b6 : FVec Ideal S1x2048x768 .bf16} {b7 b8 b9 : FVec Ideal S256x128 .f32}
  {x0 : FVec Ideal S2x4096x2048 .f32} {x1 : FVec Ideal S2x256x2048 .f32} {x2 : FVec Ideal S2x8x12288 .f32} {x3 : FVec Ideal S2048 .f32} {x4 : FVec Ideal S2x2048x4480 .f32}
  (hb : Blocks i n b0 b1 b2 b3 b4 b5 b6 b7 b8 b9 x0 x1 x2 x3 x4) (r : Fin 256) (R : Fin 8704) (h : R.val = n * 256 + r.val)
include hb h

/-- The hidden rows a point works on. -/
theorem hblk_apply (l : Fin 2048) : k0_pay2 (F := Ideal) i b0 b1 b2 b3 b4 (ix2 r l) = hid x0 x1 x2 x3 R l := by
  have hg : (grp R).val = (n + 14) / 16 := by
    show (R.val / 512 + 7) / 8 = _
    omega
  refine (pay2_apply _ _ _ _ _ _ r l).trans ?_
  unfold hid
  rw [show (fun l => rows i b0 b1 (ix2 r l)) = fun l => rowsArr x1 x0 (ix2 R l) from funext fun l => hb.x r l R h,
    show (fun l => b2 (ix2 0 l)) = fun l => x3 (ix1 l) from funext fun l => hb.g l,
    show (fun l => b3 (ix3 0 0 l)) = fun l : Fin 2048 => x2 (ix3 0 (grp R) ⟨2048 + l.val, by omega⟩) from funext fun l => hb.sc l _ hg,
    show (fun l => b4 (ix3 0 0 l)) = fun l : Fin 2048 => x2 (ix3 0 (grp R) ⟨l.val, by omega⟩) from funext fun l => hb.sh l _ hg]

/-- A column of the hidden rows times the weights, wherever the column is read from. -/
theorem col (w : Fin 2048 → EReal) (q : Fin 4480) (hw : ∀ l, w l = x4 (ix3 0 l q)) :
    ∑ l : Fin 2048, k0_pay2 (F := Ideal) i b0 b1 b2 b3 b4 (ix2 r l) * w l = zz x0 x1 x2 x3 x4 R q :=
  Finset.sum_congr rfl fun l _ => congrArg₂ (fun x y : EReal => x * y) (hblk_apply hb r R h l) (hw l)

theorem point10 (j : Fin 2688) : out0_10 (F := Ideal) i b0 b1 b2 b3 b4 b5 b6 b7 b8 b9 (ix2 r j) = zrOf x0 x1 x2 x3 x4 (ix2 R j) := by
  rw [out10_eq]
  refine (pay3_apply _ _ _ _ _ _ _ r j).trans (col hb r R h _ _ fun l => ?_)
  exact (ld_w _ 0 2688 inb_S1x2048x4480_S1x2048x2688_0_0_0 l j ⟨j.val, by omega⟩ (by dsimp only; omega)).trans (hb.w l _)

theorem point11 (j : Fin 512) : out0_11 (F := Ideal) i b0 b1 b2 b3 b4 b5 b6 b7 b8 b9 (ix2 r j) = zpOf x0 x1 x2 x3 x4 (ix2 R j) := by
  rw [out11_eq]
  refine (pay4_apply _ _ r j).trans (col hb r R h _ _ fun l => ?_)
  exact (ld_w _ 2688 512 inb_S1x2048x4480_S1x2048x512_0_0_2688 l j ⟨2688 + j.val, by omega⟩ rfl).trans (hb.w l _)

theorem turn_eq (z z' : Fin 128 → EReal) (j : Fin 128) (hz : ∀ j, z j = z' j) :
    turn z b7 b8 b9 r j = turnAt z' (cosArr (ix2 R j)) (sinA (ix2 R j)) (sinB (ix2 R j)) j := by
  rw [← hb.cos r j R h, ← hb.sa r j R h, ← hb.sb r j R h, show z = z' from funext hz]
  rfl

theorem point12 (g : Fin 6) (j : Fin 128) : out0_12 (F := Ideal) i b0 b1 b2 b3 b4 b5 b6 b7 b8 b9 (ix2 r ⟨128 * g.val + j.val, by omega⟩)
    = qAt x0 x1 x2 x3 x4 R g j := by
  rw [out12_eq]
  refine (qblk_apply _ _ _ _ _ r g j).trans ?_
  unfold qAt
  refine congrArg (fun x : EReal => x * _) (turn_eq hb r R h _ _ j fun j => ?_)
  exact (pay8_apply _ _ r _).trans (col hb r R h _ _ fun l => hb.wq l _)

theorem point13k (g : Fin 2) (j : Fin 128) : out0_13 (F := Ideal) i b0 b1 b2 b3 b4 b5 b6 b7 b8 b9 (ix2 r ⟨128 * g.val + j.val, by omega⟩)
    = kAt x0 x1 x2 x3 x4 R g j := by
  rw [out13_eq]
  refine (kblk_apply _ _ _ _ _ _ r g j).trans (turn_eq hb r R h _ _ j fun j => ?_)
  refine (pay15_apply _ _ r _).trans (col hb r R h _ _ fun l => ?_)
  exact (ld_w _ 3968 256 inb_S1x2048x4480_S1x2048x256_0_0_3968 l ⟨128 * g.val + j.val, by omega⟩ _ rfl).trans (hb.w l _)

theorem point13v (j : Fin 256) : out0_13 (F := Ideal) i b0 b1 b2 b3 b4 b5 b6 b7 b8 b9 (ix2 r ⟨256 + j.val, by omega⟩)
    = vAt x0 x1 x2 x3 x4 R j := by
  rw [out13_eq]
  refine (vblk_apply _ _ _ _ _ _ r j).trans ((pay16_apply _ _ r _).trans (col hb r R h _ _ fun l => ?_))
  exact (ld_w _ 4224 256 inb_S1x2048x4480_S1x2048x256_0_0_4224 l j _ rfl).trans (hb.w l _)
end

end Cert.In0Ideal.Value

end
-- ==== Proof.In0Out.lean ====
module

public import proofs.«01_k».proof.Proof.In0Point

@[expose] public section

set_option maxRecDepth 16384

noncomputable section

namespace Cert.In0Ideal.Value

open Cert.In0Ideal Cert.In0Ideal.Gen Idealize.ShloMosaic Idealize.ShloMosaic.TcCoe Idealize.SL.Sem
open Idealize.ShloMosaic.Pipeline (Dat)
open Cert.Ffn0Ideal.Value (rowsArr rowsArr_ctx rowsArr_seq)
open Cert.In0RefIdeal.Point (normed proj rot)
open Cert.In0RefIdeal.Read

/-! ## The results' elements, as the reference's -/

section
variable (x0 : FVec Ideal S2x4096x2048 .f32) (x1 : FVec Ideal S2x256x2048 .f32) (x2 : FVec Ideal S2x8x12288 .f32) (x3 : FVec Ideal S2048 .f32) (x4 : FVec Ideal S2x2048x4480 .f32)

theorem zz_seq (R : Fin 8704) (b : Fin 2) (p : Fin 4096) (q : Fin 4480) (h : R.val = 512 + (b.val * 4096 + p.val)) :
    zz x0 x1 x2 x3 x4 R q = val_main_v87 (F := Ideal) x0 x2 x3 x4 (ix3 b p q) := by
  have hg : grp R = ⟨1 + b.val, by omega⟩ := Fin.ext (by show (R.val / 512 + 7) / 8 = 1 + b.val; omega)
  rw [Cert.In0RefIdeal.Point.v87]
  unfold zz hid
  rw [hg, show (fun l => rowsArr x1 x0 (ix2 R l)) = fun l => x0 (ix3 b p l) from funext fun l => rowsArr_seq _ _ R l b p h]

theorem zz_ctx (R : Fin 8704) (b : Fin 2) (p : Fin 256) (q : Fin 4480) (h : R.val = b.val * 256 + p.val) :
    zz x0 x1 x2 x3 x4 R q = val_main_v90 (F := Ideal) x1 x2 x3 x4 (ix3 b p q) := by
  have hg : grp R = 0 := Fin.ext (by show (R.val / 512 + 7) / 8 = 0; omega)
  rw [Cert.In0RefIdeal.Point.v90]
  unfold zz hid
  rw [hg, show (fun l => rowsArr x1 x0 (ix2 R l)) = fun l => x1 (ix3 b p l) from funext fun l => rowsArr_ctx _ _ R l b p h]

/-- Turning by the tables is the rotation: a lane's partner stays inside its head. -/
theorem turn_seq (z : Fin 128 → EReal) (Z : Fin 64 → EReal) (R : Fin 8704) (j : Fin 128) (d : Fin 64) (b : Fin 2) (p : Fin 4096)
    (h : R.val = 512 + (b.val * 4096 + p.val)) (hd : d.val = j.val % 64) (hz : ∀ (d' : Fin 64) (j' : Fin 128), j'.val + d.val = j.val + d'.val → z j' = Z d') :
    turnAt z (cosArr (ix2 R j)) (sinA (ix2 R j)) (sinB (ix2 R j)) j = Z d * val_main_v26 (F := Ideal) (ix2 p d) + rot Z d * val_main_v27 (F := Ideal) (ix2 p d) := by
  unfold turnAt rot
  rw [cos_seq R j d b p h hd, hz d j rfl]
  by_cases hl : d.val % 32 < 16
  · rw [sinA_lo R j d b p h hd hl, sinB_lo R j d b p h hd hl, dif_pos hl, mul_zero, add_zero, hz ⟨d.val + 16, by omega⟩ _ (by dsimp only; omega), mul_neg, neg_mul]
  · rw [sinA_hi R j d b p h hd hl, sinB_hi R j d b p h hd hl, dif_neg hl, mul_zero, add_zero, hz ⟨d.val - 16, by omega⟩ _ (by dsimp only; omega)]

theorem turn_ctx (z : Fin 128 → EReal) (R : Fin 8704) (j : Fin 128) (h : R.val < 512) :
    turnAt z (cosArr (ix2 R j)) (sinA (ix2 R j)) (sinB (ix2 R j)) j = z j := by
  unfold turnAt
  rw [cos_ctx R j h, sinA_ctx R j h, sinB_ctx R j h, mul_one, mul_zero, mul_zero, add_zero, add_zero]

theorem perm_val (n : Fin 768) (h : Fin 12) (d : Fin 64) (e : n.val = 256 * (h.val % 3) + 64 * (h.val / 3) + d.val) : (perm n).val = 3200 + (64 * h.val + d.val) := by
  have e1 : n.val / 64 = 4 * (h.val % 3) + h.val / 3 := by omega
  have e2 : n.val % 64 = d.val := by omega
  have e3 : n.val / 256 = h.val % 3 := by omega
  show 3200 + 192 * (n.val / 64 % 4) + 64 * (n.val / 256) + n.val % 64 = _
  rw [e1, e2, e3]
  omega

theorem qAt_seq (R : Fin 8704) (b : Fin 2) (p : Fin 4096) (h : R.val = 512 + (b.val * 4096 + p.val)) (n : Fin 12) (d : Fin 64) (g : Fin 6) (j : Fin 128)
    (e : 128 * g.val + j.val = 256 * (n.val % 3) + 64 * (n.val / 3) + d.val) :
    qAt x0 x1 x2 x3 x4 R g j = val_main_v140 (F := Ideal) x0 x2 x3 x4 (ix4 b p n d) := by
  rw [Cert.In0RefIdeal.Point.v140, Cert.In0RefIdeal.Point.v99]
  refine congrArg (fun x : EReal => x * _) (turn_seq _ (fun d => val_main_v92 (F := Ideal) x0 x2 x3 x4 (ix4 b p n d)) R j d b p h (by omega) fun d' j' hj => ?_)
  exact (zz_seq x0 x1 x2 x3 x4 R b p _ h).trans (Cert.In0RefIdeal.Point.v92 x0 x2 x3 x4 b p n d' _ (perm_val _ n d' (by dsimp only; omega))).symm

theorem qAt_ctx (R : Fin 8704) (b : Fin 2) (p : Fin 256) (h : R.val = b.val * 256 + p.val) (n : Fin 12) (d : Fin 64) (g : Fin 6) (j : Fin 128)
    (e : 128 * g.val + j.val = 256 * (n.val % 3) + 64 * (n.val / 3) + d.val) :
    qAt x0 x1 x2 x3 x4 R g j = val_main_v143 (F := Ideal) x1 x2 x3 x4 (ix4 b p n d) := by
  rw [Cert.In0RefIdeal.Point.v143 x1 x2 x3 x4 b p n d (perm ⟨128 * g.val + j.val, by omega⟩) (perm_val _ n d e)]
  exact congrArg (fun x : EReal => x * _) ((turn_ctx _ R j (by omega)).trans (zz_ctx x0 x1 x2 x3 x4 R b p _ h))

theorem kAt_seq (R : Fin 8704) (b : Fin 2) (p : Fin 4096) (h : R.val = 512 + (b.val * 4096 + p.val)) (n : Fin 4) (d : Fin 64) (g : Fin 2) (j : Fin 128)
    (e : 128 * g.val + j.val = 64 * n.val + d.val) :
    kAt x0 x1 x2 x3 x4 R g j = val_main_v144 (F := Ideal) x0 x2 x3 x4 (ix4 b p n d) := by
  rw [Cert.In0RefIdeal.Point.v144, Cert.In0RefIdeal.Point.v117]
  refine turn_seq _ (fun d => val_main_v110 (F := Ideal) x0 x2 x3 x4 (ix4 b p n d)) R j d b p h (by omega) fun d' j' hj => ?_
  exact (zz_seq x0 x1 x2 x3 x4 R b p _ h).trans (Cert.In0RefIdeal.Point.v110 x0 x2 x3 x4 b p n d' _ (by dsimp only; omega)).symm

theorem kAt_ctx (R : Fin 8704) (b : Fin 2) (p : Fin 256) (h : R.val = b.val * 256 + p.val) (n : Fin 4) (d : Fin 64) (g : Fin 2) (j : Fin 128)
    (e : 128 * g.val + j.val = 64 * n.val + d.val) :
    kAt x0 x1 x2 x3 x4 R g j = val_main_v146 (F := Ideal) x1 x2 x3 x4 (ix4 b p n d) := by
  rw [Cert.In0RefIdeal.Point.v146 x1 x2 x3 x4 b p n d ⟨3968 + (128 * g.val + j.val), by omega⟩ (by dsimp only; omega)]
  exact (turn_ctx _ R j (by omega)).trans (zz_ctx x0 x1 x2 x3 x4 R b p _ h)

theorem kvOf_k (R : Fin 8704) (n : Fin 512) (g : Fin 2) (j : Fin 128) (e : n.val = 128 * g.val + j.val) : kvOf x0 x1 x2 x3 x4 (ix2 R n) = kAt x0 x1 x2 x3 x4 R g j := by
  have hn : ((ix2 R n : S8704x512.Idx) 1).val < 256 := by show n.val < 256; omega
  refine (dif_pos hn).trans ?_
  exact congrArg₂ (fun g j => kAt x0 x1 x2 x3 x4 R g j) (Fin.ext (by show n.val / 128 = _; omega)) (Fin.ext (by show n.val % 128 = _; omega))
theorem kvOf_v (R : Fin 8704) (n : Fin 512) (j : Fin 256) (e : n.val = 256 + j.val) : kvOf x0 x1 x2 x3 x4 (ix2 R n) = vAt x0 x1 x2 x3 x4 R j := by
  have hn : ¬ ((ix2 R n : S8704x512.Idx) 1).val < 256 := by show ¬ n.val < 256; omega
  refine (dif_neg hn).trans ?_
  exact congrArg (fun j => vAt x0 x1 x2 x3 x4 R j) (Fin.ext (by show n.val - 256 = _; omega))
theorem qOf_eq (R : Fin 8704) (n : Fin 768) (g : Fin 6) (j : Fin 128) (e : n.val = 128 * g.val + j.val) : qOf x0 x1 x2 x3 x4 (ix2 R n) = qAt x0 x1 x2 x3 x4 R g j := by
  exact congrArg₂ (fun g j => qAt x0 x1 x2 x3 x4 R g j) (Fin.ext (by show n.val / 128 = _; omega)) (Fin.ext (by show n.val % 128 = _; omega))
end

section
variable {i : grid0.Coords} {n : ℕ} {b0 b1 : FVec Ideal S256x2048 .f32} {b2 : FVec Ideal S1x2048 .f32} {b3 b4 : FVec Ideal S1x1x2048 .f32}
  {b5 : FVec Ideal S1x2048x4480 .bf16} {b6 : FVec Ideal S1x2048x768 .bf16} {b7 b8 b9 : FVec Ideal S256x128 .f32}
  {x0 : FVec Ideal S2x4096x2048 .f32} {x1 : FVec Ideal S2x256x2048 .f32} {x2 : FVec Ideal S2x8x12288 .f32} {x3 : FVec Ideal S2048 .f32} {x4 : FVec Ideal S2x2048x4480 .f32}
  (hb : Blocks i n b0 b1 b2 b3 b4 b5 b6 b7 b8 b9 x0 x1 x2 x3 x4) (r : Fin 256) (R : Fin 8704) (h : R.val = n * 256 + r.val)
include hb h

theorem at12 (d : Fin 768) : out0_12 (F := Ideal) i b0 b1 b2 b3 b4 b5 b6 b7 b8 b9 (ix2 r d) = qOf x0 x1 x2 x3 x4 (ix2 R d) := by
  obtain ⟨g, j, rfl⟩ : ∃ (g : Fin 6) (j : Fin 128), d = ⟨128 * g.val + j.val, by omega⟩ := ⟨⟨d.val / 128, by omega⟩, ⟨d.val % 128, by omega⟩, Fin.ext (by dsimp only; omega)⟩
  rw [qOf_eq _ _ _ _ _ R _ g j rfl]
  exact point12 hb r R h g j

theorem at13 (d : Fin 512) : out0_13 (F := Ideal) i b0 b1 b2 b3 b4 b5 b6 b7 b8 b9 (ix2 r d) = kvOf x0 x1 x2 x3 x4 (ix2 R d) := by
  by_cases hd : d.val < 256
  · obtain ⟨g, j, rfl⟩ : ∃ (g : Fin 2) (j : Fin 128), d = ⟨128 * g.val + j.val, by clear hd; omega⟩ := ⟨⟨d.val / 128, by omega⟩, ⟨d.val % 128, by omega⟩, Fin.ext (by dsimp only; omega)⟩
    rw [kvOf_k _ _ _ _ _ R _ g j rfl]
    exact point13k hb r R h g j
  · obtain ⟨j, rfl⟩ : ∃ (j : Fin 256), d = ⟨256 + j.val, by clear hd; omega⟩ := ⟨⟨d.val - 256, by omega⟩, Fin.ext (by dsimp only; omega)⟩
    rw [kvOf_v _ _ _ _ _ R _ j rfl]
    exact point13v hb r R h j
end

/-! ## The host code behind the launch -/

def zrSeq (x : FVec Ideal S8704x2688 .f32) : FVec Ideal S2x4096x2688 .f32 :=
  shapeCast S2x4096x2688 (extractStridedSlice S8192x2688 ![512, 0] x slices_S8704x2688_S8192x2688_512_0) shapeCasts_S8192x2688_S2x4096x2688
def zrCtx (x : FVec Ideal S8704x2688 .f32) : FVec Ideal S2x256x2688 .f32 :=
  shapeCast S2x256x2688 (extractStridedSlice S512x2688 ![0, 0] x slices_S8704x2688_S512x2688_0_0) shapeCasts_S512x2688_S2x256x2688
def zpSeq (x : FVec Ideal S8704x512 .f32) : FVec Ideal S2x4096x512 .f32 :=
  shapeCast S2x4096x512 (extractStridedSlice S8192x512 ![512, 0] x slices_S8704x512_S8192x512_512_0) shapeCasts_S8192x512_S2x4096x512
def qSeq (x : FVec Ideal S8704x768 .bf16) : FVec Ideal S2x4096x12x64 .bf16 :=
  shapeCast S2x4096x12x64 (transpose S2x4096x4x3x64 [0, 1, 3, 2, 4] (shapeCast S2x4096x3x4x64 (extractStridedSlice S8192x768 ![512, 0] x slices_S8704x768_S8192x768_512_0)
    shapeCasts_S8192x768_S2x4096x3x4x64) transposes_S2x4096x3x4x64_S2x4096x4x3x64_0_1_3_2_4) shapeCasts_S2x4096x4x3x64_S2x4096x12x64
def qCtx (x : FVec Ideal S8704x768 .bf16) : FVec Ideal S2x256x12x64 .bf16 :=
  shapeCast S2x256x12x64 (transpose S2x256x4x3x64 [0, 1, 3, 2, 4] (shapeCast S2x256x3x4x64 (extractStridedSlice S512x768 ![0, 0] x slices_S8704x768_S512x768_0_0)
    shapeCasts_S512x768_S2x256x3x4x64) transposes_S2x256x3x4x64_S2x256x4x3x64_0_1_3_2_4) shapeCasts_S2x256x4x3x64_S2x256x12x64
def kPart (x : FVec Ideal S8704x512 .bf16) : FVec Ideal S8704x256 .bf16 := extractStridedSlice S8704x256 ![0, 0] x slices_S8704x512_S8704x256_0_0
def vPart (x : FVec Ideal S8704x512 .bf16) : FVec Ideal S8704x256 .bf16 := extractStridedSlice S8704x256 ![0, 256] x slices_S8704x512_S8704x256_0_256
def hSeq (x : FVec Ideal S8704x256 .bf16) : FVec Ideal S2x4096x4x64 .bf16 :=
  shapeCast S2x4096x4x64 (extractStridedSlice S8192x256 ![512, 0] x slices_S8704x256_S8192x256_512_0) shapeCasts_S8192x256_S2x4096x4x64
def hCtx (x : FVec Ideal S8704x256 .bf16) : FVec Ideal S2x256x4x64 .bf16 :=
  shapeCast S2x256x4x64 (extractStridedSlice S512x256 ![0, 0] x slices_S8704x256_S512x256_0_0) shapeCasts_S512x256_S2x256x4x64

theorem zrSeq_apply (x : FVec Ideal S8704x2688 .f32) (b : Fin 2) (p : Fin 4096) (d : Fin 2688) : zrSeq x (ix3 b p d) = x (ix2 ⟨512 + (b.val * 4096 + p.val), by omega⟩ d) := by
  pointwise [zrSeq]
  blk_ext
theorem zrCtx_apply (x : FVec Ideal S8704x2688 .f32) (b : Fin 2) (p : Fin 256) (d : Fin 2688) : zrCtx x (ix3 b p d) = x (ix2 ⟨b.val * 256 + p.val, by omega⟩ d) := by
  pointwise [zrCtx]
  blk_ext
theorem zpSeq_apply (x : FVec Ideal S8704x512 .f32) (b : Fin 2) (p : Fin 4096) (d : Fin 512) : zpSeq x (ix3 b p d) = x (ix2 ⟨512 + (b.val * 4096 + p.val), by omega⟩ d) := by
  pointwise [zpSeq]
  blk_ext
theorem hSeq_apply (x : FVec Ideal S8704x256 .bf16) (b : Fin 2) (p : Fin 4096) (n : Fin 4) (d : Fin 64) : hSeq x (ix4 b p n d) = x (ix2 ⟨512 + (b.val * 4096 + p.val), by omega⟩ ⟨64 * n.val + d.val, by omega⟩) := by
  pointwise [hSeq]
  blk_ext
theorem hCtx_apply (x : FVec Ideal S8704x256 .bf16) (b : Fin 2) (p : Fin 256) (n : Fin 4) (d : Fin 64) : hCtx x (ix4 b p n d) = x (ix2 ⟨b.val * 256 + p.val, by omega⟩ ⟨64 * n.val + d.val, by omega⟩) := by
  pointwise [hCtx]
  blk_ext
theorem kPart_apply (x : FVec Ideal S8704x512 .bf16) (R : Fin 8704) (j : Fin 256) : kPart x (ix2 R j) = x (ix2 R ⟨j.val, by omega⟩) := by
  pointwise [kPart]
theorem vPart_apply (x : FVec Ideal S8704x512 .bf16) (R : Fin 8704) (j : Fin 256) : vPart x (ix2 R j) = x (ix2 R ⟨256 + j.val, by omega⟩) := by
  pointwise [vPart]
theorem qSeq_apply (x : FVec Ideal S8704x768 .bf16) (b : Fin 2) (p : Fin 4096) (n : Fin 12) (d : Fin 64) :
    qSeq x (ix4 b p n d) = x (ix2 ⟨512 + (b.val * 4096 + p.val), by omega⟩ ⟨256 * (n.val % 3) + 64 * (n.val / 3) + d.val, by omega⟩) := by
  pointwise [qSeq]
  blk_ext
theorem qCtx_apply (x : FVec Ideal S8704x768 .bf16) (b : Fin 2) (p : Fin 256) (n : Fin 12) (d : Fin 64) :
    qCtx x (ix4 b p n d) = x (ix2 ⟨b.val * 256 + p.val, by omega⟩ ⟨256 * (n.val % 3) + 64 * (n.val / 3) + d.val, by omega⟩) := by
  pointwise [qCtx]
  blk_ext

end Cert.In0Ideal.Value

end
-- ==== Proof.In0Results.lean ====
module

public import proofs.«01_k».proof.Proof.In0Out

@[expose] public section

set_option maxRecDepth 16384

noncomputable section

namespace Cert.In0Ideal.Value

open Cert.In0Ideal Cert.In0Ideal.Gen Idealize.ShloMosaic Idealize.ShloMosaic.TcCoe Idealize.SL.Sem
open Idealize.ShloMosaic.Pipeline (Dat)
open Cert.Ffn0Ideal.Value (rowsArr rowsArr_ctx rowsArr_seq)
open Cert.In0RefIdeal.Point (normed proj rot)
open Cert.In0RefIdeal.Read

/-! ## The results, as the reference's -/

section
variable (x0 : FVec Ideal S2x4096x2048 .f32) (x1 : FVec Ideal S2x256x2048 .f32) (x2 : FVec Ideal S2x8x12288 .f32) (x3 : FVec Ideal S2048 .f32) (x4 : FVec Ideal S2x2048x4480 .f32)

theorem res135 : zrSeq (zrOf x0 x1 x2 x3 x4) = val_main_v135 (F := Ideal) x0 x2 x3 x4 := by
  funext y
  obtain ⟨b, p, d, rfl⟩ : ∃ (b : Fin 2) (p : Fin 4096) (d : Fin 2688), y = ix3 b p d := ⟨y 0, y 1, y 2, eq_ix3 y⟩
  rw [zrSeq_apply, Cert.In0RefIdeal.Point.v135 x0 x2 x3 x4 b p d ⟨d.val, by omega⟩ rfl]
  exact zz_seq x0 x1 x2 x3 x4 _ b p _ rfl
theorem res136 : zrCtx (zrOf x0 x1 x2 x3 x4) = val_main_v136 (F := Ideal) x1 x2 x3 x4 := by
  funext y
  obtain ⟨b, p, d, rfl⟩ : ∃ (b : Fin 2) (p : Fin 256) (d : Fin 2688), y = ix3 b p d := ⟨y 0, y 1, y 2, eq_ix3 y⟩
  rw [zrCtx_apply, Cert.In0RefIdeal.Point.v136 x1 x2 x3 x4 b p d ⟨d.val, by omega⟩ rfl]
  exact zz_ctx x0 x1 x2 x3 x4 _ b p _ rfl
theorem res137 : zpSeq (zpOf x0 x1 x2 x3 x4) = val_main_v137 (F := Ideal) x0 x2 x3 x4 := by
  funext y
  obtain ⟨b, p, d, rfl⟩ : ∃ (b : Fin 2) (p : Fin 4096) (d : Fin 512), y = ix3 b p d := ⟨y 0, y 1, y 2, eq_ix3 y⟩
  rw [zpSeq_apply, Cert.In0RefIdeal.Point.v137 x0 x2 x3 x4 b p d ⟨2688 + d.val, by omega⟩ rfl]
  exact zz_seq x0 x1 x2 x3 x4 _ b p _ rfl
theorem res140 : qSeq (qOf x0 x1 x2 x3 x4) = val_main_v140 (F := Ideal) x0 x2 x3 x4 := by
  funext y
  obtain ⟨b, p, n, d, rfl⟩ : ∃ (b : Fin 2) (p : Fin 4096) (n : Fin 12) (d : Fin 64), y = ix4 b p n d := ⟨y 0, y 1, y 2, y 3, eq_ix4 y⟩
  rw [qSeq_apply, qOf_eq _ _ _ _ _ _ _ ⟨(256 * (n.val % 3) + 64 * (n.val / 3) + d.val) / 128, by omega⟩ ⟨(256 * (n.val % 3) + 64 * (n.val / 3) + d.val) % 128, by omega⟩ (by dsimp only; omega)]
  exact qAt_seq x0 x1 x2 x3 x4 _ b p rfl n d _ _ (by dsimp only; omega)
theorem res143 : qCtx (qOf x0 x1 x2 x3 x4) = val_main_v143 (F := Ideal) x1 x2 x3 x4 := by
  funext y
  obtain ⟨b, p, n, d, rfl⟩ : ∃ (b : Fin 2) (p : Fin 256) (n : Fin 12) (d : Fin 64), y = ix4 b p n d := ⟨y 0, y 1, y 2, y 3, eq_ix4 y⟩
  rw [qCtx_apply, qOf_eq _ _ _ _ _ _ _ ⟨(256 * (n.val % 3) + 64 * (n.val / 3) + d.val) / 128, by omega⟩ ⟨(256 * (n.val % 3) + 64 * (n.val / 3) + d.val) % 128, by omega⟩ (by dsimp only; omega)]
  exact qAt_ctx x0 x1 x2 x3 x4 _ b p rfl n d _ _ (by dsimp only; omega)
theorem res144 : hSeq (kPart (kvOf x0 x1 x2 x3 x4)) = val_main_v144 (F := Ideal) x0 x2 x3 x4 := by
  funext y
  obtain ⟨b, p, n, d, rfl⟩ : ∃ (b : Fin 2) (p : Fin 4096) (n : Fin 4) (d : Fin 64), y = ix4 b p n d := ⟨y 0, y 1, y 2, y 3, eq_ix4 y⟩
  rw [hSeq_apply, kPart_apply, kvOf_k _ _ _ _ _ _ _ ⟨(64 * n.val + d.val) / 128, by omega⟩ ⟨(64 * n.val + d.val) % 128, by omega⟩ (by dsimp only; omega)]
  exact kAt_seq x0 x1 x2 x3 x4 _ b p rfl n d _ _ (by dsimp only; omega)
theorem res145 : hSeq (vPart (kvOf x0 x1 x2 x3 x4)) = val_main_v145 (F := Ideal) x0 x2 x3 x4 := by
  funext y
  obtain ⟨b, p, n, d, rfl⟩ : ∃ (b : Fin 2) (p : Fin 4096) (n : Fin 4) (d : Fin 64), y = ix4 b p n d := ⟨y 0, y 1, y 2, y 3, eq_ix4 y⟩
  rw [hSeq_apply, vPart_apply, kvOf_v _ _ _ _ _ _ _ ⟨64 * n.val + d.val, by omega⟩ rfl, Cert.In0RefIdeal.Point.v145 x0 x2 x3 x4 b p n d ⟨4224 + (64 * n.val + d.val), by omega⟩ rfl]
  exact zz_seq x0 x1 x2 x3 x4 _ b p _ rfl
theorem res146 : hCtx (kPart (kvOf x0 x1 x2 x3 x4)) = val_main_v146 (F := Ideal) x1 x2 x3 x4 := by
  funext y
  obtain ⟨b, p, n, d, rfl⟩ : ∃ (b : Fin 2) (p : Fin 256) (n : Fin 4) (d : Fin 64), y = ix4 b p n d := ⟨y 0, y 1, y 2, y 3, eq_ix4 y⟩
  rw [hCtx_apply, kPart_apply, kvOf_k _ _ _ _ _ _ _ ⟨(64 * n.val + d.val) / 128, by omega⟩ ⟨(64 * n.val + d.val) % 128, by omega⟩ (by dsimp only; omega)]
  exact kAt_ctx x0 x1 x2 x3 x4 _ b p rfl n d _ _ (by dsimp only; omega)
theorem res147 : hCtx (vPart (kvOf x0 x1 x2 x3 x4)) = val_main_v147 (F := Ideal) x1 x2 x3 x4 := by
  funext y
  obtain ⟨b, p, n, d, rfl⟩ : ∃ (b : Fin 2) (p : Fin 256) (n : Fin 4) (d : Fin 64), y = ix4 b p n d := ⟨y 0, y 1, y 2, y 3, eq_ix4 y⟩
  rw [hCtx_apply, vPart_apply, kvOf_v _ _ _ _ _ _ _ ⟨64 * n.val + d.val, by omega⟩ rfl, Cert.In0RefIdeal.Point.v147 x1 x2 x3 x4 b p n d ⟨4224 + (64 * n.val + d.val), by omega⟩ rfl]
  exact zz_ctx x0 x1 x2 x3 x4 _ b p _ rfl
end

end Cert.In0Ideal.Value

end
-- ==== Proof.In0Value.lean ====
module

public import proofs.«01_k».proof.Proof.In0Results

@[expose] public section

set_option maxRecDepth 16384

noncomputable section

namespace Cert.In0Ideal.Value

open Cert.In0Ideal Cert.In0Ideal.Gen Idealize.ShloMosaic Idealize.ShloMosaic.TcCoe Idealize.SL.Sem
open Idealize.ShloMosaic.Pipeline (Dat)
open Cert.Ffn0Ideal.Value (rowsArr rowsArr_ctx rowsArr_seq)
open Cert.In0RefIdeal.Point (normed proj rot)
open Cert.In0RefIdeal.Read

variable (m : (ℓ : Loc nD τ sig) → Buf (Elt Ideal) ℓ)

/-! ## The launch's results -/

theorem final10 (c : Dev nD) : (dats m 0 c).arrAt 10 (cfgs 0).N = zrOf (A0 m c) (A1 m c) (A2 m c) (A3 m c) (A4 m c) := by
  refine (dats m 0 c).arrAt_eq_of_covers 10 _ (by decide +kernel) fun t hf y => ?_
  blk_simp
  rw [after0_10]
  have ht : t.val < 34 := lt_of_lt_of_eq t.isLt N_0
  obtain ⟨r, d, rfl⟩ : ∃ (r : Fin 256) (d : Fin 2688), y = ix2 r d := ⟨y 0, y 1, eq_ix2 y⟩
  obtain ⟨R, hR⟩ : ∃ R : Fin 8704, R.val = t.val * 256 + r.val := ⟨⟨t.val * 256 + r.val, by omega⟩, rfl⟩
  rw [point10 (blocks m c t) r R hR d]
  blk_ext [idx_val t]

theorem final11 (c : Dev nD) : (dats m 0 c).arrAt 11 (cfgs 0).N = zpOf (A0 m c) (A1 m c) (A2 m c) (A3 m c) (A4 m c) := by
  refine (dats m 0 c).arrAt_eq_of_covers 11 _ (by decide +kernel) fun t hf y => ?_
  blk_simp
  rw [after0_11]
  have ht : t.val < 34 := lt_of_lt_of_eq t.isLt N_0
  obtain ⟨r, d, rfl⟩ : ∃ (r : Fin 256) (d : Fin 512), y = ix2 r d := ⟨y 0, y 1, eq_ix2 y⟩
  obtain ⟨R, hR⟩ : ∃ R : Fin 8704, R.val = t.val * 256 + r.val := ⟨⟨t.val * 256 + r.val, by omega⟩, rfl⟩
  rw [point11 (blocks m c t) r R hR d]
  blk_ext [idx_val t]

theorem final12 (c : Dev nD) : (dats m 0 c).arrAt 12 (cfgs 0).N = qOf (A0 m c) (A1 m c) (A2 m c) (A3 m c) (A4 m c) := by
  refine (dats m 0 c).arrAt_eq_of_covers 12 _ (by decide +kernel) fun t hf y => ?_
  blk_simp
  rw [after0_12]
  have ht : t.val < 34 := lt_of_lt_of_eq t.isLt N_0
  obtain ⟨r, d, rfl⟩ : ∃ (r : Fin 256) (d : Fin 768), y = ix2 r d := ⟨y 0, y 1, eq_ix2 y⟩
  obtain ⟨R, hR⟩ : ∃ R : Fin 8704, R.val = t.val * 256 + r.val := ⟨⟨t.val * 256 + r.val, by omega⟩, rfl⟩
  rw [at12 (blocks m c t) r R hR d]
  blk_ext [idx_val t]

theorem final13 (c : Dev nD) : (dats m 0 c).arrAt 13 (cfgs 0).N = kvOf (A0 m c) (A1 m c) (A2 m c) (A3 m c) (A4 m c) := by
  refine (dats m 0 c).arrAt_eq_of_covers 13 _ (by decide +kernel) fun t hf y => ?_
  blk_simp
  rw [after0_13]
  have ht : t.val < 34 := lt_of_lt_of_eq t.isLt N_0
  obtain ⟨r, d, rfl⟩ : ∃ (r : Fin 256) (d : Fin 512), y = ix2 r d := ⟨y 0, y 1, eq_ix2 y⟩
  obtain ⟨R, hR⟩ : ∃ R : Fin 8704, R.val = t.val * 256 + r.val := ⟨⟨t.val * 256 + r.val, by omega⟩, rfl⟩
  rw [at13 (blocks m c t) r R hR d]
  blk_ext [idx_val t]

/-! ## The results -/

theorem tail77 (c : Dev nD) : Pipeline.afterTail₀ cfgs (dats m) 0 (V0 m) [hostOps1] c main_v77 = val_main_v135 (F := Ideal) (A0 m c) (A2 m c) (A3 m c) (A4 m c) := by
  refine Eq.trans ?_ (res135 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 10]
  rw [final10 m c]
  rfl

theorem tail79 (c : Dev nD) : Pipeline.afterTail₀ cfgs (dats m) 0 (V0 m) [hostOps1] c main_v79 = val_main_v136 (F := Ideal) (A1 m c) (A2 m c) (A3 m c) (A4 m c) := by
  refine Eq.trans ?_ (res136 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 10]
  rw [final10 m c]
  rfl

theorem tail81 (c : Dev nD) : Pipeline.afterTail₀ cfgs (dats m) 0 (V0 m) [hostOps1] c main_v81 = val_main_v137 (F := Ideal) (A0 m c) (A2 m c) (A3 m c) (A4 m c) := by
  refine Eq.trans ?_ (res137 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 11]
  rw [final11 m c]
  rfl

theorem tail85 (c : Dev nD) : Pipeline.afterTail₀ cfgs (dats m) 0 (V0 m) [hostOps1] c main_v85 = val_main_v140 (F := Ideal) (A0 m c) (A2 m c) (A3 m c) (A4 m c) := by
  refine Eq.trans ?_ (res140 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 12]
  rw [final12 m c]
  rfl

theorem tail89 (c : Dev nD) : Pipeline.afterTail₀ cfgs (dats m) 0 (V0 m) [hostOps1] c main_v89 = val_main_v143 (F := Ideal) (A1 m c) (A2 m c) (A3 m c) (A4 m c) := by
  refine Eq.trans ?_ (res143 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 12]
  rw [final12 m c]
  rfl

theorem tail91 (c : Dev nD) : Pipeline.afterTail₀ cfgs (dats m) 0 (V0 m) [hostOps1] c main_v91 = val_main_v144 (F := Ideal) (A0 m c) (A2 m c) (A3 m c) (A4 m c) := by
  refine Eq.trans ?_ (res144 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail93 (c : Dev nD) : Pipeline.afterTail₀ cfgs (dats m) 0 (V0 m) [hostOps1] c main_v93 = val_main_v145 (F := Ideal) (A0 m c) (A2 m c) (A3 m c) (A4 m c) := by
  refine Eq.trans ?_ (res145 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail95 (c : Dev nD) : Pipeline.afterTail₀ cfgs (dats m) 0 (V0 m) [hostOps1] c main_v95 = val_main_v146 (F := Ideal) (A1 m c) (A2 m c) (A3 m c) (A4 m c) := by
  refine Eq.trans ?_ (res146 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail97 (c : Dev nD) : Pipeline.afterTail₀ cfgs (dats m) 0 (V0 m) [hostOps1] c main_v97 = val_main_v147 (F := Ideal) (A1 m c) (A2 m c) (A3 m c) (A4 m c) := by
  refine Eq.trans ?_ (res147 (A0 m c) (A1 m c) (A2 m c) (A3 m c) (A4 m c))
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

/-- The kernel's run: the results end at the reference's terms of the arguments, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v77) = val_main_v135 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v79) = val_main_v136 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v81) = val_main_v137 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v85) = val_main_v140 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v89) = val_main_v143 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v91) = val_main_v144 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v93) = val_main_v145 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v95) = val_main_v146 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v97) = val_main_v147 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).2 main_v77 (Pipeline.mem_restRefs_of main_v77 (by decide) (by decide))).trans (tail77 m c),
    ((h c).2 main_v79 (Pipeline.mem_restRefs_of main_v79 (by decide) (by decide))).trans (tail79 m c),
    ((h c).2 main_v81 (Pipeline.mem_restRefs_of main_v81 (by decide) (by decide))).trans (tail81 m c),
    ((h c).2 main_v85 (Pipeline.mem_restRefs_of main_v85 (by decide) (by decide))).trans (tail85 m c),
    ((h c).2 main_v89 (Pipeline.mem_restRefs_of main_v89 (by decide) (by decide))).trans (tail89 m c),
    ((h c).2 main_v91 (Pipeline.mem_restRefs_of main_v91 (by decide) (by decide))).trans (tail91 m c),
    ((h c).2 main_v93 (Pipeline.mem_restRefs_of main_v93 (by decide) (by decide))).trans (tail93 m c),
    ((h c).2 main_v95 (Pipeline.mem_restRefs_of main_v95 (by decide) (by decide))).trans (tail95 m c),
    ((h c).2 main_v97 (Pipeline.mem_restRefs_of main_v97 (by decide) (by decide))).trans (tail97 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.In0Ideal.Value

end
-- ==== Proof.In0Claims.lean ====
module

public import proofs.«01_k».proof.Defs
public import proofs.«01_k».proof.Proof.Gen.In0
public import proofs.«01_k».proof.Proof.In0Value
public import proofs.«01_k».proof.Proof.Gen.In0RefIdeal.Run
public import Idealize.ShloMosaic.Adequacy
public import Idealize.ShloMosaic.Init

@[expose] public section

set_option maxRecDepth 16384

noncomputable section

namespace Cert.In0Claims

open Idealize.ShloMosaic Idealize.SL.Sem

theorem defs₀_eq : Cert.In0.defs₀ (F := Bits) = Cert.In0Ideal.defs₀ (F := Bits) := by
  refine congrArg Defs.onTc (funext fun l => ?_)
  obtain ⟨n, h⟩ := l
  cases n with
  | zero => rfl
  | succ n => exact absurd h (by omega)
theorem defs_eq : Cert.In0.defs (F := Bits) = Cert.In0Ideal.defs (F := Bits) := congrArg (Pipeline.defs _) defs₀_eq
set_option maxHeartbeats 8000000 in
theorem part0_eq : Cert.In0.main_part0 (F := Bits) = Cert.In0Ideal.main_part0 (F := Bits) := rfl
set_option maxHeartbeats 8000000 in
theorem part1_eq : Cert.In0.main_part1 (F := Bits) = Cert.In0Ideal.main_part1 (F := Bits) := rfl
theorem main_eq : Cert.In0.main (F := Bits) = Cert.In0Ideal.main (F := Bits) := by
  unfold Cert.In0.main Cert.In0Ideal.main
  rw [part0_eq, part1_eq]
  rfl
/-- The program before idealizing is the same program: the frame is the idealized one's, at the bits. -/
theorem frame : Cert.quiescent_In0 := fun m ρ _ => by
  rw [defs_eq, main_eq]
  exact Cert.In0Ideal.Gen.frame (F := Bits) m ρ

theorem frame_ideal : Cert.quiescent_In0Ideal := fun m ρ _ => Cert.In0Ideal.Gen.frame m ρ

theorem frame_ref : Cert.quiescent_In0RefIdeal := fun m ρ _ =>
  (θ_run Cert.In0RefIdeal.defs _ _).mono (fun r h => ⟨fun c => (h c).2.2.2.2.2.2.2.2.2, sem_eq_zero_of_no_sems (by decide) r.2⟩)
    (Cert.In0RefIdeal.Value.run (F := Ideal) m ρ)

theorem preserves : Cert.preserves_In0_In0Ideal := trivial

/-- Both programs end at the reference's terms of the arguments. -/
theorem algebraic : Cert.algebraic_In0Ideal_In0RefIdeal := fun m ρ m' ρ' _ hag =>
  ⟨fun c => Cert.In0RefIdeal.Read.val_main_v135 (F := Ideal) (m' ((c.tc : Thread Cert.In0RefIdeal.nD Cert.In0RefIdeal.τ).loc Cert.In0RefIdeal.main_arg0)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v136 (F := Ideal) (m' ((c.tc : Thread Cert.In0RefIdeal.nD Cert.In0RefIdeal.τ).loc Cert.In0RefIdeal.main_arg1)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v137 (F := Ideal) (m' ((c.tc : Thread Cert.In0RefIdeal.nD Cert.In0RefIdeal.τ).loc Cert.In0RefIdeal.main_arg0)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v140 (F := Ideal) (m' ((c.tc : Thread Cert.In0RefIdeal.nD Cert.In0RefIdeal.τ).loc Cert.In0RefIdeal.main_arg0)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v143 (F := Ideal) (m' ((c.tc : Thread Cert.In0RefIdeal.nD Cert.In0RefIdeal.τ).loc Cert.In0RefIdeal.main_arg1)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v144 (F := Ideal) (m' ((c.tc : Thread Cert.In0RefIdeal.nD Cert.In0RefIdeal.τ).loc Cert.In0RefIdeal.main_arg0)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v145 (F := Ideal) (m' ((c.tc : Thread Cert.In0RefIdeal.nD Cert.In0RefIdeal.τ).loc Cert.In0RefIdeal.main_arg0)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v146 (F := Ideal) (m' ((c.tc : Thread Cert.In0RefIdeal.nD Cert.In0RefIdeal.τ).loc Cert.In0RefIdeal.main_arg1)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    fun c => Cert.In0RefIdeal.Read.val_main_v147 (F := Ideal) (m' ((c.tc : Thread Cert.In0RefIdeal.nD Cert.In0RefIdeal.τ).loc Cert.In0RefIdeal.main_arg1)) (m' ((c.tc : Thread Cert.In0RefIdeal.nD Cert.In0RefIdeal.τ).loc Cert.In0RefIdeal.main_arg2)) (m' ((c.tc : Thread Cert.In0RefIdeal.nD Cert.In0RefIdeal.τ).loc Cert.In0RefIdeal.main_arg3)) (m' ((c.tc : Thread Cert.In0RefIdeal.nD Cert.In0RefIdeal.τ).loc Cert.In0RefIdeal.main_arg4)),
    (θ_run Cert.In0Ideal.defs _ _).mono (fun r h c => ⟨(h c).1.trans (by
          dsimp only
          rw [(hag c).1, (hag c).2.2.1, (hag c).2.2.2.1, (hag c).2.2.2.2]),
        (h c).2.1.trans (by
          dsimp only
          rw [(hag c).2.1, (hag c).2.2.1, (hag c).2.2.2.1, (hag c).2.2.2.2]),
        (h c).2.2.1.trans (by
          dsimp only
          rw [(hag c).1, (hag c).2.2.1, (hag c).2.2.2.1, (hag c).2.2.2.2]),
        (h c).2.2.2.1.trans (by
          dsimp only
          rw [(hag c).1, (hag c).2.2.1, (hag c).2.2.2.1, (hag c).2.2.2.2]),
        (h c).2.2.2.2.1.trans (by
          dsimp only
          rw [(hag c).2.1, (hag c).2.2.1, (hag c).2.2.2.1, (hag c).2.2.2.2]),
        (h c).2.2.2.2.2.1.trans (by
          dsimp only
          rw [(hag c).1, (hag c).2.2.1, (hag c).2.2.2.1, (hag c).2.2.2.2]),
        (h c).2.2.2.2.2.2.1.trans (by
          dsimp only
          rw [(hag c).1, (hag c).2.2.1, (hag c).2.2.2.1, (hag c).2.2.2.2]),
        (h c).2.2.2.2.2.2.2.1.trans (by
          dsimp only
          rw [(hag c).2.1, (hag c).2.2.1, (hag c).2.2.2.1, (hag c).2.2.2.2]),
        (h c).2.2.2.2.2.2.2.2.1.trans (by
          dsimp only
          rw [(hag c).2.1, (hag c).2.2.1, (hag c).2.2.2.1, (hag c).2.2.2.2]),
        (h c).2.2.2.2.2.2.2.2.2⟩)
      (Cert.In0Ideal.Value.run m ρ),
    (θ_run Cert.In0RefIdeal.defs _ _).mono (fun r h c => ⟨(h c).1.trans (Cert.In0RefIdeal.Read.val_main_v135_eq (F := Ideal) ..),
        (h c).2.1.trans (Cert.In0RefIdeal.Read.val_main_v136_eq (F := Ideal) ..),
        (h c).2.2.1.trans (Cert.In0RefIdeal.Read.val_main_v137_eq (F := Ideal) ..),
        (h c).2.2.2.1.trans (Cert.In0RefIdeal.Read.val_main_v140_eq (F := Ideal) ..),
        (h c).2.2.2.2.1.trans (Cert.In0RefIdeal.Read.val_main_v143_eq (F := Ideal) ..),
        (h c).2.2.2.2.2.1.trans (Cert.In0RefIdeal.Read.val_main_v144_eq (F := Ideal) ..),
        (h c).2.2.2.2.2.2.1.trans (Cert.In0RefIdeal.Read.val_main_v145_eq (F := Ideal) ..),
        (h c).2.2.2.2.2.2.2.1.trans (Cert.In0RefIdeal.Read.val_main_v146_eq (F := Ideal) ..),
        (h c).2.2.2.2.2.2.2.2.1.trans (Cert.In0RefIdeal.Read.val_main_v147_eq (F := Ideal) ..),
        (h c).2.2.2.2.2.2.2.2.2⟩)
      (Cert.In0RefIdeal.Value.run (F := Ideal) m' ρ')⟩

end Cert.In0Claims

end
-- ==== Proof.In1Ref.lean ====
module

public import proofs.«01_k».proof.Proof.In0Ref
public import proofs.«01_k».proof.Proof.Gen.In1RefIdeal.Read

@[expose] public section

set_option maxRecDepth 16384

noncomputable section

namespace Cert.In1RefIdeal.Point

open Cert.In1RefIdeal Cert.In1RefIdeal.Read Idealize.ShloMosaic Idealize.ShloMosaic.ValueKit

/-! The last layer's projection is the first layer's, at the arguments with their layers exchanged. -/

def mods (a : FVec Ideal S2x8x12288 .f32) : FVec Ideal S2x8x12288 .f32 := fun i => a (ix3 ⟨1 - (i 0).val, by omega⟩ (i 1) (i 2))
def wts (a : FVec Ideal S2x2048x4480 .f32) : FVec Ideal S2x2048x4480 .f32 := fun i => a (ix3 ⟨1 - (i 0).val, by omega⟩ (i 1) (i 2))

section
variable (x0 : FVec Ideal S2x4096x2048 .f32) (x1 : FVec Ideal S2x256x2048 .f32) (x2 : FVec Ideal S2x8x12288 .f32) (x3 : FVec Ideal S2048 .f32) (x4 : FVec Ideal S2x2048x4480 .f32)

theorem v28 : val_main_v28 (F := Ideal) x2 = In0RefIdeal.Read.val_main_v28 (F := Ideal) (mods x2) := by
  funext y
  obtain ⟨a, b, d, rfl⟩ : ∃ (a : Fin 1) (b : Fin 2) (d : Fin 12288), y = ix3 a b d := ⟨y 0, y 1, y 2, eq_ix3 y⟩
  pointwise [val_main_v28, In0RefIdeal.Read.val_main_v28]
  unfold mods
  blk_ext
theorem v31 : val_main_v31 (F := Ideal) x2 = In0RefIdeal.Read.val_main_v31 (F := Ideal) (mods x2) := by
  funext y
  obtain ⟨a, b, d, rfl⟩ : ∃ (a : Fin 1) (b : Fin 1) (d : Fin 12288), y = ix3 a b d := ⟨y 0, y 1, y 2, eq_ix3 y⟩
  pointwise [val_main_v31, In0RefIdeal.Read.val_main_v31]
  unfold mods
  blk_ext
theorem v85 : val_main_v85 (F := Ideal) x4 = In0RefIdeal.Read.val_main_v85 (F := Ideal) (wts x4) := by
  funext y
  obtain ⟨a, b, d, rfl⟩ : ∃ (a : Fin 1) (b : Fin 2048) (d : Fin 4480), y = ix3 a b d := ⟨y 0, y 1, y 2, eq_ix3 y⟩
  pointwise [val_main_v85, In0RefIdeal.Read.val_main_v85]
  unfold wts
  blk_ext
theorem v88 : val_main_v88 (F := Ideal) x4 = In0RefIdeal.Read.val_main_v88 (F := Ideal) (wts x4) := by
  funext y
  obtain ⟨a, b, d, rfl⟩ : ∃ (a : Fin 1) (b : Fin 2048) (d : Fin 4480), y = ix3 a b d := ⟨y 0, y 1, y 2, eq_ix3 y⟩
  pointwise [val_main_v88, In0RefIdeal.Read.val_main_v88]
  unfold wts
  blk_ext

theorem v87 : val_main_v87 (F := Ideal) x0 x2 x3 x4 = In0RefIdeal.Read.val_main_v87 (F := Ideal) x0 (mods x2) x3 (wts x4) := by
  unfold val_main_v87 val_main_v86 val_main_v63 val_main_v62 val_main_v61 val_main_v60 val_main_v59 val_main_v34 val_main_v33 val_main_v30 val_main_v29
  unfold In0RefIdeal.Read.val_main_v87 In0RefIdeal.Read.val_main_v86 In0RefIdeal.Read.val_main_v63 In0RefIdeal.Read.val_main_v62 In0RefIdeal.Read.val_main_v61 In0RefIdeal.Read.val_main_v60 In0RefIdeal.Read.val_main_v59 In0RefIdeal.Read.val_main_v34 In0RefIdeal.Read.val_main_v33 In0RefIdeal.Read.val_main_v30 In0RefIdeal.Read.val_main_v29
  rw [v28, v85]
  rfl
theorem v90 : val_main_v90 (F := Ideal) x1 x2 x3 x4 = In0RefIdeal.Read.val_main_v90 (F := Ideal) x1 (mods x2) x3 (wts x4) := by
  unfold val_main_v90 val_main_v89 val_main_v84 val_main_v83 val_main_v82 val_main_v81 val_main_v80 val_main_v79 val_main_v78 val_main_v40 val_main_v39 val_main_v32
  unfold In0RefIdeal.Read.val_main_v90 In0RefIdeal.Read.val_main_v89 In0RefIdeal.Read.val_main_v84 In0RefIdeal.Read.val_main_v83 In0RefIdeal.Read.val_main_v82 In0RefIdeal.Read.val_main_v81 In0RefIdeal.Read.val_main_v80 In0RefIdeal.Read.val_main_v79 In0RefIdeal.Read.val_main_v78 In0RefIdeal.Read.val_main_v40 In0RefIdeal.Read.val_main_v39 In0RefIdeal.Read.val_main_v32
  rw [v31, v88]
  rfl
theorem v135 : val_main_v135 (F := Ideal) x0 x2 x3 x4 = In0RefIdeal.Read.val_main_v135 (F := Ideal) x0 (mods x2) x3 (wts x4) := by
  unfold val_main_v135
  unfold In0RefIdeal.Read.val_main_v135
  rw [v87]
theorem v136 : val_main_v136 (F := Ideal) x1 x2 x3 x4 = In0RefIdeal.Read.val_main_v136 (F := Ideal) x1 (mods x2) x3 (wts x4) := by
  unfold val_main_v136
  unfold In0RefIdeal.Read.val_main_v136
  rw [v90]
theorem v137 : val_main_v137 (F := Ideal) x0 x2 x3 x4 = In0RefIdeal.Read.val_main_v137 (F := Ideal) x0 (mods x2) x3 (wts x4) := by
  unfold val_main_v137
  unfold In0RefIdeal.Read.val_main_v137
  rw [v87]
theorem v140 : val_main_v140 (F := Ideal) x0 x2 x3 x4 = In0RefIdeal.Read.val_main_v140 (F := Ideal) x0 (mods x2) x3 (wts x4) := by
  unfold val_main_v140 val_main_v139 val_main_v108 val_main_v107 val_main_v103 val_main_v99 val_main_v98 val_main_v97 val_main_v96 val_main_v95 val_main_v94 val_main_v93 val_main_v92 val_main_v91
  unfold In0RefIdeal.Read.val_main_v140 In0RefIdeal.Read.val_main_v139 In0RefIdeal.Read.val_main_v108 In0RefIdeal.Read.val_main_v107 In0RefIdeal.Read.val_main_v103 In0RefIdeal.Read.val_main_v99 In0RefIdeal.Read.val_main_v98 In0RefIdeal.Read.val_main_v97 In0RefIdeal.Read.val_main_v96 In0RefIdeal.Read.val_main_v95 In0RefIdeal.Read.val_main_v94 In0RefIdeal.Read.val_main_v93 In0RefIdeal.Read.val_main_v92 In0RefIdeal.Read.val_main_v91
  rw [v87]
  rfl
theorem v143 : val_main_v143 (F := Ideal) x1 x2 x3 x4 = In0RefIdeal.Read.val_main_v143 (F := Ideal) x1 (mods x2) x3 (wts x4) := by
  unfold val_main_v143 val_main_v142 val_main_v130 val_main_v129
  unfold In0RefIdeal.Read.val_main_v143 In0RefIdeal.Read.val_main_v142 In0RefIdeal.Read.val_main_v130 In0RefIdeal.Read.val_main_v129
  rw [v90]
  rfl
theorem v144 : val_main_v144 (F := Ideal) x0 x2 x3 x4 = In0RefIdeal.Read.val_main_v144 (F := Ideal) x0 (mods x2) x3 (wts x4) := by
  unfold val_main_v144 val_main_v126 val_main_v125 val_main_v121 val_main_v117 val_main_v116 val_main_v115 val_main_v114 val_main_v113 val_main_v112 val_main_v111 val_main_v110 val_main_v109
  unfold In0RefIdeal.Read.val_main_v144 In0RefIdeal.Read.val_main_v126 In0RefIdeal.Read.val_main_v125 In0RefIdeal.Read.val_main_v121 In0RefIdeal.Read.val_main_v117 In0RefIdeal.Read.val_main_v116 In0RefIdeal.Read.val_main_v115 In0RefIdeal.Read.val_main_v114 In0RefIdeal.Read.val_main_v113 In0RefIdeal.Read.val_main_v112 In0RefIdeal.Read.val_main_v111 In0RefIdeal.Read.val_main_v110 In0RefIdeal.Read.val_main_v109
  rw [v87]
  rfl
theorem v145 : val_main_v145 (F := Ideal) x0 x2 x3 x4 = In0RefIdeal.Read.val_main_v145 (F := Ideal) x0 (mods x2) x3 (wts x4) := by
  unfold val_main_v145 val_main_v128 val_main_v127
  unfold In0RefIdeal.Read.val_main_v145 In0RefIdeal.Read.val_main_v128 In0RefIdeal.Read.val_main_v127
  rw [v87]
theorem v146 : val_main_v146 (F := Ideal) x1 x2 x3 x4 = In0RefIdeal.Read.val_main_v146 (F := Ideal) x1 (mods x2) x3 (wts x4) := by
  unfold val_main_v146 val_main_v132 val_main_v131
  unfold In0RefIdeal.Read.val_main_v146 In0RefIdeal.Read.val_main_v132 In0RefIdeal.Read.val_main_v131
  rw [v90]
theorem v147 : val_main_v147 (F := Ideal) x1 x2 x3 x4 = In0RefIdeal.Read.val_main_v147 (F := Ideal) x1 (mods x2) x3 (wts x4) := by
  unfold val_main_v147 val_main_v134 val_main_v133
  unfold In0RefIdeal.Read.val_main_v147 In0RefIdeal.Read.val_main_v134 In0RefIdeal.Read.val_main_v133
  rw [v90]
end

end Cert.In1RefIdeal.Point

end
-- ==== Proof.In1Host.lean ====
module

public import proofs.«01_k».proof.Proof.In0Out
public import proofs.«01_k».proof.Proof.In1Ref
public import proofs.«01_k».proof.Proof.Gen.In1Ideal.Frame

@[expose] public section

set_option maxRecDepth 16384

noncomputable section

namespace Cert.In1Ideal.Value

open Cert.In1Ideal Cert.In1Ideal.Gen Idealize.ShloMosaic Idealize.ShloMosaic.TcCoe Idealize.SL.Sem
open Idealize.ShloMosaic.Pipeline (Dat)
open Cert.Ffn0Ideal.Value (rowsArr)
open Cert.In0Ideal.Value (modArr modArr_apply wArr wqArr gArr gArr_apply cosArr sinA sinB perm rows zrOf zpOf qOf kvOf zz_seq zz_ctx qOf_eq qAt_seq qAt_ctx kvOf_k kvOf_v kAt_seq kAt_ctx
  zrSeq zrCtx zpSeq qSeq qCtx kPart vPart hSeq hCtx zrSeq_apply zrCtx_apply zpSeq_apply qSeq_apply qCtx_apply kPart_apply vPart_apply hSeq_apply hCtx_apply)
open Cert.In1RefIdeal.Point (mods wts)

variable (m : (ℓ : Loc nD τ sig) → Buf (Elt Ideal) ℓ)

abbrev A0 (c : Dev nD) : FVec Ideal S2x4096x2048 .f32 := m ((c : Thread nD τ).loc main_arg0)
abbrev A1 (c : Dev nD) : FVec Ideal S2x256x2048 .f32 := m ((c : Thread nD τ).loc main_arg1)
abbrev A2 (c : Dev nD) : FVec Ideal S2x8x12288 .f32 := m ((c : Thread nD τ).loc main_arg2)
abbrev A3 (c : Dev nD) : FVec Ideal S2048 .f32 := m ((c : Thread nD τ).loc main_arg3)
abbrev A4 (c : Dev nD) : FVec Ideal S2x2048x4480 .f32 := m ((c : Thread nD τ).loc main_arg4)

theorem idx_val : ∀ t : Fin cfg0.N, win0_0.index t = ![min t.val 1, 0] ∧ win0_1.index t = ![t.val - 2 + 2, 0]
    ∧ win0_2.index t = ![0, 0] ∧ win0_3.index t = ![48 + 6 * ((t.val + 14) / 16) + 1, 0, 0] ∧ win0_4.index t = ![48 + 6 * ((t.val + 14) / 16), 0, 0]
    ∧ win0_5.index t = ![1, 0, 0] ∧ win0_6.index t = ![1, 0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

theorem Vmod (c : Dev nD) : V m c main_v0 = modArr (A2 m c) := by
  show StableHlo.after [hostOps0, hostOps0_1, hostOps0_2, hostOps0_3, hostOps0_4, hostOps0_5, hostOps0_6].flatten (fun b => m (c, b)) (Proc.devRef .tc main_v0) = _
  simp only [hostOps0, hostOps0_1, hostOps0_2, hostOps0_3, hostOps0_4, hostOps0_5, hostOps0_6, List.flatten_cons, List.flatten_nil, List.append_nil, List.cons_append, List.nil_append]
  after_results
  rfl

theorem Vw (c : Dev nD) : V m c main_v1 = wArr (A4 m c) := by
  show StableHlo.after [hostOps0, hostOps0_1, hostOps0_2, hostOps0_3, hostOps0_4, hostOps0_5, hostOps0_6].flatten (fun b => m (c, b)) (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl

theorem Vwq (c : Dev nD) : V m c main_v5 = wqArr (A4 m c) := by
  show StableHlo.after [hostOps0, hostOps0_1, hostOps0_2, hostOps0_3, hostOps0_4, hostOps0_5, hostOps0_6].flatten (fun b => m (c, b)) (Proc.devRef .tc main_v5) = _
  simp only [hostOps0, hostOps0_1, hostOps0_2, hostOps0_3, hostOps0_4, hostOps0_5, hostOps0_6, List.flatten_cons, List.flatten_nil, List.append_nil, List.cons_append, List.nil_append]
  after_results
  rfl

theorem Vx (c : Dev nD) : V m c main_v8 = rowsArr (A1 m c) (A0 m c) := by
  show StableHlo.after [hostOps0, hostOps0_1, hostOps0_2, hostOps0_3, hostOps0_4, hostOps0_5, hostOps0_6].flatten (fun b => m (c, b)) (Proc.devRef .tc main_v8) = _
  simp only [hostOps0, hostOps0_1, hostOps0_2, hostOps0_3, hostOps0_4, hostOps0_5, hostOps0_6, List.flatten_cons, List.flatten_nil, List.append_nil, List.cons_append, List.nil_append]
  after_results
  rfl

theorem Vg (c : Dev nD) : V m c main_v73 = gArr (A3 m c) := by
  show StableHlo.after [hostOps0, hostOps0_1, hostOps0_2, hostOps0_3, hostOps0_4, hostOps0_5, hostOps0_6].flatten (fun b => m (c, b)) (Proc.devRef .tc main_v73) = _
  simp only [hostOps0, hostOps0_1, hostOps0_2, hostOps0_3, hostOps0_4, hostOps0_5, hostOps0_6, List.flatten_cons, List.flatten_nil, List.append_nil, List.cons_append, List.nil_append]
  after_results
  rfl

theorem Vcos (c : Dev nD) : V m c main_v62 = cosArr := by
  show StableHlo.after [hostOps0, hostOps0_1, hostOps0_2, hostOps0_3, hostOps0_4, hostOps0_5, hostOps0_6].flatten (fun b => m (c, b)) (Proc.devRef .tc main_v62) = _
  simp only [hostOps0, hostOps0_1, hostOps0_2, hostOps0_3, hostOps0_4, hostOps0_5, hostOps0_6, List.flatten_cons, List.flatten_nil, List.append_nil, List.cons_append, List.nil_append]
  after_results
  rfl

theorem Vsa (c : Dev nD) : V m c main_v67 = sinA := by
  show StableHlo.after [hostOps0, hostOps0_1, hostOps0_2, hostOps0_3, hostOps0_4, hostOps0_5, hostOps0_6].flatten (fun b => m (c, b)) (Proc.devRef .tc main_v67) = _
  simp only [hostOps0, hostOps0_1, hostOps0_2, hostOps0_3, hostOps0_4, hostOps0_5, hostOps0_6, List.flatten_cons, List.flatten_nil, List.append_nil, List.cons_append, List.nil_append]
  after_results
  rfl

theorem Vsb (c : Dev nD) : V m c main_v72 = sinB := by
  show StableHlo.after [hostOps0, hostOps0_1, hostOps0_2, hostOps0_3, hostOps0_4, hostOps0_5, hostOps0_6].flatten (fun b => m (c, b)) (Proc.devRef .tc main_v72) = _
  simp only [hostOps0, hostOps0_1, hostOps0_2, hostOps0_3, hostOps0_4, hostOps0_5, hostOps0_6, List.flatten_cons, List.flatten_nil, List.append_nil, List.cons_append, List.nil_append]
  after_results
  rfl

end Cert.In1Ideal.Value

end
-- ==== Proof.In1Point.lean ====
module

public import proofs.«01_k».proof.Proof.In1Host

@[expose] public section

set_option maxRecDepth 16384

noncomputable section

namespace Cert.In1Ideal.Value

open Cert.In1Ideal Cert.In1Ideal.Gen Idealize.ShloMosaic Idealize.ShloMosaic.TcCoe Idealize.SL.Sem
open Idealize.ShloMosaic.Pipeline (Dat)
open Cert.Ffn0Ideal.Value (rowsArr)
open Cert.In0Ideal.Value (modArr modArr_apply wArr wqArr gArr gArr_apply cosArr sinA sinB perm rows zrOf zpOf qOf kvOf zz_seq zz_ctx qOf_eq qAt_seq qAt_ctx kvOf_k kvOf_v kAt_seq kAt_ctx
  zrSeq zrCtx zpSeq qSeq qCtx kPart vPart hSeq hCtx zrSeq_apply zrCtx_apply zpSeq_apply qSeq_apply qCtx_apply kPart_apply vPart_apply hSeq_apply hCtx_apply)
open Cert.In1RefIdeal.Point (mods wts)

variable (m : (ℓ : Loc nD τ sig) → Buf (Elt Ideal) ℓ)

/-! ## The input blocks, read as elements of the arguments with their layers exchanged -/

theorem wArr_last (a : FVec Ideal S2x2048x4480 .f32) (l : Fin 2048) (q : Fin 4480) : wArr a (ix3 1 l q) = wts a (ix3 0 l q) := by
  pointwise [wArr]
  unfold wts
  blk_ext
theorem wqArr_last (a : FVec Ideal S2x2048x4480 .f32) (l : Fin 2048) (n : Fin 768) : wqArr a (ix3 1 l n) = wts a (ix3 0 l (perm n)) := by
  have e : wqArr a (ix3 1 l n) = wqArr (wts a) (ix3 0 l n) := by
    pointwise [wqArr, wArr]
    unfold wts
    blk_ext
  rw [e]
  exact Cert.In0Ideal.Value.wqArr_apply _ l ⟨n.val / 256, by omega⟩ ⟨n.val / 64 % 4, by omega⟩ ⟨n.val % 64, by omega⟩ n (by dsimp only; omega) _ rfl
theorem modArr_last (a : FVec Ideal S2x8x12288 .f32) (g : Fin 8) (s : Fin 6) (k : Fin 2048) (q : Fin 12288) (hq : q.val = 2048 * s.val + k.val) :
    modArr a (ix3 ⟨48 + 6 * g.val + s.val, by omega⟩ 0 k) = mods a (ix3 0 g q) := by
  pointwise [modArr]
  unfold mods
  blk_ext

theorem blkx (c : Dev nD) (t : Fin cfg0.N) (r : Fin 256) (k : Fin 2048) (R : Fin 8704) (h : R.val = t.val * 256 + r.val) :
    rows (grid0.coords t) (iblk m c 0 t) (iblk m c 1 t) (ix2 r k) = rowsArr (A1 m c) (A0 m c) (ix2 R k) := by
  have ht : t.val < 34 := lt_of_lt_of_eq t.isLt N_0
  unfold rows
  rw [Cert.In0Ideal.Value.ctx_bit t, ← Vx m c]
  by_cases h2 : t.val < 2
  · rw [if_pos h2]
    show iblk m c 0 t (ix2 r k) = _
    have hm : min t.val 1 = t.val := by omega
    blk_point [iblk, idx_val t]
  · rw [if_neg h2]
    show iblk m c 1 t (ix2 r k) = _
    have hm : t.val - 2 + 2 = t.val := by omega
    blk_point [iblk, idx_val t]

theorem blk2 (c : Dev nD) (t : Fin cfg0.N) (k : Fin 2048) : iblk m c 2 t (ix2 0 k) = A3 m c (ix1 k) := by
  refine Eq.trans (b := V m c main_v73 (ix2 0 k)) ?_ ?_
  · blk_point [iblk, idx_val t]
  · rw [Vg]
    exact gArr_apply ..
theorem blk3 (c : Dev nD) (t : Fin cfg0.N) (k : Fin 2048) (g : Fin 8) (hg : g.val = (t.val + 14) / 16) :
    iblk m c 3 t (ix3 0 0 k) = mods (A2 m c) (ix3 0 g ⟨2048 + k.val, by omega⟩) := by
  refine Eq.trans (b := V m c main_v0 (ix3 ⟨48 + 6 * g.val + (1 : Fin 6).val, by have := (1 : Fin 6).isLt; omega⟩ 0 k)) ?_ ?_
  · have h1 : (1 : Fin 6).val = 1 := rfl
    blk_point [iblk, idx_val t]
  · rw [Vmod]
    exact modArr_last _ g 1 k _ rfl
theorem blk4 (c : Dev nD) (t : Fin cfg0.N) (k : Fin 2048) (g : Fin 8) (hg : g.val = (t.val + 14) / 16) :
    iblk m c 4 t (ix3 0 0 k) = mods (A2 m c) (ix3 0 g ⟨k.val, by omega⟩) := by
  refine Eq.trans (b := V m c main_v0 (ix3 ⟨48 + 6 * g.val + (0 : Fin 6).val, by have := (0 : Fin 6).isLt; omega⟩ 0 k)) ?_ ?_
  · have h1 : (0 : Fin 6).val = 0 := rfl
    blk_point [iblk, idx_val t]
  · rw [Vmod]
    exact modArr_last _ g 0 k _ (by show k.val = 2048 * 0 + k.val; omega)
theorem blk5 (c : Dev nD) (t : Fin cfg0.N) (l : Fin 2048) (q : Fin 4480) : iblk m c 5 t (ix3 0 l q) = wts (A4 m c) (ix3 0 l q) := by
  refine Eq.trans (b := V m c main_v1 (ix3 1 l q)) ?_ ?_
  · blk_point [iblk, idx_val t]
  · rw [Vw]
    exact wArr_last ..
theorem blk6 (c : Dev nD) (t : Fin cfg0.N) (l : Fin 2048) (n : Fin 768) : iblk m c 6 t (ix3 0 l n) = wts (A4 m c) (ix3 0 l (perm n)) := by
  refine Eq.trans (b := V m c main_v5 (ix3 1 l n)) ?_ ?_
  · blk_point [iblk, idx_val t]
  · rw [Vwq]
    exact wqArr_last ..
theorem blk7 (c : Dev nD) (t : Fin cfg0.N) (r : Fin 256) (j : Fin 128) (R : Fin 8704) (h : R.val = t.val * 256 + r.val) :
    iblk m c 7 t (ix2 r j) = cosArr (ix2 R j) := by
  rw [← Vcos m c]
  blk_point [iblk, idx_val t]
theorem blk8 (c : Dev nD) (t : Fin cfg0.N) (r : Fin 256) (j : Fin 128) (R : Fin 8704) (h : R.val = t.val * 256 + r.val) :
    iblk m c 8 t (ix2 r j) = sinA (ix2 R j) := by
  rw [← Vsa m c]
  blk_point [iblk, idx_val t]
theorem blk9 (c : Dev nD) (t : Fin cfg0.N) (r : Fin 256) (j : Fin 128) (R : Fin 8704) (h : R.val = t.val * 256 + r.val) :
    iblk m c 9 t (ix2 r j) = sinB (ix2 R j) := by
  rw [← Vsb m c]
  blk_point [iblk, idx_val t]

theorem blocks (c : Dev nD) (t : Fin cfg0.N) : Cert.In0Ideal.Value.Blocks (grid0.coords t) t.val (iblk m c 0 t) (iblk m c 1 t) (iblk m c 2 t) (iblk m c 3 t) (iblk m c 4 t) (iblk m c 5 t) (iblk m c 6 t) (iblk m c 7 t) (iblk m c 8 t) (iblk m c 9 t)
    (A0 m c) (A1 m c) (mods (A2 m c)) (A3 m c) (wts (A4 m c)) :=
  ⟨blkx m c t, blk2 m c t, blk3 m c t, blk4 m c t, blk5 m c t, blk6 m c t, blk7 m c t, blk8 m c t, blk9 m c t⟩

/-! ## The launch's results: a point stores what the first layer's call stores of the same blocks -/

theorem at10 (c : Dev nD) (t : Fin cfg0.N) (r : Fin 256) (R : Fin 8704) (h : R.val = t.val * 256 + r.val) (d : Fin 2688) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d) = zrOf (A0 m c) (A1 m c) (mods (A2 m c)) (A3 m c) (wts (A4 m c)) (ix2 R d) :=
  Cert.In0Ideal.Value.point10 (blocks m c t) r R h d

theorem final10 (c : Dev nD) : (dats m 0 c).arrAt 10 (cfgs 0).N = zrOf (A0 m c) (A1 m c) (mods (A2 m c)) (A3 m c) (wts (A4 m c)) := by
  refine (dats m 0 c).arrAt_eq_of_covers 10 _ (by decide +kernel) fun t hf y => ?_
  blk_simp
  rw [after0_10]
  have ht : t.val < 34 := lt_of_lt_of_eq t.isLt N_0
  obtain ⟨r, d, rfl⟩ : ∃ (r : Fin 256) (d : Fin 2688), y = ix2 r d := ⟨y 0, y 1, eq_ix2 y⟩
  obtain ⟨R, hR⟩ : ∃ R : Fin 8704, R.val = t.val * 256 + r.val := ⟨⟨t.val * 256 + r.val, by omega⟩, rfl⟩
  rw [at10 m c t r R hR d]
  blk_ext [idx_val t]

theorem at11 (c : Dev nD) (t : Fin cfg0.N) (r : Fin 256) (R : Fin 8704) (h : R.val = t.val * 256 + r.val) (d : Fin 512) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d) = zpOf (A0 m c) (A1 m c) (mods (A2 m c)) (A3 m c) (wts (A4 m c)) (ix2 R d) :=
  Cert.In0Ideal.Value.point11 (blocks m c t) r R h d

theorem final11 (c : Dev nD) : (dats m 0 c).arrAt 11 (cfgs 0).N = zpOf (A0 m c) (A1 m c) (mods (A2 m c)) (A3 m c) (wts (A4 m c)) := by
  refine (dats m 0 c).arrAt_eq_of_covers 11 _ (by decide +kernel) fun t hf y => ?_
  blk_simp
  rw [after0_11]
  have ht : t.val < 34 := lt_of_lt_of_eq t.isLt N_0
  obtain ⟨r, d, rfl⟩ : ∃ (r : Fin 256) (d : Fin 512), y = ix2 r d := ⟨y 0, y 1, eq_ix2 y⟩
  obtain ⟨R, hR⟩ : ∃ R : Fin 8704, R.val = t.val * 256 + r.val := ⟨⟨t.val * 256 + r.val, by omega⟩, rfl⟩
  rw [at11 m c t r R hR d]
  blk_ext [idx_val t]

theorem at12 (c : Dev nD) (t : Fin cfg0.N) (r : Fin 256) (R : Fin 8704) (h : R.val = t.val * 256 + r.val) (d : Fin 768) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d) = qOf (A0 m c) (A1 m c) (mods (A2 m c)) (A3 m c) (wts (A4 m c)) (ix2 R d) :=
  Cert.In0Ideal.Value.at12 (blocks m c t) r R h d

theorem final12 (c : Dev nD) : (dats m 0 c).arrAt 12 (cfgs 0).N = qOf (A0 m c) (A1 m c) (mods (A2 m c)) (A3 m c) (wts (A4 m c)) := by
  refine (dats m 0 c).arrAt_eq_of_covers 12 _ (by decide +kernel) fun t hf y => ?_
  blk_simp
  rw [after0_12]
  have ht : t.val < 34 := lt_of_lt_of_eq t.isLt N_0
  obtain ⟨r, d, rfl⟩ : ∃ (r : Fin 256) (d : Fin 768), y = ix2 r d := ⟨y 0, y 1, eq_ix2 y⟩
  obtain ⟨R, hR⟩ : ∃ R : Fin 8704, R.val = t.val * 256 + r.val := ⟨⟨t.val * 256 + r.val, by omega⟩, rfl⟩
  rw [at12 m c t r R hR d]
  blk_ext [idx_val t]

theorem at13 (c : Dev nD) (t : Fin cfg0.N) (r : Fin 256) (R : Fin 8704) (h : R.val = t.val * 256 + r.val) (d : Fin 512) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d) = kvOf (A0 m c) (A1 m c) (mods (A2 m c)) (A3 m c) (wts (A4 m c)) (ix2 R d) :=
  Cert.In0Ideal.Value.at13 (blocks m c t) r R h d

theorem final13 (c : Dev nD) : (dats m 0 c).arrAt 13 (cfgs 0).N = kvOf (A0 m c) (A1 m c) (mods (A2 m c)) (A3 m c) (wts (A4 m c)) := by
  refine (dats m 0 c).arrAt_eq_of_covers 13 _ (by decide +kernel) fun t hf y => ?_
  blk_simp
  rw [after0_13]
  have ht : t.val < 34 := lt_of_lt_of_eq t.isLt N_0
  obtain ⟨r, d, rfl⟩ : ∃ (r : Fin 256) (d : Fin 512), y = ix2 r d := ⟨y 0, y 1, eq_ix2 y⟩
  obtain ⟨R, hR⟩ : ∃ R : Fin 8704, R.val = t.val * 256 + r.val := ⟨⟨t.val * 256 + r.val, by omega⟩, rfl⟩
  rw [at13 m c t r R hR d]
  blk_ext [idx_val t]

end Cert.In1Ideal.Value

end
-- ==== Proof.In1Value.lean ====
module

public import proofs.«01_k».proof.Proof.In1Point
public import proofs.«01_k».proof.Proof.In0Results

@[expose] public section

set_option maxRecDepth 16384

noncomputable section

namespace Cert.In1Ideal.Value

open Cert.In1Ideal Cert.In1Ideal.Gen Idealize.ShloMosaic Idealize.ShloMosaic.TcCoe Idealize.SL.Sem
open Idealize.ShloMosaic.Pipeline (Dat)
open Cert.Ffn0Ideal.Value (rowsArr)
open Cert.In0Ideal.Value (modArr modArr_apply wArr wqArr gArr gArr_apply cosArr sinA sinB perm rows zrOf zpOf qOf kvOf zz_seq zz_ctx qOf_eq qAt_seq qAt_ctx kvOf_k kvOf_v kAt_seq kAt_ctx
  zrSeq zrCtx zpSeq qSeq qCtx kPart vPart hSeq hCtx zrSeq_apply zrCtx_apply zpSeq_apply qSeq_apply qCtx_apply kPart_apply vPart_apply hSeq_apply hCtx_apply)
open Cert.In1RefIdeal.Point (mods wts)

variable (m : (ℓ : Loc nD τ sig) → Buf (Elt Ideal) ℓ)

open Cert.In1RefIdeal.Read

/-! ## The results -/

theorem tail78 (c : Dev nD) : Pipeline.afterTail₀ cfgs (dats m) 0 (V0 m) [hostOps1] c main_v78 = val_main_v135 (F := Ideal) (A0 m c) (A2 m c) (A3 m c) (A4 m c) := by
  refine Eq.trans ?_ ((Cert.In0Ideal.Value.res135 (A0 m c) (A1 m c) (mods (A2 m c)) (A3 m c) (wts (A4 m c))).trans (Cert.In1RefIdeal.Point.v135 (A0 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 10]
  rw [final10 m c]
  rfl

theorem tail80 (c : Dev nD) : Pipeline.afterTail₀ cfgs (dats m) 0 (V0 m) [hostOps1] c main_v80 = val_main_v136 (F := Ideal) (A1 m c) (A2 m c) (A3 m c) (A4 m c) := by
  refine Eq.trans ?_ ((Cert.In0Ideal.Value.res136 (A0 m c) (A1 m c) (mods (A2 m c)) (A3 m c) (wts (A4 m c))).trans (Cert.In1RefIdeal.Point.v136 (A1 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 10]
  rw [final10 m c]
  rfl

theorem tail82 (c : Dev nD) : Pipeline.afterTail₀ cfgs (dats m) 0 (V0 m) [hostOps1] c main_v82 = val_main_v137 (F := Ideal) (A0 m c) (A2 m c) (A3 m c) (A4 m c) := by
  refine Eq.trans ?_ ((Cert.In0Ideal.Value.res137 (A0 m c) (A1 m c) (mods (A2 m c)) (A3 m c) (wts (A4 m c))).trans (Cert.In1RefIdeal.Point.v137 (A0 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 11]
  rw [final11 m c]
  rfl

theorem tail86 (c : Dev nD) : Pipeline.afterTail₀ cfgs (dats m) 0 (V0 m) [hostOps1] c main_v86 = val_main_v140 (F := Ideal) (A0 m c) (A2 m c) (A3 m c) (A4 m c) := by
  refine Eq.trans ?_ ((Cert.In0Ideal.Value.res140 (A0 m c) (A1 m c) (mods (A2 m c)) (A3 m c) (wts (A4 m c))).trans (Cert.In1RefIdeal.Point.v140 (A0 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 12]
  rw [final12 m c]
  rfl

theorem tail90 (c : Dev nD) : Pipeline.afterTail₀ cfgs (dats m) 0 (V0 m) [hostOps1] c main_v90 = val_main_v143 (F := Ideal) (A1 m c) (A2 m c) (A3 m c) (A4 m c) := by
  refine Eq.trans ?_ ((Cert.In0Ideal.Value.res143 (A0 m c) (A1 m c) (mods (A2 m c)) (A3 m c) (wts (A4 m c))).trans (Cert.In1RefIdeal.Point.v143 (A1 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 12]
  rw [final12 m c]
  rfl

theorem tail92 (c : Dev nD) : Pipeline.afterTail₀ cfgs (dats m) 0 (V0 m) [hostOps1] c main_v92 = val_main_v144 (F := Ideal) (A0 m c) (A2 m c) (A3 m c) (A4 m c) := by
  refine Eq.trans ?_ ((Cert.In0Ideal.Value.res144 (A0 m c) (A1 m c) (mods (A2 m c)) (A3 m c) (wts (A4 m c))).trans (Cert.In1RefIdeal.Point.v144 (A0 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail94 (c : Dev nD) : Pipeline.afterTail₀ cfgs (dats m) 0 (V0 m) [hostOps1] c main_v94 = val_main_v145 (F := Ideal) (A0 m c) (A2 m c) (A3 m c) (A4 m c) := by
  refine Eq.trans ?_ ((Cert.In0Ideal.Value.res145 (A0 m c) (A1 m c) (mods (A2 m c)) (A3 m c) (wts (A4 m c))).trans (Cert.In1RefIdeal.Point.v145 (A0 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail96 (c : Dev nD) : Pipeline.afterTail₀ cfgs (dats m) 0 (V0 m) [hostOps1] c main_v96 = val_main_v146 (F := Ideal) (A1 m c) (A2 m c) (A3 m c) (A4 m c) := by
  refine Eq.trans ?_ ((Cert.In0Ideal.Value.res146 (A0 m c) (A1 m c) (mods (A2 m c)) (A3 m c) (wts (A4 m c))).trans (Cert.In1RefIdeal.Point.v146 (A1 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

theorem tail98 (c : Dev nD) : Pipeline.afterTail₀ cfgs (dats m) 0 (V0 m) [hostOps1] c main_v98 = val_main_v147 (F := Ideal) (A1 m c) (A2 m c) (A3 m c) (A4 m c) := by
  refine Eq.trans ?_ ((Cert.In0Ideal.Value.res147 (A0 m c) (A1 m c) (mods (A2 m c)) (A3 m c) (wts (A4 m c))).trans (Cert.In1RefIdeal.Point.v147 (A1 m c) (A2 m c) (A3 m c) (A4 m c)).symm)
  unfold Pipeline.afterTail₀
  simp only [hostOps1, List.flatten_cons, List.flatten_nil, List.append_nil]
  after_results
  erw [Pipeline.withArrays_arr_shared spec0 c (V0 m c) _ ((dats m 0 c).arrAt_sharedIn sharedIn0 (V0 m c) (A_eq m c) _) 13]
  rw [final13 m c]
  rfl

/-- The kernel's run: the results end at the reference's terms of the arguments, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v78) = val_main_v135 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v80) = val_main_v136 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v82) = val_main_v137 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v86) = val_main_v140 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v90) = val_main_v143 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v92) = val_main_v144 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v94) = val_main_v145 (F := Ideal) (m ((c : Thread nD τ).loc main_arg0)) (m ((c : Thread nD τ).loc main_arg2)) (m ((c : Thread nD τ).loc main_arg3)) (m ((c : Thread nD τ).loc main_arg4))
    ∧ r.2.mem ((c : Thread nD τ).loc main_v96) = val_main_v146 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_v98) = val_main_v147 (F := Ideal) (m ((c : Thread nD τ).loc main_arg1)) (m ((c : Thread nD τ).loc main_arg2)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).2 main_v78 (Pipeline.mem_restRefs_of main_v78 (by decide) (by decide))).trans (tail78 m c),
    ((h c).2 main_v80 (Pipeline.mem_restRefs_of main_v80 (by decide) (by decide))).trans (tail80 m c),
    ((h c).2 main_v82 (Pipeline.mem_restRefs_of main_v82 (by decide) (by decide))).trans (tail82 m c),
    ((h c).2 main_v86 (Pipeline.mem_restRefs_of main_v86 (by decide) (by decide))).trans (tail86 m c),
    ((h c).2 main_v90 (Pipeline.mem_restRefs_of main_v90 (by decide) (by decide))).trans (tail90 m c),
    ((h c).2 main_v92 (Pipeline.mem_restRefs_of main_v92 (by decide) (by decide))).trans (tail92 m c),
    ((h c).2 main_v94 (Pipeline.mem_restRefs_of main_v94 (by decide) (by decide))).trans (tail94 m c),
    ((h c).2 main_v96 (Pipeline.mem_restRefs_of main_v96 (by decide) (by decide))).trans (tail96 m c),
    ((h c).2 main_v98 (Pipeline.mem_restRefs_of main_v98 (by decide) (by decide))).trans (tail98 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.In1Ideal.Value

end
-- ==== Proof.In1Claims.lean ====
module

public import proofs.«01_k».proof.Defs
public import proofs.«01_k».proof.Proof.Gen.In1
public import proofs.«01_k».proof.Proof.In1Value
public import proofs.«01_k».proof.Proof.Gen.In1RefIdeal.Run
public import Idealize.ShloMosaic.Adequacy
public import Idealize.ShloMosaic.Init

@[expose] public section

set_option maxRecDepth 16384

noncomputable section

namespace Cert.In1Claims

open Idealize.ShloMosaic Idealize.SL.Sem

theorem defs₀_eq : Cert.In1.defs₀ (F := Bits) = Cert.In1Ideal.defs₀ (F := Bits) := by
  refine congrArg Defs.onTc (funext fun l => ?_)
  obtain ⟨n, h⟩ := l
  cases n with
  | zero => rfl
  | succ n => exact absurd h (by omega)
theorem defs_eq : Cert.In1.defs (F := Bits) = Cert.In1Ideal.defs (F := Bits) := congrArg (Pipeline.defs _) defs₀_eq
set_option maxHeartbeats 8000000 in
theorem part0_eq : Cert.In1.main_part0 (F := Bits) = Cert.In1Ideal.main_part0 (F := Bits) := rfl
set_option maxHeartbeats 8000000 in
theorem part1_eq : Cert.In1.main_part1 (F := Bits) = Cert.In1Ideal.main_part1 (F := Bits) := rfl
theorem main_eq : Cert.In1.main (F := Bits) = Cert.In1Ideal.main (F := Bits) := by
  unfold Cert.In1.main Cert.In1Ideal.main
  rw [part0_eq, part1_eq]
  rfl
/-- The program before idealizing is the same program: the frame is the idealized one's, at the bits. -/
theorem frame : Cert.quiescent_In1 := fun m ρ _ => by
  rw [defs_eq, main_eq]
  exact Cert.In1Ideal.Gen.frame (F := Bits) m ρ

theorem frame_ideal : Cert.quiescent_In1Ideal := fun m ρ _ => Cert.In1Ideal.Gen.frame m ρ

theorem frame_ref : Cert.quiescent_In1RefIdeal := fun m ρ _ =>
  (θ_run Cert.In1RefIdeal.defs _ _).mono (fun r h => ⟨fun c => (h c).2.2.2.2.2.2.2.2.2, sem_eq_zero_of_no_sems (by decide) r.2⟩)
    (Cert.In1RefIdeal.Value.run (F := Ideal) m ρ)

theorem preserves : Cert.preserves_In1_In1Ideal := trivial

/-- Both programs end at the reference's terms of the arguments. -/
theorem algebraic : Cert.algebraic_In1Ideal_In1RefIdeal := fun m ρ m' ρ' _ hag =>
  ⟨fun c => Cert.In1RefIdeal.Read.val_main_v135 (F := Ideal) (m' ((c.tc : Thread Cert.In1RefIdeal.nD Cert.In1RefIdeal.τ).loc Cert.In1RefIdeal.main_arg0)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v136 (F := Ideal) (m' ((c.tc : Thread Cert.In1RefIdeal.nD Cert.In1RefIdeal.τ).loc Cert.In1RefIdeal.main_arg1)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v137 (F := Ideal) (m' ((c.tc : Thread Cert.In1RefIdeal.nD Cert.In1RefIdeal.τ).loc Cert.In1RefIdeal.main_arg0)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v140 (F := Ideal) (m' ((c.tc : Thread Cert.In1RefIdeal.nD Cert.In1RefIdeal.τ).loc Cert.In1RefIdeal.main_arg0)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v143 (F := Ideal) (m' ((c.tc : Thread Cert.In1RefIdeal.nD Cert.In1RefIdeal.τ).loc Cert.In1RefIdeal.main_arg1)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v144 (F := Ideal) (m' ((c.tc : Thread Cert.In1RefIdeal.nD Cert.In1RefIdeal.τ).loc Cert.In1RefIdeal.main_arg0)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v145 (F := Ideal) (m' ((c.tc : Thread Cert.In1RefIdeal.nD Cert.In1RefIdeal.τ).loc Cert.In1RefIdeal.main_arg0)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v146 (F := Ideal) (m' ((c.tc : Thread Cert.In1RefIdeal.nD Cert.In1RefIdeal.τ).loc Cert.In1RefIdeal.main_arg1)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    fun c => Cert.In1RefIdeal.Read.val_main_v147 (F := Ideal) (m' ((c.tc : Thread Cert.In1RefIdeal.nD Cert.In1RefIdeal.τ).loc Cert.In1RefIdeal.main_arg1)) (m' ((c.tc : Thread Cert.In1RefIdeal.nD Cert.In1RefIdeal.τ).loc Cert.In1RefIdeal.main_arg2)) (m' ((c.tc : Thread Cert.In1RefIdeal.nD Cert.In1RefIdeal.τ).loc Cert.In1RefIdeal.main_arg3)) (m' ((c.tc : Thread Cert.In1RefIdeal.nD Cert.In1RefIdeal.τ).loc Cert.In1RefIdeal.main_arg4)),
    (θ_run Cert.In1Ideal.defs _ _).mono (fun r h c => ⟨(h c).1.trans (by
          dsimp only
          rw [(hag c).1, (hag c).2.2.1, (hag c).2.2.2.1, (hag c).2.2.2.2]),
        (h c).2.1.trans (by
          dsimp only
          rw [(hag c).2.1, (hag c).2.2.1, (hag c).2.2.2.1, (hag c).2.2.2.2]),
        (h c).2.2.1.trans (by
          dsimp only
          rw [(hag c).1, (hag c).2.2.1, (hag c).2.2.2.1, (hag c).2.2.2.2]),
        (h c).2.2.2.1.trans (by
          dsimp only
          rw [(hag c).1, (hag c).2.2.1, (hag c).2.2.2.1, (hag c).2.2.2.2]),
        (h c).2.2.2.2.1.trans (by
          dsimp only
          rw [(hag c).2.1, (hag c).2.2.1, (hag c).2.2.2.1, (hag c).2.2.2.2]),
        (h c).2.2.2.2.2.1.trans (by
          dsimp only
          rw [(hag c).1, (hag c).2.2.1, (hag c).2.2.2.1, (hag c).2.2.2.2]),
        (h c).2.2.2.2.2.2.1.trans (by
          dsimp only
          rw [(hag c).1, (hag c).2.2.1, (hag c).2.2.2.1, (hag c).2.2.2.2]),
        (h c).2.2.2.2.2.2.2.1.trans (by
          dsimp only
          rw [(hag c).2.1, (hag c).2.2.1, (hag c).2.2.2.1, (hag c).2.2.2.2]),
        (h c).2.2.2.2.2.2.2.2.1.trans (by
          dsimp only
          rw [(hag c).2.1, (hag c).2.2.1, (hag c).2.2.2.1, (hag c).2.2.2.2]),
        (h c).2.2.2.2.2.2.2.2.2⟩)
      (Cert.In1Ideal.Value.run m ρ),
    (θ_run Cert.In1RefIdeal.defs _ _).mono (fun r h c => ⟨(h c).1.trans (Cert.In1RefIdeal.Read.val_main_v135_eq (F := Ideal) ..),
        (h c).2.1.trans (Cert.In1RefIdeal.Read.val_main_v136_eq (F := Ideal) ..),
        (h c).2.2.1.trans (Cert.In1RefIdeal.Read.val_main_v137_eq (F := Ideal) ..),
        (h c).2.2.2.1.trans (Cert.In1RefIdeal.Read.val_main_v140_eq (F := Ideal) ..),
        (h c).2.2.2.2.1.trans (Cert.In1RefIdeal.Read.val_main_v143_eq (F := Ideal) ..),
        (h c).2.2.2.2.2.1.trans (Cert.In1RefIdeal.Read.val_main_v144_eq (F := Ideal) ..),
        (h c).2.2.2.2.2.2.1.trans (Cert.In1RefIdeal.Read.val_main_v145_eq (F := Ideal) ..),
        (h c).2.2.2.2.2.2.2.1.trans (Cert.In1RefIdeal.Read.val_main_v146_eq (F := Ideal) ..),
        (h c).2.2.2.2.2.2.2.2.1.trans (Cert.In1RefIdeal.Read.val_main_v147_eq (F := Ideal) ..),
        (h c).2.2.2.2.2.2.2.2.2⟩)
      (Cert.In1RefIdeal.Value.run (F := Ideal) m' ρ')⟩

end Cert.In1Claims

end
-- ==== Proof.Out1Same.lean ====
module

public import proofs.«01_k».proof.Defs
public import proofs.«01_k».proof.Proof.Gen.Out1
public import proofs.«01_k».proof.Proof.Gen.Out1Ideal

@[expose] public section

set_option maxRecDepth 16384

noncomputable section

namespace Cert.Out1Claims

open Idealize.ShloMosaic Idealize.SL.Sem

set_option maxHeartbeats 8000000 in
/-- The two programs' tables are the same. -/
theorem table_eq (i : Nat) : Cert.Out1.lit0t i = Cert.Out1Ideal.lit0t i := by rfl
theorem lit_eq : Cert.Out1.lit0t = Cert.Out1Ideal.lit0t := funext table_eq

set_option maxHeartbeats 8000000 in
theorem defs₀_eq : Cert.Out1.defs₀ (F := Bits) = Cert.Out1Ideal.defs₀ (F := Bits) := by
  unfold Cert.Out1.defs₀ Cert.Out1Ideal.defs₀
  refine congrArg Defs.onTc (funext fun l => ?_)
  obtain ⟨n, h⟩ := l
  cases n with
  | zero => rfl
  | succ n => exact absurd h (by omega)
theorem defs_eq : Cert.Out1.defs (F := Bits) = Cert.Out1Ideal.defs (F := Bits) := congrArg (Pipeline.defs _) defs₀_eq
set_option maxHeartbeats 8000000 in
theorem main_eq : Cert.Out1.main (F := Bits) = Cert.Out1Ideal.main (F := Bits) := by
  unfold Cert.Out1.main Cert.Out1Ideal.main Cert.Out1.lit0 Cert.Out1Ideal.lit0
  rw [lit_eq]
  rfl

end Cert.Out1Claims

end
-- ==== Proof.Out1Math.lean ====
module

public import proofs.«01_k».proof.Proof.AttnMath
public import proofs.«01_k».proof.Proof.In0Ref
public import Idealize.ShloMosaic.Lib.Pipeline.ValueKit

@[expose] public section

set_option maxRecDepth 16384

noncomputable section

namespace Cert.Out1Math

open Idealize.ShloMosaic

theorem bits_inv : Ideal.ofBits .f32 0x3C800000#32 = (((64 : ℝ)⁻¹ : ℝ) : EReal) := by
  simp [Ideal.ofBits, Ideal.ieee, -EReal.coe_mul]
  norm_num
theorem bits_64 : Ideal.ofBits .f32 0x42800000#32 = ((64 : ℝ) : EReal) := by
  simp [Ideal.ofBits, Ideal.ieee, -EReal.coe_mul]
  norm_num
theorem bits_one : Ideal.ofBits .bf16 0x3F80#16 = 1 := by
  simp [Ideal.ofBits, Ideal.ieee, -EReal.coe_mul]
  norm_num
theorem bits_zero : Ideal.ofBits .bf16 0#16 = 0 := by
  simp [Ideal.ofBits, Ideal.ieee, -EReal.coe_mul]

/-- Times the sixty-fourth is over sixty-four. -/
theorem mul_inv (x : EReal) : x * Ideal.ofBits .f32 0x3C800000#32 = Ideal.div x (Ideal.ofBits .f32 0x42800000#32) := by
  rw [bits_inv, bits_64]
  unfold Ideal.div
  rw [if_neg (by exact_mod_cast (by norm_num : (64 : ℝ) ≠ 0)), EReal.coe_inv]

/-- Whether every element of a row is a real number. -/
def Real' {n : Nat} (y : Fin n → EReal) : Prop := ∀ k, ∃ r : ℝ, y k = (r : EReal)

/-- A head's sum over a row, the head being the one the column `n` is in. -/
def hsum (y : Fin 768 → EReal) (n : Fin 768) : EReal := ∑ d : Fin 64, y ⟨64 * (n.val / 64) + d.val, by omega⟩

theorem hsum_real {y : Fin 768 → EReal} (hy : Real' y) : Real' (hsum y) := by
  intro n
  choose f hf using hy
  exact ⟨∑ d : Fin 64, f ⟨64 * (n.val / 64) + d.val, by omega⟩, by unfold hsum; simp only [hf]; exact AttnMath.coe_sum _ _⟩

/-- A column of 256 lanes against the table's column, in three parts, each the rest of the one before. -/
def parts (h : Fin 256 → Fin 256 → EReal) (y : Fin 256 → EReal) (j : Fin 256) : EReal :=
  (∑ l : Fin 256, y l * h l j) + (∑ l : Fin 256, (y l - y l) * h l j) + ∑ l : Fin 256, (y l - y l - (y l - y l)) * h l j

theorem parts_eq (h : Fin 256 → Fin 256 → EReal) (hh : ∀ l j, h l j = if l.val / 64 = j.val / 64 then 1 else 0) (y : Fin 768 → EReal) (hy : Real' y)
    (g : Fin 3) (j : Fin 256) (n : Fin 768) (hn : n.val = 256 * g.val + j.val) :
    parts h (fun l => y ⟨256 * g.val + l.val, by omega⟩) j = hsum y n := by
  have e0 (x : EReal) (hx : ∃ r : ℝ, x = (r : EReal)) : x - x = 0 := by
    obtain ⟨r, rfl⟩ := hx
    rw [← EReal.coe_sub, sub_self, EReal.coe_zero]
  have e1 : ∀ l : Fin 256, y ⟨256 * g.val + l.val, by omega⟩ - y ⟨256 * g.val + l.val, by omega⟩ = 0 := fun l => e0 _ (hy _)
  unfold parts hsum
  simp only [e1, sub_zero, zero_mul, Finset.sum_const_zero, add_zero]
  simp only [hh, mul_ite, mul_one, mul_zero]
  rw [← Finset.sum_filter]
  symm
  refine Finset.sum_bij (fun (d : Fin 64) _ => (⟨64 * (j.val / 64) + d.val, by omega⟩ : Fin 256)) ?_ ?_ ?_ ?_
  · intro d _
    simp only [Finset.mem_filter, Finset.mem_univ, true_and]
    omega
  · intro a _ b _ hab
    have := congrArg Fin.val hab
    dsimp only at this
    exact Fin.ext (by omega)
  · intro l hl
    simp only [Finset.mem_filter, Finset.mem_univ, true_and] at hl
    exact ⟨⟨l.val % 64, by omega⟩, Finset.mem_univ _, Fin.ext (by dsimp only; omega)⟩
  · intro d _
    exact congrArg y (Fin.ext (by dsimp only; omega))

/-- A lane less its head's mean. -/
def dev (y : Fin 768 → EReal) (n : Fin 768) : EReal := y n - Ideal.div (hsum y n) (Ideal.ofBits .f32 0x42800000#32)

theorem dev_real {y : Fin 768 → EReal} (hy : Real' y) : Real' (dev y) := by
  intro n
  obtain ⟨a, ha⟩ := hy n
  obtain ⟨b, hb⟩ := hsum_real hy n
  refine ⟨a - b * (64 : ℝ)⁻¹, ?_⟩
  unfold dev
  rw [← mul_inv, bits_inv, ha, hb, ← EReal.coe_mul, ← EReal.coe_sub]

theorem sq_real {y : Fin 768 → EReal} (hy : Real' y) : Real' (fun n => y n * y n) := by
  intro n
  obtain ⟨a, ha⟩ := hy n
  exact ⟨a * a, by dsimp only; rw [ha, ← EReal.coe_mul]⟩

/-- A row read out: normalized over its heads, scaled and shifted, the bonus added, gated. -/
def readout (y lg lb bo g : Fin 768 → EReal) (n : Fin 768) : EReal :=
  (dev y n * Ideal.rsqrt (Ideal.div (hsum (fun n => dev y n * dev y n) n) (Ideal.ofBits .f32 0x42800000#32) + Ideal.ofBits .f32 0x3A27C5AC#32) * lg n + lb n + bo n) * g n

/-- A column's place among the regrouped columns of the attention. -/
def regroup (n : Fin 768) : Fin 768 := ⟨192 * (n.val / 64 % 4) + 64 * (n.val / 256) + n.val % 64, by omega⟩

theorem regroup_bij : Function.Bijective regroup := by
  refine (Finite.injective_iff_bijective).mp fun a b h => ?_
  have := congrArg Fin.val h
  unfold regroup at this
  dsimp only at this
  have ha := a.isLt
  have hb := b.isLt
  refine Fin.ext ?_
  have a1 : a.val = 256 * (a.val / 256) + 64 * (a.val / 64 % 4) + a.val % 64 := by omega
  have b1 : b.val = 256 * (b.val / 256) + 64 * (b.val / 64 % 4) + b.val % 64 := by omega
  have a2 : a.val / 256 < 3 := by omega
  have b2 : b.val / 256 < 3 := by omega
  have a3 : a.val / 64 % 4 < 4 := by omega
  have b3 : b.val / 64 % 4 < 4 := by omega
  have a4 : a.val % 64 < 64 := by omega
  have b4 : b.val % 64 < 64 := by omega
  rw [a1, b1]
  generalize a.val / 256 = p1 at *
  generalize b.val / 256 = q1 at *
  generalize a.val / 64 % 4 = p2 at *
  generalize b.val / 64 % 4 = q2 at *
  generalize a.val % 64 = p3 at *
  generalize b.val % 64 = q3 at *
  clear a1 b1
  omega

theorem sum_regroup (f : Fin 768 → EReal) : ∑ n : Fin 768, f (regroup n) = ∑ n : Fin 768, f n := regroup_bij.sum_comp f

/-- The three heads' rows joined. -/
def joined (yr : Fin 768 → EReal) (yp : Fin 512 → EReal) (ya : Fin 768 → EReal) (n : Fin 2048) : EReal :=
  if h : n.val < 768 then yr ⟨n.val, h⟩ else if h2 : n.val - 768 < 512 then yp ⟨n.val - 768, h2⟩ else ya ⟨n.val - 768 - 512, by omega⟩

/-- The joined rows times a column of the weights is the three rows' products added. -/
theorem sum_joined (yr : Fin 768 → EReal) (yp : Fin 512 → EReal) (ya : Fin 768 → EReal) (w : Fin 2048 → EReal) :
    ∑ n : Fin 2048, joined yr yp ya n * w n
      = (∑ n : Fin 768, yr n * w ⟨n.val, by omega⟩) + (∑ n : Fin 512, yp n * w ⟨768 + n.val, by omega⟩) + ∑ n : Fin 768, ya n * w ⟨1280 + n.val, by omega⟩ := by
  rw [Fin.sum_univ_two_halves (N := 2048) 1280 768 rfl, Fin.sum_univ_two_halves (N := 1280) 768 512 rfl]
  refine congrArg₂ (· + ·) (congrArg₂ (· + ·) ?_ ?_) ?_
  · refine Finset.sum_congr rfl fun n _ => congrArg₂ (· * ·) ?_ rfl
    unfold joined
    rw [dif_pos n.isLt]
  · refine Finset.sum_congr rfl fun n _ => congrArg₂ (· * ·) ?_ rfl
    unfold joined
    rw [dif_neg (by dsimp only; omega), dif_pos (by dsimp only; omega)]
    exact congrArg yp (Fin.ext (by dsimp only; omega))
  · refine Finset.sum_congr rfl fun n _ => congrArg₂ (· * ·) ?_ rfl
    unfold joined
    rw [dif_neg (by dsimp only; omega), dif_neg (by dsimp only; omega)]
    exact congrArg ya (Fin.ext (by dsimp only; omega))

end Cert.Out1Math

end
-- ==== Proof.Out1Body.lean ====
module

public import proofs.«01_k».proof.Proof.Gen.Out1Ideal.Frame
public import proofs.«01_k».proof.Proof.In0Body
public import proofs.«01_k».proof.Proof.Out1Math
public import Idealize.ShloMosaic.Lib.Pipeline.ValueKit

@[expose] public section

set_option maxRecDepth 16384

noncomputable section

namespace Cert.Out1Ideal.Value

open Cert.Out1Ideal Cert.Out1Ideal.Gen Idealize.ShloMosaic Idealize.ShloMosaic.TcCoe Idealize.SL.Sem
open Cert.In0RefIdeal.Point (normed)
open Cert.In0Ideal.Value (hz2 hz3)
open Cert.Out1Math

/-- The deviations' block. -/
def devblk (h : FVec Ideal S256x256 .bf16) (y0 y1 : FVec Ideal S1x256x768 .f32) : FVec Ideal S256x768 .f32 :=
  k0_pay11 h (k0_pay2 y0 y1) (k0_pay3 h y0 y1) (k0_pay4 h y0 y1) (k0_pay9 y0 y1) (k0_pay10 h y0 y1)
/-- The block of their squares' head sums. -/
def sqblk (h : FVec Ideal S256x256 .bf16) (y0 y1 : FVec Ideal S1x256x768 .f32) : FVec Ideal S256x768 .f32 :=
  k0_pay12 h (k0_pay2 y0 y1) (k0_pay3 h y0 y1) (k0_pay4 h y0 y1) (k0_pay9 y0 y1) (k0_pay10 h y0 y1)

theorem pay2_apply (y0 y1 : FVec Ideal S1x256x768 .f32) (r : Fin 256) (n : Fin 768) :
    k0_pay2 (F := Ideal) y0 y1 (ix2 r n) = y0 (ix3 0 r n) + y1 (ix3 0 r n) := by
  pointwise [k0_pay2]

theorem devblk_apply' (h : FVec Ideal S256x256 .bf16) (y0 y1 : FVec Ideal S1x256x768 .f32) (r : Fin 256) (g : Fin 3) (j : Fin 256) :
    devblk h y0 y1 (ix2 r ⟨256 * g.val + j.val, by omega⟩)
      = k0_pay2 (F := Ideal) y0 y1 (ix2 r ⟨256 * g.val + j.val, by omega⟩)
        - parts (fun l j => h (ix2 l j)) (fun l => k0_pay2 (F := Ideal) y0 y1 (ix2 r ⟨256 * g.val + l.val, by omega⟩)) j * Ideal.ofBits .f32 0x3C800000#32 := by
  unfold devblk parts
  fin_cases g <;> pointwise [k0_pay11, k0_pay3, k0_pay4, k0_pay9, k0_pay10, k0_pay8, k0_pay7, k0_pay6, k0_pay5]
  have e : 512 + j.val - 256 - 256 = j.val := by omega
  rw [dif_neg (by omega), dif_neg (by omega)]
  simp only [e, Fin.eta]

theorem sqblk_apply' (h : FVec Ideal S256x256 .bf16) (y0 y1 : FVec Ideal S1x256x768 .f32) (r : Fin 256) (g : Fin 3) (j : Fin 256) :
    sqblk h y0 y1 (ix2 r ⟨256 * g.val + j.val, by omega⟩)
      = parts (fun l j => h (ix2 l j)) (fun l => devblk h y0 y1 (ix2 r ⟨256 * g.val + l.val, by omega⟩) * devblk h y0 y1 (ix2 r ⟨256 * g.val + l.val, by omega⟩)) j := by
  have e : sqblk h y0 y1 = k0_pay12 h (k0_pay2 y0 y1) (k0_pay3 h y0 y1) (k0_pay4 h y0 y1) (k0_pay9 y0 y1) (k0_pay10 h y0 y1) := rfl
  rw [e]
  unfold k0_pay12
  rw [show k0_pay11 h (k0_pay2 y0 y1) (k0_pay3 h y0 y1) (k0_pay4 h y0 y1) (k0_pay9 y0 y1) (k0_pay10 h y0 y1) = devblk h y0 y1 from rfl]
  generalize devblk h y0 y1 = d
  unfold parts
  fin_cases g <;> pointwise []
  have e : 512 + j.val - 256 - 256 = j.val := by omega
  rw [dif_neg (by omega), dif_neg (by omega)]
  simp only [e, Fin.eta]

/-- A row of the two directions' blocks, added. -/
def yof (y0 y1 : FVec Ideal S1x256x768 .f32) (r : Fin 256) (n : Fin 768) : EReal := y0 (ix3 0 r n) + y1 (ix3 0 r n)

section
variable (h : FVec Ideal S256x256 .bf16) (hh : ∀ l j : Fin 256, h (ix2 l j) = if l.val / 64 = j.val / 64 then 1 else 0)
  (y0 y1 : FVec Ideal S1x256x768 .f32) (r : Fin 256) (hy : Real' (yof y0 y1 r))
include hh hy

theorem devblk_apply (n : Fin 768) : devblk h y0 y1 (ix2 r n) = dev (yof y0 y1 r) n := by
  have e := devblk_apply' h y0 y1 r ⟨n.val / 256, by omega⟩ ⟨n.val % 256, Nat.mod_lt _ (by decide)⟩
  simp only [pay2_apply] at e
  rw [show (⟨256 * (n.val / 256) + n.val % 256, by omega⟩ : Fin 768) = n from Fin.ext (Nat.div_add_mod _ _)] at e
  rw [e]
  have e2 := parts_eq (fun l j => h (ix2 l j)) hh (yof y0 y1 r) hy ⟨n.val / 256, by omega⟩ ⟨n.val % 256, Nat.mod_lt _ (by decide)⟩ n (Nat.div_add_mod _ _).symm
  unfold dev
  rw [← e2, ← mul_inv]
  rfl

theorem sqblk_apply (n : Fin 768) : sqblk h y0 y1 (ix2 r n) = hsum (fun n => dev (yof y0 y1 r) n * dev (yof y0 y1 r) n) n := by
  have e := sqblk_apply' h y0 y1 r ⟨n.val / 256, by omega⟩ ⟨n.val % 256, Nat.mod_lt _ (by decide)⟩
  simp only [devblk_apply h hh y0 y1 r hy] at e
  rw [show (⟨256 * (n.val / 256) + n.val % 256, by omega⟩ : Fin 768) = n from Fin.ext (Nat.div_add_mod _ _)] at e
  rw [e]
  exact parts_eq (fun l j => h (ix2 l j)) hh (fun n => dev (yof y0 y1 r) n * dev (yof y0 y1 r) n) (sq_real (dev_real hy)) ⟨n.val / 256, by omega⟩ ⟨n.val % 256, Nat.mod_lt _ (by decide)⟩ n (Nat.div_add_mod _ _).symm
end

/-- The recurrent and the pooled heads' product with the weights. -/
theorem pay14_apply (d s : FVec Ideal S256x768 .f32) (lg lb : FVec Ideal S1x768 .f32) (bo g : FVec Ideal S256x768 .f32) (w : FVec Ideal S1x768x2048 .bf16)
    (yp : FVec Ideal S256x512 .bf16) (wp : FVec Ideal S1x512x2048 .bf16) (r : Fin 256) (q : Fin 2048) :
    k0_pay14 (F := Ideal) d s (k0_pay13 (F := Ideal)) lg lb bo g w yp wp (ix2 r q)
      = (∑ n : Fin 768, ((d (ix2 r n) * Ideal.rsqrt (s (ix2 r n) * Ideal.ofBits .f32 0x3C800000#32 + Ideal.ofBits .f32 0x3A27C5AC#32) * lg (ix2 0 n) + lb (ix2 0 n) + bo (ix2 r n)) * g (ix2 r n)) * w (ix3 0 n q))
        + ∑ n : Fin 512, yp (ix2 r n) * wp (ix3 0 n q) := by
  pointwise [k0_pay14, k0_pay13]

/-- No point's tile is of the context. -/
theorem tile : ∀ i : Fin 32, Scalar.cmpi .slt (Scalar.addi (BitVec.ofNat 32 i.val) 2#32) 2#32 = 0#1 := by decide +kernel

theorem pay15_eq (i : Fin 32) (a b : FVec Ideal S256x768 .bf16) : k0_pay15 (F := Ideal) (BitVec.ofNat 32 i.val) a b = b := by
  unfold k0_pay15
  dsimp only
  rw [tile i]
  funext k
  obtain ⟨r, n, rfl⟩ : ∃ (r : Fin 256) (n : Fin 768), k = ix2 r n := ⟨k 0, k 1, funext fun a => by fin_cases a <;> rfl⟩
  pointwise []

theorem pay16_apply (i : Fin 32) (acc : FVec Ideal S256x2048 .f32) (ya : FVec Ideal S256x768 .bf16) (wa : FVec Ideal S1x768x2048 .bf16) (x x' : FVec Ideal S256x2048 .f32)
    (gt : FVec Ideal S1x1x2048 .f32) (r : Fin 256) (q : Fin 2048) :
    k0_pay16 (F := Ideal) (BitVec.ofNat 32 i.val) acc ya wa x x' gt (ix2 r q)
      = x' (ix2 r q) + gt (ix3 0 0 q) * (acc (ix2 r q) + ∑ n : Fin 768, ya (ix2 r n) * wa (ix3 0 n q)) := by
  unfold k0_pay16
  rw [tile i]
  pointwise []

theorem pay1_apply (i : Fin 32) (acc : FVec Ideal S256x2048 .f32) (ya : FVec Ideal S256x768 .bf16) (wa : FVec Ideal S1x768x2048 .bf16) (x x' : FVec Ideal S256x2048 .f32)
    (gt : FVec Ideal S1x1x2048 .f32) (ng : FVec Ideal S1x2048 .f32) (sc sh : FVec Ideal S1x1x2048 .f32) (r : Fin 256) (q : Fin 2048) :
    k0_pay1 (F := Ideal) (k0_pay17 sc) (k0_pay18 sh) (k0_pay19 (BitVec.ofNat 32 i.val) acc ya wa x x' gt ng) (k0_pay20 (F := Ideal)) (ix2 r q)
      = normed (fun q => k0_pay16 (F := Ideal) (BitVec.ofNat 32 i.val) acc ya wa x x' gt (ix2 r q)) (fun l => ng (ix2 0 l)) (fun l => sc (ix3 0 0 l)) (fun l => sh (ix3 0 0 l)) q := by
  unfold normed
  pointwise [k0_pay1, k0_pay17, k0_pay18, k0_pay19, k0_pay20]

/-- A block of rows of the weights. -/
theorem ld_w (x9 : Vec Ideal S1x2048x2048 .bf16) (o n : Nat) (h : ∀ a, (![0, o, 0] : Fin 3 → Nat) a + (![1, n, 2048] : Fin 3 → Nat) a ≤ S1x2048x2048.size a)
    (j : Fin n) (l : Fin 2048) (q : Fin 2048) (hq : q.val = o + j.val) :
    (show FVec Ideal ⟨3, ![1, n, 2048]⟩ .bf16 from View.ld x9 (Rect.unit (s := S1x2048x2048) ![0, o, 0] ![1, n, 2048] h)) (ix3 0 j l) = x9 (ix3 0 q l) := by
  refine congrArg x9 (funext fun a => Fin.ext ?_)
  fin_cases a <;> simp [Rect.unit, ix3, hq]

section
variable (i : grid0.Coords) (x0 x1 : Vec Ideal S1x256x768 .f32) (x2 x3 : Vec Ideal S256x768 .f32) (x4 : Vec Ideal S256x512 .bf16) (x5 x6 : Vec Ideal S256x768 .bf16)
  (x7 x8 : Vec Ideal S256x2048 .f32) (x9 : Vec Ideal S1x2048x2048 .bf16) (x10 : Vec Ideal S1x768x2048 .bf16) (x11 x12 : Vec Ideal S1x768 .f32) (x13 : Vec Ideal S256x256 .bf16)
  (x14 : Vec Ideal S1x1x2048 .f32) (x15 : Vec Ideal S1x2048 .f32) (x16 x17 : Vec Ideal S1x1x2048 .f32)

/-- The recurrent and the pooled heads' block. -/
def accblk : FVec Ideal S256x2048 .f32 :=
  k0_pay14 (devblk x13 x0 x1) (sqblk x13 x0 x1) (k0_pay13 (F := Ideal)) x11 x12 x2 x3 (View.ld x9 r0_4) x4 (View.ld x9 r0_6)

theorem out18_eq : out0_18 (F := Ideal) i x0 x1 x2 x3 x4 x5 x6 x7 x8 x9 x10 x11 x12 x13 x14 x15 x16 x17
    = k0_pay16 (BitVec.ofNat 32 (i 0).val) (accblk x0 x1 x2 x3 x4 x9 x11 x12 x13) x6 x10 x7 x8 x14 := by
  unfold_out out0_18
  rw [View.canon_unit_zero hz2]
  simp only [View.ld_unit_zero (S := S256x256) hz2, View.ld_unit_zero (S := S1x256x768) hz3, View.ld_unit_zero (S := S1x768) hz2, View.ld_unit_zero (S := S256x768) hz2, View.ld_unit_zero (S := S256x512) hz2,
    View.ld_unit_zero (S := S1x768x2048) hz3, View.ld_unit_zero (S := S256x2048) hz2, View.ld_unit_zero (S := S1x1x2048) hz3, View.ld_unit_zero (S := S1x2048) hz2]
  rw [pay15_eq (i 0)]
  rfl

theorem out19_eq : out0_19 (F := Ideal) i x0 x1 x2 x3 x4 x5 x6 x7 x8 x9 x10 x11 x12 x13 x14 x15 x16 x17
    = k0_pay1 (k0_pay17 x16) (k0_pay18 x17) (k0_pay19 (BitVec.ofNat 32 (i 0).val) (accblk x0 x1 x2 x3 x4 x9 x11 x12 x13) x6 x10 x7 x8 x14 x15) (k0_pay20 (F := Ideal)) := by
  unfold_out out0_19
  rw [View.canon_unit_zero hz2]
  simp only [View.ld_unit_zero (S := S256x256) hz2, View.ld_unit_zero (S := S1x256x768) hz3, View.ld_unit_zero (S := S1x768) hz2, View.ld_unit_zero (S := S256x768) hz2, View.ld_unit_zero (S := S256x512) hz2,
    View.ld_unit_zero (S := S1x768x2048) hz3, View.ld_unit_zero (S := S256x2048) hz2, View.ld_unit_zero (S := S1x1x2048) hz3, View.ld_unit_zero (S := S1x2048) hz2]
  rw [pay15_eq (i 0)]
  rfl

/-- A column of a point's new row. -/
def xout (r : Fin 256) (q : Fin 2048) : EReal :=
  x8 (ix2 r q) + x14 (ix3 0 0 q)
    * ((∑ n : Fin 768, readout (yof x0 x1 r) (fun n => x11 (ix2 0 n)) (fun n => x12 (ix2 0 n)) (fun n => x2 (ix2 r n)) (fun n => x3 (ix2 r n)) n * x9 (ix3 0 ⟨n.val, by omega⟩ q))
      + (∑ n : Fin 512, x4 (ix2 r n) * x9 (ix3 0 ⟨768 + n.val, by omega⟩ q)) + ∑ n : Fin 768, x6 (ix2 r n) * x10 (ix3 0 n q))

variable (hh : ∀ l j : Fin 256, x13 (ix2 l j) = if l.val / 64 = j.val / 64 then 1 else 0) (r : Fin 256) (hy : Real' (yof x0 x1 r))
include hh hy

theorem x_apply (q : Fin 2048) : k0_pay16 (F := Ideal) (BitVec.ofNat 32 (i 0).val) (accblk x0 x1 x2 x3 x4 x9 x11 x12 x13) x6 x10 x7 x8 x14 (ix2 r q)
    = xout x0 x1 x2 x3 x4 x6 x8 x9 x10 x11 x12 x14 r q := by
  refine (pay16_apply (i 0) _ x6 x10 x7 x8 x14 r q).trans ?_
  unfold accblk xout
  rw [pay14_apply]
  refine congrArg (fun z : EReal => x8 (ix2 r q) + x14 (ix3 0 0 q) * (z + _)) (congrArg₂ (· + ·) ?_ ?_)
  · refine Finset.sum_congr rfl fun n _ => congrArg₂ (· * ·) ?_ (ld_w x9 0 768 _ n q ⟨n.val, by omega⟩ (by simp))
    unfold readout
    rw [devblk_apply x13 hh x0 x1 r hy, sqblk_apply x13 hh x0 x1 r hy, mul_inv]
  · exact Finset.sum_congr rfl fun n _ => congrArg₂ (· * ·) rfl (ld_w x9 768 512 _ n q ⟨768 + n.val, by omega⟩ rfl)

theorem out18_apply (q : Fin 2048) : out0_18 (F := Ideal) i x0 x1 x2 x3 x4 x5 x6 x7 x8 x9 x10 x11 x12 x13 x14 x15 x16 x17 (ix2 r q)
    = xout x0 x1 x2 x3 x4 x6 x8 x9 x10 x11 x12 x14 r q := by
  rw [out18_eq]
  exact x_apply i x0 x1 x2 x3 x4 x6 x7 x8 x9 x10 x11 x12 x13 x14 hh r hy q

theorem out19_apply (q : Fin 2048) : out0_19 (F := Ideal) i x0 x1 x2 x3 x4 x5 x6 x7 x8 x9 x10 x11 x12 x13 x14 x15 x16 x17 (ix2 r q)
    = normed (xout x0 x1 x2 x3 x4 x6 x8 x9 x10 x11 x12 x14 r) (fun l => x15 (ix2 0 l)) (fun l => x16 (ix3 0 0 l)) (fun l => x17 (ix3 0 0 l)) q := by
  rw [out19_eq]
  refine (pay1_apply (i 0) _ x6 x10 x7 x8 x14 x15 x16 x17 r q).trans ?_
  exact congrArg (fun z => normed z _ _ _ q) (funext fun q => x_apply i x0 x1 x2 x3 x4 x6 x7 x8 x9 x10 x11 x12 x13 x14 hh r hy q)
end

end Cert.Out1Ideal.Value

end
-- ==== Proof.Out1Lit.lean ====
module

public import proofs.«01_k».proof.Out1Ideal
public import Mathlib.Tactic.IntervalCases

@[expose] public section

set_option maxRecDepth 16384

noncomputable section

namespace Cert.Out1Ideal.Value

open Cert.Out1Ideal

set_option maxHeartbeats 8000000

/-! The table the head sums are taken with, 256 rows of 256 columns, is stored as matches over half rows, 128 of them to a quarter of the
rows, one quarter to each of the four heads. -/

/-- An entry of the half row `p` of a row of head `h`, at the column `j` of the half. -/
abbrev entry (h p j : Nat) : BitVec 16 := if h = 2 * p + j / 64 then 0x3F80#16 else 0#16

/-- What reads its argument modulo 128 only is a half row of head `h` when it is so at each column. -/
theorem half (f : Nat → BitVec 16) (h p : Nat) (hf : ∀ i, f i = f (i % 128)) (e : ∀ j < 128, f j = entry h p j) (i : Nat) : f i = entry h p (i % 128) :=
  (hf i).trans (e _ (Nat.mod_lt _ (by omega)))

theorem half00 (i : Nat) : lit0t0_0 i = entry 0 0 (i % 128) :=
  half lit0t0_0 0 0 (fun i => by unfold lit0t0_0; rw [Nat.mod_mod]) (by decide +kernel) i
theorem half01 (i : Nat) : lit0t0_1 i = entry 0 1 (i % 128) :=
  half lit0t0_1 0 1 (fun i => by unfold lit0t0_1; rw [Nat.mod_mod]) (by decide +kernel) i
theorem half10 (i : Nat) : lit0t0_128 i = entry 1 0 (i % 128) :=
  half lit0t0_128 1 0 (fun i => by unfold lit0t0_128; rw [Nat.mod_mod]) (by decide +kernel) i
theorem half11 (i : Nat) : lit0t0_129 i = entry 1 1 (i % 128) :=
  half lit0t0_129 1 1 (fun i => by unfold lit0t0_129; rw [Nat.mod_mod]) (by decide +kernel) i
theorem half20 (i : Nat) : lit0t0_256 i = entry 2 0 (i % 128) :=
  half lit0t0_256 2 0 (fun i => by unfold lit0t0_256; rw [Nat.mod_mod]) (by decide +kernel) i
theorem half21 (i : Nat) : lit0t0_257 i = entry 2 1 (i % 128) :=
  half lit0t0_257 2 1 (fun i => by unfold lit0t0_257; rw [Nat.mod_mod]) (by decide +kernel) i
theorem half30 (i : Nat) : lit0t0_384 i = entry 3 0 (i % 128) :=
  half lit0t0_384 3 0 (fun i => by unfold lit0t0_384; rw [Nat.mod_mod]) (by decide +kernel) i
theorem half31 (i : Nat) : lit0t0_385 i = entry 3 1 (i % 128) :=
  half lit0t0_385 3 1 (fun i => by unfold lit0t0_385; rw [Nat.mod_mod]) (by decide +kernel) i

theorem quarter0 (i : Nat) : lit0t1_0 i = entry 0 (i / 128 % 128 % 2) (i % 128) := by
  have h : i / 128 % 128 < 128 := Nat.mod_lt _ (by omega)
  unfold lit0t1_0
  generalize i / 128 % 128 = y at h ⊢
  interval_cases y <;> first | exact half00 i | exact half01 i
theorem quarter1 (i : Nat) : lit0t1_1 i = entry 1 (i / 128 % 128 % 2) (i % 128) := by
  have h : i / 128 % 128 < 128 := Nat.mod_lt _ (by omega)
  unfold lit0t1_1
  generalize i / 128 % 128 = y at h ⊢
  interval_cases y <;> first | exact half10 i | exact half11 i
theorem quarter2 (i : Nat) : lit0t1_2 i = entry 2 (i / 128 % 128 % 2) (i % 128) := by
  have h : i / 128 % 128 < 128 := Nat.mod_lt _ (by omega)
  unfold lit0t1_2
  generalize i / 128 % 128 = y at h ⊢
  interval_cases y <;> first | exact half20 i | exact half21 i
theorem quarter3 (i : Nat) : lit0t1_3 i = entry 3 (i / 128 % 128 % 2) (i % 128) := by
  have h : i / 128 % 128 < 128 := Nat.mod_lt _ (by omega)
  unfold lit0t1_3
  generalize i / 128 % 128 = y at h ⊢
  interval_cases y <;> first | exact half30 i | exact half31 i

theorem rows (i : Nat) (hi : i < 65536) : lit0t i = entry (i / 16384) (i / 128 % 128 % 2) (i % 128) := by
  have h : i / 16384 < 4 := by omega
  unfold lit0t
  generalize i / 16384 = x at h ⊢
  interval_cases x
  exacts [quarter0 i, quarter1 i, quarter2 i, quarter3 i]

/-- One where row and column are of the same head, zero elsewhere. -/
theorem table (a b : Fin 256) : lit0t (256 * a.val + b.val) = if a.val / 64 = b.val / 64 then 0x3F80#16 else 0#16 := by
  have e1 : (256 * a.val + b.val) / 16384 = a.val / 64 := by omega
  have e2 : (256 * a.val + b.val) / 128 % 128 % 2 = b.val / 128 := by omega
  have e3 : (256 * a.val + b.val) % 128 = b.val % 128 := by omega
  rw [rows _ (by omega), e1, e2, e3]
  unfold entry
  exact if_congr (by omega) rfl rfl

end Cert.Out1Ideal.Value

end
-- ==== Proof.Out1Host.lean ====
module

public import proofs.«01_k».proof.Proof.Out1Body
public import proofs.«01_k».proof.Proof.In0Arrays
public import proofs.«01_k».proof.Proof.Out1Lit

@[expose] public section

set_option maxRecDepth 16384

noncomputable section

namespace Cert.Out1Ideal.Value

open Cert.Out1Ideal Cert.Out1Ideal.Gen Idealize.ShloMosaic Idealize.ShloMosaic.TcCoe Idealize.SL.Sem
open Idealize.ShloMosaic.Pipeline (Dat)
open Cert.In0Ideal.Value (modArr gArr gArr_apply)
open Cert.Out1Math

variable (m : (ℓ : Loc nD τ sig) → Buf (Elt Ideal) ℓ)

abbrev A0 (c : Dev nD) : FVec Ideal S2x4352x768 .f32 := m ((c : Thread nD τ).loc main_arg0)
abbrev A1 (c : Dev nD) : FVec Ideal S2x4352x768 .f32 := m ((c : Thread nD τ).loc main_arg1)
abbrev A2 (c : Dev nD) : FVec Ideal S8704x768 .f32 := m ((c : Thread nD τ).loc main_arg2)
abbrev A3 (c : Dev nD) : FVec Ideal S8704x768 .f32 := m ((c : Thread nD τ).loc main_arg3)
abbrev A4 (c : Dev nD) : FVec Ideal S8704x512 .bf16 := m ((c : Thread nD τ).loc main_arg4)
abbrev A5 (c : Dev nD) : FVec Ideal S2x4096x768 .f32 := m ((c : Thread nD τ).loc main_arg5)
abbrev A6 (c : Dev nD) : FVec Ideal S8704x2048 .f32 := m ((c : Thread nD τ).loc main_arg6)
abbrev A7 (c : Dev nD) : FVec Ideal S2x2048x2048 .f32 := m ((c : Thread nD τ).loc main_arg7)
abbrev A8 (c : Dev nD) : FVec Ideal S768 .f32 := m ((c : Thread nD τ).loc main_arg8)
abbrev A9 (c : Dev nD) : FVec Ideal S768 .f32 := m ((c : Thread nD τ).loc main_arg9)
abbrev A10 (c : Dev nD) : FVec Ideal S2048 .f32 := m ((c : Thread nD τ).loc main_arg10)
abbrev A11 (c : Dev nD) : FVec Ideal S2x8x12288 .f32 := m ((c : Thread nD τ).loc main_arg11)

theorem idx_val : ∀ t : Fin cfg0.N, win0_0.index t = ![t.val / 16, t.val % 16 + 1, 0] ∧ win0_1.index t = ![t.val / 16, t.val % 16 + 1, 0]
    ∧ win0_2.index t = ![t.val + 2, 0] ∧ win0_3.index t = ![t.val + 2, 0] ∧ win0_4.index t = ![t.val + 2, 0] ∧ win0_6.index t = ![t.val, 0] ∧ win0_8.index t = ![t.val + 2, 0]
    ∧ win0_9.index t = ![1, 0, 0] ∧ win0_10.index t = ![1, 0, 0] ∧ win0_11.index t = ![0, 0] ∧ win0_12.index t = ![0, 0] ∧ win0_13.index t = ![0, 0]
    ∧ win0_14.index t = ![48 + 6 * (t.val / 16 + 1) + 2, 0, 0] ∧ win0_15.index t = ![0, 0] ∧ win0_16.index t = ![48 + 6 * (t.val / 16 + 1) + 4, 0, 0]
    ∧ win0_17.index t = ![48 + 6 * (t.val / 16 + 1) + 3, 0, 0] ∧ win0_18.index t = ![t.val, 0] ∧ win0_19.index t = ![t.val, 0] :=
  (by decide +kernel : ∀ t : Fin grid0.N, _)

/-! ## The host's arrays -/

def wArr (a : FVec Ideal S2x2048x2048 .f32) : FVec Ideal S2x2048x2048 .bf16 := truncf .bf16 a bitsLt_bf16_f32
/-- The attention's rows of the weights, the group's number ahead of the key head's. -/
def waArr (a : FVec Ideal S2x2048x2048 .f32) : FVec Ideal S2x768x2048 .bf16 :=
  shapeCast S2x768x2048 (transpose S2x3x4x64x2048 [0, 2, 1, 3, 4] (shapeCast S2x4x3x64x2048
    (extractStridedSlice S2x768x2048 ![0, 1280, 0] (wArr a) slices_S2x2048x2048_S2x768x2048_0_1280_0) shapeCasts_S2x768x2048_S2x4x3x64x2048)
    transposes_S2x4x3x64x2048_S2x3x4x64x2048_0_2_1_3_4) shapeCasts_S2x3x4x64x2048_S2x768x2048
/-- The attention's columns, in the same order. -/
def yaArr (a : FVec Ideal S2x4096x768 .f32) : FVec Ideal S8192x768 .bf16 :=
  truncf .bf16 (shapeCast S8192x768 (transpose S8192x3x4x64 [0, 2, 1, 3] (shapeCast S8192x4x3x64 a shapeCasts_S2x4096x768_S8192x4x3x64)
    transposes_S8192x4x3x64_S8192x3x4x64_0_2_1_3) shapeCasts_S8192x3x4x64_S8192x768 : FVec Ideal S8192x768 .f32) bitsLt_bf16_f32
def lArr (a : FVec Ideal S768 .f32) : FVec Ideal S1x768 .f32 := shapeCast S1x768 a shapeCasts_S768_S1x768
def hsArr : FVec Ideal S256x256 .bf16 := fun i => Ideal.ofBits .bf16 (lit0 (S256x256.rowMajor i))

theorem mod_apply (a : FVec Ideal S2x8x12288 .f32) (g : Fin 8) (s : Fin 6) (k : Fin 2048) (q : Fin 12288) (hq : q.val = 2048 * s.val + k.val) :
    modArr a (ix3 ⟨48 + 6 * g.val + s.val, by omega⟩ 0 k) = a (ix3 1 g q) := by
  pointwise [modArr]
  blk_ext
theorem wArr_apply (a : FVec Ideal S2x2048x2048 .f32) (n q : Fin 2048) : wArr a (ix3 1 n q) = a (ix3 1 n q) := by
  pointwise [wArr]
theorem waArr_apply (a : FVec Ideal S2x2048x2048 .f32) (n : Fin 768) (q : Fin 2048) : waArr a (ix3 1 n q) = a (ix3 1 ⟨1280 + (regroup n).val, by omega⟩ q) := by
  pointwise [waArr, wArr]
  unfold regroup
  blk_ext
theorem yaArr_apply (a : FVec Ideal S2x4096x768 .f32) (b : Fin 2) (p : Fin 4096) (R : Fin 8192) (hR : R.val = 4096 * b.val + p.val) (n : Fin 768) :
    yaArr a (ix2 R n) = a (ix3 b p (regroup n)) := by
  pointwise [yaArr]
  unfold regroup
  blk_ext
theorem lArr_apply (a : FVec Ideal S768 .f32) (n : Fin 768) : lArr a (ix2 0 n) = a (ix1 n) := by
  pointwise [lArr]
theorem hsArr_apply (l j : Fin 256) : hsArr (ix2 l j) = if l.val / 64 = j.val / 64 then 1 else 0 := by
  have e : (S256x256.rowMajor (ix2 l j)).val = 256 * l.val + j.val := by
    rw [Shape.rowMajor_val_two]
    show l.val * 256 + j.val = _
    omega
  have e2 : lit0 (S256x256.rowMajor (ix2 l j)) = lit0t (256 * l.val + j.val) := by
    show lit0t (S256x256.rowMajor (ix2 l j)).val = _
    rw [e]
  unfold hsArr
  rw [e2, table l j]
  by_cases h : l.val / 64 = j.val / 64
  · rw [if_pos h, if_pos h, bits_one]
  · rw [if_neg h, if_neg h, bits_zero]

theorem Vmod (c : Dev nD) : V m c main_v0 = modArr (A11 m c) := by
  show StableHlo.after hostOps0 (fun b => m (c, b)) (Proc.devRef .tc main_v0) = _
  simp only [hostOps0]
  after_results
  rfl
theorem Vw (c : Dev nD) : V m c main_v1 = wArr (A7 m c) := by
  show StableHlo.after hostOps0 (fun b => m (c, b)) (Proc.devRef .tc main_v1) = _
  simp only [hostOps0]
  after_results
  rfl
theorem Vwa (c : Dev nD) : V m c main_v5 = waArr (A7 m c) := by
  show StableHlo.after hostOps0 (fun b => m (c, b)) (Proc.devRef .tc main_v5) = _
  simp only [hostOps0]
  after_results
  rfl
theorem Vya (c : Dev nD) : V m c main_v9 = yaArr (A5 m c) := by
  show StableHlo.after hostOps0 (fun b => m (c, b)) (Proc.devRef .tc main_v9) = _
  simp only [hostOps0]
  after_results
  rfl
theorem Vlg (c : Dev nD) : V m c main_v10 = lArr (A8 m c) := by
  show StableHlo.after hostOps0 (fun b => m (c, b)) (Proc.devRef .tc main_v10) = _
  simp only [hostOps0]
  after_results
  rfl
theorem Vlb (c : Dev nD) : V m c main_v11 = lArr (A9 m c) := by
  show StableHlo.after hostOps0 (fun b => m (c, b)) (Proc.devRef .tc main_v11) = _
  simp only [hostOps0]
  after_results
  rfl
theorem Vng (c : Dev nD) : V m c main_v12 = gArr (A10 m c) := by
  show StableHlo.after hostOps0 (fun b => m (c, b)) (Proc.devRef .tc main_v12) = _
  simp only [hostOps0]
  after_results
  rfl
theorem Vhs (c : Dev nD) : V m c main_cst = hsArr := by
  show StableHlo.after hostOps0 (fun b => m (c, b)) (Proc.devRef .tc main_cst) = _
  simp only [hostOps0]
  after_results
  rfl

end Cert.Out1Ideal.Value

end
-- ==== Proof.Out1Ref.lean ====
module

public import proofs.«01_k».proof.Proof.In0Ref
public import proofs.«01_k».proof.Proof.Out1Math
public import proofs.«01_k».proof.Proof.Gen.Out1RefIdeal.Read
public import Idealize.ShloMosaic.Lib.Pipeline.ValueKit

@[expose] public section

set_option maxRecDepth 16384

noncomputable section

namespace Cert.Out1RefIdeal.Point

open Cert.Out1RefIdeal Cert.Out1RefIdeal.Read Idealize.ShloMosaic Idealize.ShloMosaic.TcCoe Idealize.SL.Sem
open Cert.Out1Math (hsum dev readout joined)
open Cert.In0RefIdeal.Point (normed)

variable (x0 x1 : FVec Ideal S2x4352x768 .f32) (x2 x3 : FVec Ideal S8704x768 .f32) (x4 : FVec Ideal S8704x512 .bf16) (x5 : FVec Ideal S2x4096x768 .f32)
  (x6 : FVec Ideal S8704x2048 .f32) (x7 : FVec Ideal S2x2048x2048 .f32) (x8 x9 : FVec Ideal S768 .f32) (x10 : FVec Ideal S2048 .f32) (x11 : FVec Ideal S2x8x12288 .f32)

/-- The two directions' outputs added, at a row of a batch. -/
def ysum (b : Fin 2) (p : Fin 4096) (n : Fin 768) : EReal := x0 (ix3 b ⟨256 + p.val, by omega⟩ n) + x1 (ix3 b ⟨256 + p.val, by omega⟩ n)

/-- A row of a batch among the rows of the context and the batches. -/
def lrow (b : Fin 2) (p : Fin 4096) : Fin 8704 := ⟨512 + (4096 * b.val + p.val), by omega⟩

/-- The recurrent heads' row, read out. -/
def yrow (b : Fin 2) (p : Fin 4096) : Fin 768 → EReal :=
  readout (ysum x0 x1 b p) (fun n => x8 (ix1 n)) (fun n => x9 (ix1 n)) (fun n => x2 (ix2 (lrow b p) n)) (fun n => x3 (ix2 (lrow b p) n))

/-- A column of the layer's new row. -/
def xnew (b : Fin 2) (p : Fin 4096) (q : Fin 2048) : EReal :=
  x6 (ix2 (lrow b p) q) + x11 (ix3 1 ⟨1 + b.val, by omega⟩ ⟨4096 + q.val, by omega⟩)
    * ∑ n : Fin 2048, joined (yrow x0 x1 x2 x3 x8 x9 b p) (fun n => x4 (ix2 (lrow b p) n)) (fun n => x5 (ix3 b p n)) n * x7 (ix3 1 n q)

/-- A column of the row the feed-forward part takes. -/
def hnew (b : Fin 2) (p : Fin 4096) (q : Fin 2048) : EReal :=
  normed (xnew x0 x1 x2 x3 x4 x5 x6 x7 x8 x9 x11 b p) (fun l => x10 (ix1 l)) (fun l => x11 (ix3 1 ⟨1 + b.val, by omega⟩ ⟨8192 + l.val, by omega⟩)) (fun l => x11 (ix3 1 ⟨1 + b.val, by omega⟩ ⟨6144 + l.val, by omega⟩)) q

theorem v6 (b : Fin 2) (p : Fin 4096) (h : Fin 12) (d : Fin 64) :
    val_main_v6 (F := Ideal) x0 x1 (ix4 b p h d) = ysum x0 x1 b p ⟨64 * h.val + d.val, by omega⟩ := by
  unfold ysum
  pointwise [val_main_v6, val_main_v5, val_main_v4, val_main_v3, val_main_v2, val_main_v1, val_main_v0, val_main_cst]
  refine congrArg₂ (· + ·) ?_ ?_ <;> blk_ext

theorem v16 (b : Fin 2) (p : Fin 4096) (h : Fin 12) (d : Fin 64) :
    val_main_v16 (F := Ideal) x0 x1 (ix4 b p h d) = dev (ysum x0 x1 b p) ⟨64 * h.val + d.val, by omega⟩ := by
  have e : (64 * h.val + d.val) / 64 = h.val := by omega
  unfold dev hsum
  pointwise [val_main_v16, val_main_v15, val_main_v14, val_main_v13, val_main_v12, val_main_v11, val_main_cst_0, val_main_cst_1]
  simp only [v6, e]

theorem v23 (b : Fin 2) (p : Fin 4096) (h : Fin 12) (d : Fin 64) :
    val_main_v23 (F := Ideal) x0 x1 (ix4 b p h d) = val_main_v16 (F := Ideal) x0 x1 (ix4 b p h d) := rfl

theorem v28 (b : Fin 2) (p : Fin 4096) (h : Fin 12) (d : Fin 64) (n : Fin 768) (hn : n.val = 64 * h.val + d.val) :
    val_main_v28 (F := Ideal) x0 x1 (ix4 b p h d) = dev (ysum x0 x1 b p) n * Ideal.rsqrt (Ideal.div (hsum (fun n => dev (ysum x0 x1 b p) n * dev (ysum x0 x1 b p) n) n) (Ideal.ofBits .f32 0x42800000#32) + Ideal.ofBits .f32 0x3A27C5AC#32) := by
  have e : n.val / 64 = h.val := by omega
  have e2 : n = ⟨64 * h.val + d.val, by omega⟩ := Fin.ext hn
  have e3 : (64 * h.val + d.val) / 64 = h.val := by omega
  unfold hsum
  pointwise [val_main_v28, val_main_v27, val_main_v26, val_main_v25, val_main_v24, val_main_v21, val_main_v20, val_main_v19, val_main_v18, val_main_v17, val_main_cst_2, val_main_cst_3, val_main_cst_4]
  simp only [v23, v16, e2, e3]

theorem v38 (b : Fin 2) (p : Fin 4096) (n : Fin 768) :
    val_main_v38 (F := Ideal) x0 x1 x2 x3 x8 x9 (ix3 b p n) = yrow x0 x1 x2 x3 x8 x9 b p n := by
  have e : val_main_v29 (F := Ideal) x0 x1 (ix3 b p n) = val_main_v28 (F := Ideal) x0 x1 (ix4 b p ⟨n.val / 64, by omega⟩ ⟨n.val % 64, by omega⟩) := by
    pointwise [val_main_v29]
    blk_ext
  have e2 : val_main_v36 (F := Ideal) x2 (ix3 b p n) = x2 (ix2 (lrow b p) n) := by
    unfold lrow
    pointwise [val_main_v36, val_main_v8, val_main_v7]
    blk_ext
  have e3 : val_main_v10 (F := Ideal) x3 (ix3 b p n) = x3 (ix2 (lrow b p) n) := by
    unfold lrow
    pointwise [val_main_v10, val_main_v9]
    blk_ext
  unfold yrow readout
  rw [← v28 x0 x1 b p ⟨n.val / 64, by omega⟩ ⟨n.val % 64, by omega⟩ n (by dsimp only; omega), ← e]
  dsimp only
  rw [← e2, ← e3]
  pointwise [val_main_v38, val_main_v37, val_main_v35, val_main_v34, val_main_v33, val_main_v32, val_main_v31, val_main_v30]

theorem v53 (b : Fin 2) (p : Fin 4096) (n : Fin 2048) :
    val_main_v53 (F := Ideal) x0 x1 x2 x3 x4 x5 x8 x9 (ix3 b p n)
      = joined (yrow x0 x1 x2 x3 x8 x9 b p) (fun n => x4 (ix2 (lrow b p) n)) (fun n => x5 (ix3 b p n)) n := by
  have e3 (n : Fin 512) : val_main_v52 (F := Ideal) x4 (ix3 b p n) = x4 (ix2 (lrow b p) n) := by
    unfold lrow
    pointwise [val_main_v52, val_main_v40, val_main_v39]
    blk_ext
  unfold joined
  simp only [← v38, ← e3]
  pointwise [val_main_v53]

theorem v59 (b : Fin 2) (p : Fin 4096) (q : Fin 2048) :
    val_main_v59 (F := Ideal) x0 x1 x2 x3 x4 x5 x6 x7 x8 x9 x11 (ix3 b p q) = xnew x0 x1 x2 x3 x4 x5 x6 x7 x8 x9 x11 b p q := by
  have e3 : val_main_v42 (F := Ideal) x6 (ix3 b p q) = x6 (ix2 (lrow b p) q) := by
    unfold lrow
    pointwise [val_main_v42, val_main_v41]
    blk_ext
  unfold xnew
  rw [← e3]
  simp only [← v53]
  pointwise [val_main_v59, val_main_v58, val_main_v57, val_main_v56, val_main_v55, val_main_v54, val_main_v48, val_main_v45, val_main_v44, val_main_v43]

theorem v78 (b : Fin 2) (p : Fin 4096) (q : Fin 2048) :
    val_main_v78 (F := Ideal) x0 x1 x2 x3 x4 x5 x6 x7 x8 x9 x10 x11 (ix3 b p q) = hnew x0 x1 x2 x3 x4 x5 x6 x7 x8 x9 x10 x11 b p q := by
  unfold hnew normed
  simp only [← v59]
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v50, val_main_v49, val_main_v45, val_main_v44, val_main_v43, val_main_cst_5, val_main_cst_6, val_main_cst_7, val_main_cst_8]

theorem v79 (b : Fin 2) (p : Fin 4096) (q : Fin 2048) (r : Fin 8192) (hr : r.val = 4096 * b.val + p.val) :
    val_main_v79 (F := Ideal) x0 x1 x2 x3 x4 x5 x6 x7 x8 x9 x11 (ix2 r q) = xnew x0 x1 x2 x3 x4 x5 x6 x7 x8 x9 x11 b p q := by
  rw [← v59]
  pointwise [val_main_v79]
  blk_ext

theorem v81 (b : Fin 2) (p : Fin 4096) (q : Fin 2048) (r : Fin 8192) (hr : r.val = 4096 * b.val + p.val) :
    val_main_v81 (F := Ideal) x0 x1 x2 x3 x4 x5 x6 x7 x8 x9 x10 x11 (ix2 r q) = hnew x0 x1 x2 x3 x4 x5 x6 x7 x8 x9 x10 x11 b p q := by
  rw [← v78]
  pointwise [val_main_v81, val_main_v80]
  blk_ext

end Cert.Out1RefIdeal.Point

end
-- ==== Proof.Out1Value.lean ====
module

public import proofs.«01_k».proof.Proof.Out1Host
public import proofs.«01_k».proof.Proof.Out1Ref

@[expose] public section

set_option maxRecDepth 16384

noncomputable section

namespace Cert.Out1Ideal.Value

open Cert.Out1Ideal Cert.Out1Ideal.Gen Idealize.ShloMosaic Idealize.ShloMosaic.TcCoe Idealize.SL.Sem
open Idealize.ShloMosaic.Pipeline (Dat)
open Cert.In0Ideal.Value (modArr gArr gArr_apply)
open Cert.Out1Math
open Cert.Out1RefIdeal.Point (ysum lrow yrow xnew hnew)
open Cert.Out1RefIdeal.Read (val_main_v79 val_main_v81)

variable (m : (ℓ : Loc nD τ sig) → Buf (Elt Ideal) ℓ)

/-! ## The input blocks, read as elements of the arguments -/

section
variable (c : Dev nD) (t : Fin cfg0.N) (b : Fin 2) (p : Fin 4096) (r : Fin 256) (hb : b.val = t.val / 16) (hp : p.val = 256 * (t.val % 16) + r.val)
include hb hp

theorem blk0 (n : Fin 768) : iblk m c 0 t (ix3 0 r n) = A0 m c (ix3 b ⟨256 + p.val, by omega⟩ n) := by
  refine Eq.trans (b := V m c main_arg0 (ix3 b ⟨256 + p.val, by omega⟩ n)) ?_ (congrFun (V_main_arg0 m c) _)
  blk_point [iblk, idx_val t]
theorem blk1 (n : Fin 768) : iblk m c 1 t (ix3 0 r n) = A1 m c (ix3 b ⟨256 + p.val, by omega⟩ n) := by
  refine Eq.trans (b := V m c main_arg1 (ix3 b ⟨256 + p.val, by omega⟩ n)) ?_ (congrFun (V_main_arg1 m c) _)
  blk_point [iblk, idx_val t]
theorem blk2 (n : Fin 768) : iblk m c 2 t (ix2 r n) = A2 m c (ix2 (lrow b p) n) := by
  refine Eq.trans (b := V m c main_arg2 (ix2 (lrow b p) n)) ?_ (congrFun (V_main_arg2 m c) _)
  unfold lrow
  blk_point [iblk, idx_val t]
theorem blk3 (n : Fin 768) : iblk m c 3 t (ix2 r n) = A3 m c (ix2 (lrow b p) n) := by
  refine Eq.trans (b := V m c main_arg3 (ix2 (lrow b p) n)) ?_ (congrFun (V_main_arg3 m c) _)
  unfold lrow
  blk_point [iblk, idx_val t]
theorem blk4 (n : Fin 512) : iblk m c 4 t (ix2 r n) = A4 m c (ix2 (lrow b p) n) := by
  refine Eq.trans (b := V m c main_arg4 (ix2 (lrow b p) n)) ?_ (congrFun (V_main_arg4 m c) _)
  unfold lrow
  blk_point [iblk, idx_val t]
theorem blk6 (n : Fin 768) : iblk m c 6 t (ix2 r n) = A5 m c (ix3 b p (regroup n)) := by
  refine Eq.trans (b := V m c main_v9 (ix2 ⟨4096 * b.val + p.val, by omega⟩ n)) ?_ ?_
  · blk_point [iblk, idx_val t]
  · rw [Vya]
    exact yaArr_apply _ b p _ rfl n
theorem blk8 (q : Fin 2048) : iblk m c 8 t (ix2 r q) = A6 m c (ix2 (lrow b p) q) := by
  refine Eq.trans (b := V m c main_arg6 (ix2 (lrow b p) q)) ?_ (congrFun (V_main_arg6 m c) _)
  unfold lrow
  blk_point [iblk, idx_val t]
end

section
variable (c : Dev nD) (t : Fin cfg0.N)

theorem blk9 (n q : Fin 2048) : iblk m c 9 t (ix3 0 n q) = A7 m c (ix3 1 n q) := by
  refine Eq.trans (b := V m c main_v1 (ix3 1 n q)) ?_ ?_
  · blk_point [iblk, idx_val t]
  · rw [Vw]
    exact wArr_apply ..
theorem blk10 (n : Fin 768) (q : Fin 2048) : iblk m c 10 t (ix3 0 n q) = A7 m c (ix3 1 ⟨1280 + (regroup n).val, by omega⟩ q) := by
  refine Eq.trans (b := V m c main_v5 (ix3 1 n q)) ?_ ?_
  · blk_point [iblk, idx_val t]
  · rw [Vwa]
    exact waArr_apply ..
theorem blk11 (n : Fin 768) : iblk m c 11 t (ix2 0 n) = A8 m c (ix1 n) := by
  refine Eq.trans (b := V m c main_v10 (ix2 0 n)) ?_ ?_
  · blk_point [iblk, idx_val t]
  · rw [Vlg]
    exact lArr_apply ..
theorem blk12 (n : Fin 768) : iblk m c 12 t (ix2 0 n) = A9 m c (ix1 n) := by
  refine Eq.trans (b := V m c main_v11 (ix2 0 n)) ?_ ?_
  · blk_point [iblk, idx_val t]
  · rw [Vlb]
    exact lArr_apply ..
theorem blk13 (l j : Fin 256) : iblk m c 13 t (ix2 l j) = (if l.val / 64 = j.val / 64 then 1 else 0 : EReal) := by
  refine Eq.trans (b := V m c main_cst (ix2 l j)) ?_ ?_
  · blk_point [iblk, idx_val t]
  · rw [Vhs]
    exact hsArr_apply ..
theorem blk15 (k : Fin 2048) : iblk m c 15 t (ix2 0 k) = A10 m c (ix1 k) := by
  refine Eq.trans (b := V m c main_v12 (ix2 0 k)) ?_ ?_
  · blk_point [iblk, idx_val t]
  · rw [Vng]
    exact gArr_apply ..

variable (b : Fin 2) (hb : b.val = t.val / 16)
include hb

theorem blk14 (k : Fin 2048) : iblk m c 14 t (ix3 0 0 k) = A11 m c (ix3 1 ⟨1 + b.val, by omega⟩ ⟨4096 + k.val, by omega⟩) := by
  refine Eq.trans (b := V m c main_v0 (ix3 ⟨48 + 6 * (⟨1 + b.val, by omega⟩ : Fin 8).val + (2 : Fin 6).val, by have := (2 : Fin 6).isLt; dsimp only; omega⟩ 0 k)) ?_ ?_
  · have h1 : (2 : Fin 6).val = 2 := rfl
    blk_point [iblk, idx_val t]
  · rw [Vmod]
    exact mod_apply _ ⟨1 + b.val, by omega⟩ 2 k _ rfl
theorem blk16 (k : Fin 2048) : iblk m c 16 t (ix3 0 0 k) = A11 m c (ix3 1 ⟨1 + b.val, by omega⟩ ⟨8192 + k.val, by omega⟩) := by
  refine Eq.trans (b := V m c main_v0 (ix3 ⟨48 + 6 * (⟨1 + b.val, by omega⟩ : Fin 8).val + (4 : Fin 6).val, by have := (4 : Fin 6).isLt; dsimp only; omega⟩ 0 k)) ?_ ?_
  · have h1 : (4 : Fin 6).val = 4 := rfl
    blk_point [iblk, idx_val t]
  · rw [Vmod]
    exact mod_apply _ ⟨1 + b.val, by omega⟩ 4 k _ rfl
theorem blk17 (k : Fin 2048) : iblk m c 17 t (ix3 0 0 k) = A11 m c (ix3 1 ⟨1 + b.val, by omega⟩ ⟨6144 + k.val, by omega⟩) := by
  refine Eq.trans (b := V m c main_v0 (ix3 ⟨48 + 6 * (⟨1 + b.val, by omega⟩ : Fin 8).val + (3 : Fin 6).val, by have := (3 : Fin 6).isLt; dsimp only; omega⟩ 0 k)) ?_ ?_
  · have h1 : (3 : Fin 6).val = 3 := rfl
    blk_point [iblk, idx_val t]
  · rw [Vmod]
    exact mod_apply _ ⟨1 + b.val, by omega⟩ 3 k _ rfl
end

/-- The two directions' outputs past the context are real numbers. -/
structure Finite (c : Dev nD) : Prop where
  f : ∀ (b : Fin 2) (p : Fin 4096) (n : Fin 768), ∃ y : ℝ, A0 m c (ix3 b ⟨256 + p.val, by omega⟩ n) = (y : EReal)
  b : ∀ (b : Fin 2) (p : Fin 4096) (n : Fin 768), ∃ y : ℝ, A1 m c (ix3 b ⟨256 + p.val, by omega⟩ n) = (y : EReal)

section
variable (c : Dev nD) (hfin : Finite m c) (t : Fin cfg0.N) (b : Fin 2) (p : Fin 4096) (r : Fin 256) (hb : b.val = t.val / 16) (hp : p.val = 256 * (t.val % 16) + r.val)
include hb hp

theorem yof_eq : yof (iblk m c 0 t) (iblk m c 1 t) r = ysum (A0 m c) (A1 m c) b p :=
  funext fun n => congrArg₂ (· + ·) (blk0 m c t b p r hb hp n) (blk1 m c t b p r hb hp n)

theorem xout_eq (q : Fin 2048) :
    xout (iblk m c 0 t) (iblk m c 1 t) (iblk m c 2 t) (iblk m c 3 t) (iblk m c 4 t) (iblk m c 6 t) (iblk m c 8 t) (iblk m c 9 t) (iblk m c 10 t) (iblk m c 11 t) (iblk m c 12 t) (iblk m c 14 t) r q
      = xnew (A0 m c) (A1 m c) (A2 m c) (A3 m c) (A4 m c) (A5 m c) (A6 m c) (A7 m c) (A8 m c) (A9 m c) (A11 m c) b p q := by
  have e0 : ∀ n : Fin 768, readout (yof (iblk m c 0 t) (iblk m c 1 t) r) (fun n => iblk m c 11 t (ix2 0 n)) (fun n => iblk m c 12 t (ix2 0 n)) (fun n => iblk m c 2 t (ix2 r n)) (fun n => iblk m c 3 t (ix2 r n)) n
      = yrow (A0 m c) (A1 m c) (A2 m c) (A3 m c) (A8 m c) (A9 m c) b p n := fun n => by
    rw [yof_eq m c t b p r hb hp, funext (blk11 m c t), funext (blk12 m c t), funext (blk2 m c t b p r hb hp), funext (blk3 m c t b p r hb hp)]
    rfl
  refine congrArg₂ (fun y z : EReal => y + z) (blk8 m c t b p r hb hp q) (congrArg₂ (fun y z : EReal => y * z) (blk14 m c t b hb q) ?_)
  refine Eq.trans ?_ (sum_joined (yrow (A0 m c) (A1 m c) (A2 m c) (A3 m c) (A8 m c) (A9 m c) b p) (fun n => A4 m c (ix2 (lrow b p) n)) (fun n => A5 m c (ix3 b p n)) fun n => A7 m c (ix3 1 n q)).symm
  refine congrArg₂ (fun y z : EReal => y + z) (congrArg₂ (fun y z : EReal => y + z) (Finset.sum_congr rfl fun n _ => ?_) (Finset.sum_congr rfl fun n _ => ?_)) ?_
  · exact congrArg₂ (fun y z : EReal => y * z) (e0 n) (blk9 m c t _ q)
  · exact congrArg₂ (fun y z : EReal => y * z) (blk4 m c t b p r hb hp n) (blk9 m c t _ q)
  · refine Eq.trans (Finset.sum_congr rfl fun n _ => ?_) (sum_regroup fun k => A5 m c (ix3 b p k) * A7 m c (ix3 1 ⟨1280 + k.val, by omega⟩ q))
    exact congrArg₂ (fun y z : EReal => y * z) (blk6 m c t b p r hb hp n) (blk10 m c t n q)

include hfin

theorem yof_real : Real' (yof (iblk m c 0 t) (iblk m c 1 t) r) := by
  rw [yof_eq m c t b p r hb hp]
  intro n
  obtain ⟨x, hx⟩ := hfin.f b p n
  obtain ⟨y, hy⟩ := hfin.b b p n
  exact ⟨x + y, by unfold ysum; rw [hx, hy, ← EReal.coe_add]⟩

theorem at18 (q : Fin 2048) :
    out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r q)
      = xnew (A0 m c) (A1 m c) (A2 m c) (A3 m c) (A4 m c) (A5 m c) (A6 m c) (A7 m c) (A8 m c) (A9 m c) (A11 m c) b p q :=
  (out18_apply (grid0.coords t) _ _ _ _ _ _ _ _ _ _ _ _ _ _ _ _ _ _ (blk13 m c t) r (yof_real m c hfin t b p r hb hp) q).trans (xout_eq m c t b p r hb hp q)

theorem at19 (q : Fin 2048) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r q)
      = hnew (A0 m c) (A1 m c) (A2 m c) (A3 m c) (A4 m c) (A5 m c) (A6 m c) (A7 m c) (A8 m c) (A9 m c) (A10 m c) (A11 m c) b p q := by
  refine (out19_apply (grid0.coords t) _ _ _ _ _ _ _ _ _ _ _ _ _ _ _ _ _ _ (blk13 m c t) r (yof_real m c hfin t b p r hb hp) q).trans ?_
  rw [funext (xout_eq m c t b p r hb hp)]
  unfold hnew
  simp only [blk15 m c t, blk16 m c t b hb, blk17 m c t b hb]
end

/-! ## The launch's results -/

theorem final18 (c : Dev nD) (hfin : Finite m c) : (dats m 0 c).arrAt 18 (cfgs 0).N
    = val_main_v79 (F := Ideal) (A0 m c) (A1 m c) (A2 m c) (A3 m c) (A4 m c) (A5 m c) (A6 m c) (A7 m c) (A8 m c) (A9 m c) (A11 m c) := by
  refine (dats m 0 c).arrAt_eq_of_covers 18 _ (by decide +kernel) fun t hf y => ?_
  blk_simp
  rw [after0_18]
  have ht : t.val < 32 := lt_of_lt_of_eq t.isLt N_0
  obtain ⟨r, q, rfl⟩ : ∃ (r : Fin 256) (q : Fin 2048), y = ix2 r q := ⟨y 0, y 1, eq_ix2 y⟩
  obtain ⟨b, hb⟩ : ∃ b : Fin 2, b.val = t.val / 16 := ⟨⟨t.val / 16, by omega⟩, rfl⟩
  obtain ⟨p, hp⟩ : ∃ p : Fin 4096, p.val = 256 * (t.val % 16) + r.val := ⟨⟨256 * (t.val % 16) + r.val, by omega⟩, rfl⟩
  obtain ⟨R, hR⟩ : ∃ R : Fin 8192, R.val = t.val * 256 + r.val := ⟨⟨t.val * 256 + r.val, by omega⟩, rfl⟩
  rw [at18 m c hfin t b p r hb hp q, ← Cert.Out1RefIdeal.Point.v79 (A0 m c) (A1 m c) (A2 m c) (A3 m c) (A4 m c) (A5 m c) (A6 m c) (A7 m c) (A8 m c) (A9 m c) (A11 m c) b p q R (by omega)]
  blk_ext [idx_val t]

theorem final19 (c : Dev nD) (hfin : Finite m c) : (dats m 0 c).arrAt 19 (cfgs 0).N
    = val_main_v81 (F := Ideal) (A0 m c) (A1 m c) (A2 m c) (A3 m c) (A4 m c) (A5 m c) (A6 m c) (A7 m c) (A8 m c) (A9 m c) (A10 m c) (A11 m c) := by
  refine (dats m 0 c).arrAt_eq_of_covers 19 _ (by decide +kernel) fun t hf y => ?_
  blk_simp
  rw [after0_19]
  have ht : t.val < 32 := lt_of_lt_of_eq t.isLt N_0
  obtain ⟨r, q, rfl⟩ : ∃ (r : Fin 256) (q : Fin 2048), y = ix2 r q := ⟨y 0, y 1, eq_ix2 y⟩
  obtain ⟨b, hb⟩ : ∃ b : Fin 2, b.val = t.val / 16 := ⟨⟨t.val / 16, by omega⟩, rfl⟩
  obtain ⟨p, hp⟩ : ∃ p : Fin 4096, p.val = 256 * (t.val % 16) + r.val := ⟨⟨256 * (t.val % 16) + r.val, by omega⟩, rfl⟩
  obtain ⟨R, hR⟩ : ∃ R : Fin 8192, R.val = t.val * 256 + r.val := ⟨⟨t.val * 256 + r.val, by omega⟩, rfl⟩
  rw [at19 m c hfin t b p r hb hp q, ← Cert.Out1RefIdeal.Point.v81 (A0 m c) (A1 m c) (A2 m c) (A3 m c) (A4 m c) (A5 m c) (A6 m c) (A7 m c) (A8 m c) (A9 m c) (A10 m c) (A11 m c) b p q R (by omega)]
  blk_ext [idx_val t]

/-- The kernel's run: it ends, its two results are the reference's terms of the arguments, the arguments stand. -/
theorem run (hfin : ∀ c, Finite m c) (ρ : Dev nD → PrngReg) : θ_run defs (onTc (τ := τ) (main (F := Ideal))) ⟨m, fun _ => 0, ρ⟩ fun r => ∀ c : Dev nD,
    r.2.mem ((c : Thread nD τ).loc main_v13_0) = val_main_v79 (F := Ideal) (A0 m c) (A1 m c) (A2 m c) (A3 m c) (A4 m c) (A5 m c) (A6 m c) (A7 m c) (A8 m c) (A9 m c) (A11 m c)
    ∧ r.2.mem ((c : Thread nD τ).loc main_v13_1) = val_main_v81 (F := Ideal) (A0 m c) (A1 m c) (A2 m c) (A3 m c) (A4 m c) (A5 m c) (A6 m c) (A7 m c) (A8 m c) (A9 m c) (A10 m c) (A11 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11) :=
  (θ_run defs _ _).mono (fun r h c => ⟨((h c).1 18).trans (final18 m c (hfin c)), ((h c).1 19).trans (final19 m c (hfin c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).1 8).trans (((dats m 0 c).arrAt_in 8 rfl _).trans ((A_eq m c 8).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩) (run_main m ρ)

end Cert.Out1Ideal.Value

end
-- ==== Proof.Out1Claims.lean ====
module

public import proofs.«01_k».proof.Defs
public import proofs.«01_k».proof.Proof.Gen.Out1
public import proofs.«01_k».proof.Proof.Out1Same
public import proofs.«01_k».proof.Proof.Out1Value
public import proofs.«01_k».proof.Proof.AttnClaims
public import proofs.«01_k».proof.Proof.Gen.Out1RefIdeal.Run
public import Idealize.ShloMosaic.Adequacy
public import Idealize.ShloMosaic.Init

@[expose] public section

set_option maxRecDepth 16384

noncomputable section

namespace Cert.Out1Claims

open Idealize.ShloMosaic Idealize.SL.Sem

instance pre_facts : Cert.Pre_finite_rows.Facts where
  slices_S2x4352x768_S2x4096x768_0_256_0 := by decide
  bcast_S_S2x4096x768 := by decide

/-- The program before idealizing is the same program: the frame is the idealized one's, at the bits. -/
theorem frame : Cert.quiescent_Out1 := fun m ρ _ => by
  rw [defs_eq, main_eq]
  exact Cert.Out1Ideal.Gen.frame (F := Bits) m ρ

theorem frame_ideal : Cert.quiescent_Out1Ideal := fun m ρ _ => Cert.Out1Ideal.Gen.frame m ρ

theorem frame_ideal_pre : Cert.quiescent_Out1Ideal_pre_finite_rows := fun m ρ _ => Cert.Out1Ideal.Gen.frame m ρ

theorem frame_ref : Cert.quiescent_Out1RefIdeal := fun m ρ _ =>
  (θ_run Cert.Out1RefIdeal.defs _ _).mono (fun r h => ⟨fun c => (h c).2.2, sem_eq_zero_of_no_sems (by decide) r.2⟩)
    (Cert.Out1RefIdeal.Value.run (F := Ideal) m ρ)

theorem frame_ref_pre : Cert.quiescent_Out1RefIdeal_pre_finite_rows := fun m ρ _ => frame_ref m ρ trivial

theorem preserves : Cert.preserves_Out1_Out1Ideal := trivial

/-- The rows past the context, read from the array: the precondition's slice at an index. -/
theorem sliced (a : FVec Ideal Cert.Pre_finite_rows.S2x4352x768 .f32) (b : Fin 2) (p : Fin 4096) (n : Fin 768) :
    extractStridedSlice Cert.Pre_finite_rows.S2x4096x768 ![0, 256, 0] a Cert.Pre_finite_rows.Facts.slices_S2x4352x768_S2x4096x768_0_256_0 (ix3 b p n) = a (ix3 b ⟨256 + p.val, by omega⟩ n) := by
  refine congrArg a (funext fun k => Fin.ext ?_)
  fin_cases k
  · exact Nat.zero_add _
  · rfl
  · exact Nat.zero_add _

theorem finite (m : (ℓ : Loc Cert.Out1Ideal.nD Cert.Out1Ideal.τ Cert.Out1Ideal.sig) → Buf (Elt Ideal) ℓ) (h : Cert.Pre_Out1Ideal_finite_rows m) (c : Dev Cert.Out1Ideal.nD) :
    Cert.Out1Ideal.Value.Finite m c :=
  ⟨fun b p n => by
      obtain ⟨y, hy⟩ := Cert.AttnClaims.real_of_lt _ (congrFun (h c).1 (ix3 b p n))
      exact ⟨y, (sliced _ b p n).symm.trans hy⟩,
    fun b p n => by
      obtain ⟨y, hy⟩ := Cert.AttnClaims.real_of_lt _ (congrFun (h c).2 (ix3 b p n))
      exact ⟨y, (sliced _ b p n).symm.trans hy⟩⟩

/-- Both programs end at the reference's terms of the arguments. -/
theorem algebraic : Cert.algebraic_Out1Ideal_Out1RefIdeal_pre_finite_rows := fun m ρ m' ρ' hpre hag =>
  ⟨fun c => Cert.Out1RefIdeal.Read.val_main_v79 (F := Ideal) (m' ((c.tc : Thread Cert.Out1RefIdeal.nD Cert.Out1RefIdeal.τ).loc Cert.Out1RefIdeal.main_arg0)) (m' ((c.tc : Thread Cert.Out1RefIdeal.nD Cert.Out1RefIdeal.τ).loc Cert.Out1RefIdeal.main_arg1)) (m' ((c.tc : Thread Cert.Out1RefIdeal.nD Cert.Out1RefIdeal.τ).loc Cert.Out1RefIdeal.main_arg2)) (m' ((c.tc : Thread Cert.Out1RefIdeal.nD Cert.Out1RefIdeal.τ).loc Cert.Out1RefIdeal.main_arg3)) (m' ((c.tc : Thread Cert.Out1RefIdeal.nD Cert.Out1RefIdeal.τ).loc Cert.Out1RefIdeal.main_arg4)) (m' ((c.tc : Thread Cert.Out1RefIdeal.nD Cert.Out1RefIdeal.τ).loc Cert.Out1RefIdeal.main_arg5)) (m' ((c.tc : Thread Cert.Out1RefIdeal.nD Cert.Out1RefIdeal.τ).loc Cert.Out1RefIdeal.main_arg6)) (m' ((c.tc : Thread Cert.Out1RefIdeal.nD Cert.Out1RefIdeal.τ).loc Cert.Out1RefIdeal.main_arg7)) (m' ((c.tc : Thread Cert.Out1RefIdeal.nD Cert.Out1RefIdeal.τ).loc Cert.Out1RefIdeal.main_arg8)) (m' ((c.tc : Thread Cert.Out1RefIdeal.nD Cert.Out1RefIdeal.τ).loc Cert.Out1RefIdeal.main_arg9)) (m' ((c.tc : Thread Cert.Out1RefIdeal.nD Cert.Out1RefIdeal.τ).loc Cert.Out1RefIdeal.main_arg11)),
    fun c => Cert.Out1RefIdeal.Read.val_main_v81 (F := Ideal) (m' ((c.tc : Thread Cert.Out1RefIdeal.nD Cert.Out1RefIdeal.τ).loc Cert.Out1RefIdeal.main_arg0)) (m' ((c.tc : Thread Cert.Out1RefIdeal.nD Cert.Out1RefIdeal.τ).loc Cert.Out1RefIdeal.main_arg1)) (m' ((c.tc : Thread Cert.Out1RefIdeal.nD Cert.Out1RefIdeal.τ).loc Cert.Out1RefIdeal.main_arg2)) (m' ((c.tc : Thread Cert.Out1RefIdeal.nD Cert.Out1RefIdeal.τ).loc Cert.Out1RefIdeal.main_arg3)) (m' ((c.tc : Thread Cert.Out1RefIdeal.nD Cert.Out1RefIdeal.τ).loc Cert.Out1RefIdeal.main_arg4)) (m' ((c.tc : Thread Cert.Out1RefIdeal.nD Cert.Out1RefIdeal.τ).loc Cert.Out1RefIdeal.main_arg5)) (m' ((c.tc : Thread Cert.Out1RefIdeal.nD Cert.Out1RefIdeal.τ).loc Cert.Out1RefIdeal.main_arg6)) (m' ((c.tc : Thread Cert.Out1RefIdeal.nD Cert.Out1RefIdeal.τ).loc Cert.Out1RefIdeal.main_arg7)) (m' ((c.tc : Thread Cert.Out1RefIdeal.nD Cert.Out1RefIdeal.τ).loc Cert.Out1RefIdeal.main_arg8)) (m' ((c.tc : Thread Cert.Out1RefIdeal.nD Cert.Out1RefIdeal.τ).loc Cert.Out1RefIdeal.main_arg9)) (m' ((c.tc : Thread Cert.Out1RefIdeal.nD Cert.Out1RefIdeal.τ).loc Cert.Out1RefIdeal.main_arg10)) (m' ((c.tc : Thread Cert.Out1RefIdeal.nD Cert.Out1RefIdeal.τ).loc Cert.Out1RefIdeal.main_arg11)),
    (θ_run Cert.Out1Ideal.defs _ _).mono (fun r h c => ⟨(h c).1.trans (by
          dsimp only
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.2]),
        (h c).2.1.trans (by
          dsimp only
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]),
        (h c).2.2⟩)
      (Cert.Out1Ideal.Value.run m (finite m hpre) ρ),
    (θ_run Cert.Out1RefIdeal.defs _ _).mono (fun r h c => ⟨(h c).1.trans (Cert.Out1RefIdeal.Read.val_main_v79_eq (F := Ideal) ..),
        (h c).2.1.trans (Cert.Out1RefIdeal.Read.val_main_v81_eq (F := Ideal) ..),
        (h c).2.2⟩)
      (Cert.Out1RefIdeal.Value.run (F := Ideal) m' ρ')⟩

end Cert.Out1Claims

end
-- ==== Proof.lean ====
module

public import proofs.«01_k».proof.Defs
public import proofs.«01_k».proof.Proof.AttnClaims
public import proofs.«01_k».proof.Proof.FfnClaims
public import proofs.«01_k».proof.Proof.Ffn0Claims
public import proofs.«01_k».proof.Proof.In0Claims
public import proofs.«01_k».proof.Proof.In1Claims
public import proofs.«01_k».proof.Proof.Out1Claims
public import Idealize.ShloMosaic.Adequacy
public import Idealize.ShloMosaic.Init

@[expose] public section

noncomputable section

namespace Cert.Proof

theorem claim : Cert.Claim := ⟨Cert.Attn.Gen.facts, Cert.AttnIdeal.Gen.facts, Cert.AttnRefIdeal.Gen.facts, Cert.Ffn.Gen.facts, Cert.FfnIdeal.Gen.facts,
  Cert.FfnRefIdeal.Gen.facts, Cert.Ffn0.Gen.facts, Cert.Ffn0Ideal.Gen.facts, Cert.Ffn0RefIdeal.Gen.facts,
  Cert.In0.Gen.facts, Cert.In0Ideal.Gen.facts, Cert.In0RefIdeal.Gen.facts, Cert.In1.Gen.facts, Cert.In1Ideal.Gen.facts, Cert.In1RefIdeal.Gen.facts,
  Cert.Out1.Gen.facts, Cert.Out1Ideal.Gen.facts, Cert.Out1RefIdeal.Gen.facts, Cert.AttnClaims.pre_facts, Cert.Out1Claims.pre_facts,
  Cert.AttnClaims.frame, Cert.AttnClaims.frame_ideal, Cert.AttnClaims.frame_ideal_pre, Cert.AttnClaims.frame_ref, Cert.AttnClaims.frame_ref_pre,
  Cert.FfnClaims.frame, Cert.FfnClaims.frame_ideal, Cert.FfnClaims.frame_ref,
  Cert.Ffn0Claims.frame, Cert.Ffn0Claims.frame_ideal, Cert.Ffn0Claims.frame_ref,
  Cert.In0Claims.frame, Cert.In0Claims.frame_ideal, Cert.In0Claims.frame_ref,
  Cert.In1Claims.frame, Cert.In1Claims.frame_ideal, Cert.In1Claims.frame_ref,
  Cert.Out1Claims.frame, Cert.Out1Claims.frame_ideal, Cert.Out1Claims.frame_ideal_pre, Cert.Out1Claims.frame_ref, Cert.Out1Claims.frame_ref_pre,
  Cert.AttnClaims.preserves, Cert.AttnClaims.algebraic, Cert.FfnClaims.preserves, Cert.FfnClaims.algebraic,
  Cert.Ffn0Claims.preserves, Cert.Ffn0Claims.algebraic, Cert.In0Claims.preserves, Cert.In0Claims.algebraic,
  Cert.In1Claims.preserves, Cert.In1Claims.algebraic, Cert.Out1Claims.preserves, Cert.Out1Claims.algebraic⟩

end Cert.Proof

end
